-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_score_inputs_KernelIdeal [hPre_finite_score_inputs_KernelIdeal : Cert.Pre_finite_score_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_score_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_score_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_score_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_score_inputs_ReferenceIdeal [hPre_finite_score_inputs_ReferenceIdeal : Cert.Pre_finite_score_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_score_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_score_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_score_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_score_inputs_KernelIdeal [hKernelIdeal : Cert.KernelIdeal.Facts] [hPre_finite_score_inputs_KernelIdeal : Cert.Pre_finite_score_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_score_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_score_inputs_ReferenceIdeal [hReferenceIdeal : Cert.ReferenceIdeal.Facts] [hPre_finite_score_inputs_ReferenceIdeal : Cert.Pre_finite_score_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_score_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_score_inputs_KernelIdeal [hKernelIdeal : Cert.KernelIdeal.Facts] [hReferenceIdeal : Cert.ReferenceIdeal.Facts] [hPre_finite_score_inputs_KernelIdeal : Cert.Pre_finite_score_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_score_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_score_inputs_KernelIdeal : Cert.Pre_finite_score_inputs_KernelIdeal.Facts) (hPre_finite_score_inputs_ReferenceIdeal : Cert.Pre_finite_score_inputs_ReferenceIdeal.Facts),
    quiescent_Kernel (hKernel := hKernel)
    ∧ quiescent_KernelIdeal (hKernelIdeal := hKernelIdeal)
    ∧ quiescent_KernelIdeal_pre_finite_score_inputs_KernelIdeal (hKernelIdeal := hKernelIdeal) (hPre_finite_score_inputs_KernelIdeal := hPre_finite_score_inputs_KernelIdeal)
    ∧ quiescent_ReferenceIdeal (hReferenceIdeal := hReferenceIdeal)
    ∧ quiescent_ReferenceIdeal_pre_finite_score_inputs_ReferenceIdeal (hReferenceIdeal := hReferenceIdeal) (hPre_finite_score_inputs_ReferenceIdeal := hPre_finite_score_inputs_ReferenceIdeal)
    ∧ preserves_Kernel_KernelIdeal
    ∧ algebraic_KernelIdeal_ReferenceIdeal_pre_finite_score_inputs_KernelIdeal (hKernelIdeal := hKernelIdeal) (hReferenceIdeal := hReferenceIdeal) (hPre_finite_score_inputs_KernelIdeal := hPre_finite_score_inputs_KernelIdeal)
-- ==== Pre_finite_score_inputs_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S2x512x768 1 × IVec S768x512 1 × IVec S2x512x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_finite_score_inputs_ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x4096x8x64 : S_.BroadcastsInDim S2x4096x8x64 (![] : Fin 0 → Fin S2x4096x8x64.rank)

variable [Facts]

def fn {F : FTy → Type} [FloatOps F] (main_arg0 : FVec F S2x512x768 .f32) (main_arg1 : FVec F S768x512 .f32) (main_arg2 : FVec F S2x4096x8x64 .f32) (main_arg3 : FVec F S2x4096x8x64 .f32) (main_arg4 : FVec F S512x768 .f32) : IVec S2x512x768 1 × IVec S768x512 1 × IVec S2x4096x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x4096x8x64 .f32 := Host.absf main_arg2
  let main_cst_1 : FVec F S_ .f32 := constant S_ .f32 0x7F800000#32
  let main_v7 : FVec F S2x4096x8x64 .f32 := broadcastInDim S2x4096x8x64 ![] bcast_S_S2x4096x8x64 main_cst_1
  let main_v8 : IVec S2x4096x8x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x512x256 : Shape := ⟨3, ![2, 512, 256]⟩
abbrev S512x16 : Shape := ⟨2, ![512, 16]⟩
abbrev S7x2x64x256 : Shape := ⟨4, ![7, 2, 64, 256]⟩
abbrev S7x64x16 : Shape := ⟨3, ![7, 64, 16]⟩
abbrev S2x512x512 : Shape := ⟨3, ![2, 512, 512]⟩
abbrev S2x7 : Shape := ⟨2, ![2, 7]⟩
abbrev S_ : Shape := ⟨0, ![]⟩
abbrev S512x512 : Shape := ⟨2, ![512, 512]⟩
abbrev S1x512x768 : Shape := ⟨3, ![1, 512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1x1 : Shape := ⟨2, ![1, 1]⟩
abbrev S1x2x64x256 : Shape := ⟨4, ![1, 2, 64, 256]⟩
abbrev S2x64x256 : Shape := ⟨3, ![2, 64, 256]⟩
abbrev S1x64x16 : Shape := ⟨3, ![1, 64, 16]⟩
abbrev S64x16 : Shape := ⟨2, ![64, 16]⟩
abbrev S1x64x256 : Shape := ⟨3, ![1, 64, 256]⟩
abbrev S64x256 : Shape := ⟨2, ![64, 256]⟩
abbrev S1x1x64x256 : Shape := ⟨4, ![1, 1, 64, 256]⟩
abbrev S64x4 : Shape := ⟨2, ![64, 4]⟩
abbrev S64x1 : Shape := ⟨2, ![64, 1]⟩
abbrev S64x64 : Shape := ⟨2, ![64, 64]⟩
abbrev S64x512 : Shape := ⟨2, ![64, 512]⟩
abbrev S64x768 : Shape := ⟨2, ![64, 768]⟩
abbrev S1x64x768 : Shape := ⟨3, ![1, 64, 768]⟩
abbrev S1x64x512 : Shape := ⟨3, ![1, 64, 512]⟩

abbrev nBuf : Space → Nat
  | .hbm => 6
  | .vmem => 15
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S2x512x256, .bf16⟩
  | .local _ .vmem, ⟨7, _⟩ => ⟨S2x512x256, .bf16⟩
  | .local _ .vmem, ⟨8, _⟩ => ⟨S512x16, .bf16⟩
  | .local _ .vmem, ⟨9, _⟩ => ⟨S512x16, .bf16⟩
  | .local _ .vmem, ⟨10, _⟩ => ⟨S7x2x64x256, .bf16⟩
  | .local _ .vmem, ⟨11, _⟩ => ⟨S7x2x64x256, .bf16⟩
  | .local _ .vmem, ⟨12, _⟩ => ⟨S7x64x16, .bf16⟩
  | .local _ .vmem, ⟨13, _⟩ => ⟨S7x64x16, .bf16⟩
  | .local _ .vmem, ⟨14, _⟩ => ⟨S2x512x512, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  (ofTc nBuf bufTy 1 90 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_177 : BitVec 32) : Fin 3 → Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v278 : BitVec 32 := Scalar.addi v2 c1_i32_177
  let c8_i32_178 : BitVec 32 := 8#32
  let v279 : BitVec 32 := Scalar.remsi v278 c8_i32_178
  let c64_i32_179 : BitVec 32 := 64#32
  let v280 : BitVec 32 := Scalar.muli v279 c64_i32_179
  let c0_i32_192 : BitVec 32 := 0#32
  ![0, v280.toNat, 0]
def k0_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_177 : BitVec 32 := 1#32
  let v278 : BitVec 32 := Scalar.addi v2 c1_i32_177
  let c8_i32_178 : BitVec 32 := 8#32
  let v279 : BitVec 32 := Scalar.remsi v278 c8_i32_178
  let c1_i32_186 : BitVec 32 := 1#32
  let v282 : BitVec 32 := Scalar.muli v279 c1_i32_186
  let v283 : BitVec 32 := Scalar.addi c0_i32_187 v282
  v283.toNat
def k0_off2 (d0 : Dev nD) (c1_i32_177 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v278 : BitVec 32 := Scalar.addi v2 c1_i32_177
  let c8_i32_178 : BitVec 32 := 8#32
  let v279 : BitVec 32 := Scalar.remsi v278 c8_i32_178
  let c64_i32_180 : BitVec 32 := 64#32
  let v281 : BitVec 32 := Scalar.muli v279 c64_i32_180
  let c0_i32_202 : BitVec 32 := 0#32
  ![v281.toNat, 0]
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_177 : BitVec 32 := 1#32
  let v278 : BitVec 32 := Scalar.addi v2 c1_i32_177
  let c8_i32_178 : BitVec 32 := 8#32
  let v279 : BitVec 32 := Scalar.remsi v278 c8_i32_178
  let c1_i32_198 : BitVec 32 := 1#32
  let v291 : BitVec 32 := Scalar.muli v279 c1_i32_198
  let v292 : BitVec 32 := Scalar.addi c0_i32_199 v291
  v292.toNat
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_203 : BitVec 32 := 2#32
  let v300 : BitVec 32 := Scalar.addi v2 c2_i32_203
  let c8_i32_204 : BitVec 32 := 8#32
  let v301 : BitVec 32 := Scalar.remsi v300 c8_i32_204
  let c1_i32_212 : BitVec 32 := 1#32
  let v304 : BitVec 32 := Scalar.muli v301 c1_i32_212
  let v305 : BitVec 32 := Scalar.addi c0_i32_213 v304
  v305.toNat
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_203 : BitVec 32 := 2#32
  let v300 : BitVec 32 := Scalar.addi v2 c2_i32_203
  let c8_i32_204 : BitVec 32 := 8#32
  let v301 : BitVec 32 := Scalar.remsi v300 c8_i32_204
  let c1_i32_224 : BitVec 32 := 1#32
  let v313 : BitVec 32 := Scalar.muli v301 c1_i32_224
  let v314 : BitVec 32 := Scalar.addi c0_i32_225 v313
  v314.toNat
def k0_dev12 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_229 : BitVec 32 := 3#32
  let v322 : BitVec 32 := Scalar.addi v2 c3_i32_229
  let c8_i32_230 : BitVec 32 := 8#32
  let v323 : BitVec 32 := Scalar.remsi v322 c8_i32_230
  let c1_i32_238 : BitVec 32 := 1#32
  let v326 : BitVec 32 := Scalar.muli v323 c1_i32_238
  let v327 : BitVec 32 := Scalar.addi c0_i32_239 v326
  v327.toNat
def k0_dev13 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_229 : BitVec 32 := 3#32
  let v322 : BitVec 32 := Scalar.addi v2 c3_i32_229
  let c8_i32_230 : BitVec 32 := 8#32
  let v323 : BitVec 32 := Scalar.remsi v322 c8_i32_230
  let c1_i32_250 : BitVec 32 := 1#32
  let v335 : BitVec 32 := Scalar.muli v323 c1_i32_250
  let v336 : BitVec 32 := Scalar.addi c0_i32_251 v335
  v336.toNat
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_255 : BitVec 32 := 4#32
  let v344 : BitVec 32 := Scalar.addi v2 c4_i32_255
  let c8_i32_256 : BitVec 32 := 8#32
  let v345 : BitVec 32 := Scalar.remsi v344 c8_i32_256
  let c1_i32_264 : BitVec 32 := 1#32
  let v348 : BitVec 32 := Scalar.muli v345 c1_i32_264
  let v349 : BitVec 32 := Scalar.addi c0_i32_265 v348
  v349.toNat
def k0_dev15 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_255 : BitVec 32 := 4#32
  let v344 : BitVec 32 := Scalar.addi v2 c4_i32_255
  let c8_i32_256 : BitVec 32 := 8#32
  let v345 : BitVec 32 := Scalar.remsi v344 c8_i32_256
  let c1_i32_276 : BitVec 32 := 1#32
  let v357 : BitVec 32 := Scalar.muli v345 c1_i32_276
  let v358 : BitVec 32 := Scalar.addi c0_i32_277 v357
  v358.toNat
def k0_dev16 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_281 : BitVec 32 := 5#32
  let v366 : BitVec 32 := Scalar.addi v2 c5_i32_281
  let c8_i32_282 : BitVec 32 := 8#32
  let v367 : BitVec 32 := Scalar.remsi v366 c8_i32_282
  let c1_i32_290 : BitVec 32 := 1#32
  let v370 : BitVec 32 := Scalar.muli v367 c1_i32_290
  let v371 : BitVec 32 := Scalar.addi c0_i32_291 v370
  v371.toNat
def k0_dev17 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_281 : BitVec 32 := 5#32
  let v366 : BitVec 32 := Scalar.addi v2 c5_i32_281
  let c8_i32_282 : BitVec 32 := 8#32
  let v367 : BitVec 32 := Scalar.remsi v366 c8_i32_282
  let c1_i32_302 : BitVec 32 := 1#32
  let v379 : BitVec 32 := Scalar.muli v367 c1_i32_302
  let v380 : BitVec 32 := Scalar.addi c0_i32_303 v379
  v380.toNat
def k0_dev18 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_307 : BitVec 32 := 6#32
  let v388 : BitVec 32 := Scalar.addi v2 c6_i32_307
  let c8_i32_308 : BitVec 32 := 8#32
  let v389 : BitVec 32 := Scalar.remsi v388 c8_i32_308
  let c1_i32_316 : BitVec 32 := 1#32
  let v392 : BitVec 32 := Scalar.muli v389 c1_i32_316
  let v393 : BitVec 32 := Scalar.addi c0_i32_317 v392
  v393.toNat
def k0_dev19 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_307 : BitVec 32 := 6#32
  let v388 : BitVec 32 := Scalar.addi v2 c6_i32_307
  let c8_i32_308 : BitVec 32 := 8#32
  let v389 : BitVec 32 := Scalar.remsi v388 c8_i32_308
  let c1_i32_328 : BitVec 32 := 1#32
  let v401 : BitVec 32 := Scalar.muli v389 c1_i32_328
  let v402 : BitVec 32 := Scalar.addi c0_i32_329 v401
  v402.toNat
def k0_dev20 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_333 : BitVec 32 := 7#32
  let v410 : BitVec 32 := Scalar.addi v2 c7_i32_333
  let c8_i32_334 : BitVec 32 := 8#32
  let v411 : BitVec 32 := Scalar.remsi v410 c8_i32_334
  let c1_i32_342 : BitVec 32 := 1#32
  let v414 : BitVec 32 := Scalar.muli v411 c1_i32_342
  let v415 : BitVec 32 := Scalar.addi c0_i32_343 v414
  v415.toNat
def k0_dev21 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_333 : BitVec 32 := 7#32
  let v410 : BitVec 32 := Scalar.addi v2 c7_i32_333
  let c8_i32_334 : BitVec 32 := 8#32
  let v411 : BitVec 32 := Scalar.remsi v410 c8_i32_334
  let c1_i32_354 : BitVec 32 := 1#32
  let v423 : BitVec 32 := Scalar.muli v411 c1_i32_354
  let v424 : BitVec 32 := Scalar.addi c0_i32_355 v423
  v424.toNat
def k0_dev22 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_475 : BitVec 32 := 1#32
  let v591 : BitVec 32 := Scalar.addi v2 c1_i32_475
  let c8_i32_476 : BitVec 32 := 8#32
  let v592 : BitVec 32 := Scalar.remsi v591 c8_i32_476
  let c1_i32_484 : BitVec 32 := 1#32
  let v595 : BitVec 32 := Scalar.muli v592 c1_i32_484
  let v596 : BitVec 32 := Scalar.addi c0_i32_485 v595
  v596.toNat
def k0_dev23 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_475 : BitVec 32 := 1#32
  let v591 : BitVec 32 := Scalar.addi v2 c1_i32_475
  let c8_i32_476 : BitVec 32 := 8#32
  let v592 : BitVec 32 := Scalar.remsi v591 c8_i32_476
  let c1_i32_496 : BitVec 32 := 1#32
  let v604 : BitVec 32 := Scalar.muli v592 c1_i32_496
  let v605 : BitVec 32 := Scalar.addi c0_i32_497 v604
  v605.toNat
def k0_dev24 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_501 : BitVec 32 := 2#32
  let v613 : BitVec 32 := Scalar.addi v2 c2_i32_501
  let c8_i32_502 : BitVec 32 := 8#32
  let v614 : BitVec 32 := Scalar.remsi v613 c8_i32_502
  let c1_i32_510 : BitVec 32 := 1#32
  let v617 : BitVec 32 := Scalar.muli v614 c1_i32_510
  let v618 : BitVec 32 := Scalar.addi c0_i32_511 v617
  v618.toNat
def k0_dev25 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_501 : BitVec 32 := 2#32
  let v613 : BitVec 32 := Scalar.addi v2 c2_i32_501
  let c8_i32_502 : BitVec 32 := 8#32
  let v614 : BitVec 32 := Scalar.remsi v613 c8_i32_502
  let c1_i32_522 : BitVec 32 := 1#32
  let v626 : BitVec 32 := Scalar.muli v614 c1_i32_522
  let v627 : BitVec 32 := Scalar.addi c0_i32_523 v626
  v627.toNat
def k0_dev26 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_527 : BitVec 32 := 3#32
  let v635 : BitVec 32 := Scalar.addi v2 c3_i32_527
  let c8_i32_528 : BitVec 32 := 8#32
  let v636 : BitVec 32 := Scalar.remsi v635 c8_i32_528
  let c1_i32_536 : BitVec 32 := 1#32
  let v639 : BitVec 32 := Scalar.muli v636 c1_i32_536
  let v640 : BitVec 32 := Scalar.addi c0_i32_537 v639
  v640.toNat
def k0_dev27 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_527 : BitVec 32 := 3#32
  let v635 : BitVec 32 := Scalar.addi v2 c3_i32_527
  let c8_i32_528 : BitVec 32 := 8#32
  let v636 : BitVec 32 := Scalar.remsi v635 c8_i32_528
  let c1_i32_548 : BitVec 32 := 1#32
  let v648 : BitVec 32 := Scalar.muli v636 c1_i32_548
  let v649 : BitVec 32 := Scalar.addi c0_i32_549 v648
  v649.toNat
def k0_dev28 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_553 : BitVec 32 := 4#32
  let v657 : BitVec 32 := Scalar.addi v2 c4_i32_553
  let c8_i32_554 : BitVec 32 := 8#32
  let v658 : BitVec 32 := Scalar.remsi v657 c8_i32_554
  let c1_i32_562 : BitVec 32 := 1#32
  let v661 : BitVec 32 := Scalar.muli v658 c1_i32_562
  let v662 : BitVec 32 := Scalar.addi c0_i32_563 v661
  v662.toNat
def k0_dev29 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_553 : BitVec 32 := 4#32
  let v657 : BitVec 32 := Scalar.addi v2 c4_i32_553
  let c8_i32_554 : BitVec 32 := 8#32
  let v658 : BitVec 32 := Scalar.remsi v657 c8_i32_554
  let c1_i32_574 : BitVec 32 := 1#32
  let v670 : BitVec 32 := Scalar.muli v658 c1_i32_574
  let v671 : BitVec 32 := Scalar.addi c0_i32_575 v670
  v671.toNat
def k0_dev30 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_579 : BitVec 32 := 5#32
  let v679 : BitVec 32 := Scalar.addi v2 c5_i32_579
  let c8_i32_580 : BitVec 32 := 8#32
  let v680 : BitVec 32 := Scalar.remsi v679 c8_i32_580
  let c1_i32_588 : BitVec 32 := 1#32
  let v683 : BitVec 32 := Scalar.muli v680 c1_i32_588
  let v684 : BitVec 32 := Scalar.addi c0_i32_589 v683
  v684.toNat
def k0_dev31 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_579 : BitVec 32 := 5#32
  let v679 : BitVec 32 := Scalar.addi v2 c5_i32_579
  let c8_i32_580 : BitVec 32 := 8#32
  let v680 : BitVec 32 := Scalar.remsi v679 c8_i32_580
  let c1_i32_600 : BitVec 32 := 1#32
  let v692 : BitVec 32 := Scalar.muli v680 c1_i32_600
  let v693 : BitVec 32 := Scalar.addi c0_i32_601 v692
  v693.toNat
def k0_dev32 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_605 : BitVec 32 := 6#32
  let v701 : BitVec 32 := Scalar.addi v2 c6_i32_605
  let c8_i32_606 : BitVec 32 := 8#32
  let v702 : BitVec 32 := Scalar.remsi v701 c8_i32_606
  let c1_i32_614 : BitVec 32 := 1#32
  let v705 : BitVec 32 := Scalar.muli v702 c1_i32_614
  let v706 : BitVec 32 := Scalar.addi c0_i32_615 v705
  v706.toNat
def k0_dev33 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_605 : BitVec 32 := 6#32
  let v701 : BitVec 32 := Scalar.addi v2 c6_i32_605
  let c8_i32_606 : BitVec 32 := 8#32
  let v702 : BitVec 32 := Scalar.remsi v701 c8_i32_606
  let c1_i32_626 : BitVec 32 := 1#32
  let v714 : BitVec 32 := Scalar.muli v702 c1_i32_626
  let v715 : BitVec 32 := Scalar.addi c0_i32_627 v714
  v715.toNat
def k0_dev34 (d0 : Dev nD) : Nat :=
  let c0_i32_641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_631 : BitVec 32 := 7#32
  let v723 : BitVec 32 := Scalar.addi v2 c7_i32_631
  let c8_i32_632 : BitVec 32 := 8#32
  let v724 : BitVec 32 := Scalar.remsi v723 c8_i32_632
  let c1_i32_640 : BitVec 32 := 1#32
  let v727 : BitVec 32 := Scalar.muli v724 c1_i32_640
  let v728 : BitVec 32 := Scalar.addi c0_i32_641 v727
  v728.toNat
def k0_dev35 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_631 : BitVec 32 := 7#32
  let v723 : BitVec 32 := Scalar.addi v2 c7_i32_631
  let c8_i32_632 : BitVec 32 := 8#32
  let v724 : BitVec 32 := Scalar.remsi v723 c8_i32_632
  let c1_i32_652 : BitVec 32 := 1#32
  let v736 : BitVec 32 := Scalar.muli v724 c1_i32_652
  let v737 : BitVec 32 := Scalar.addi c0_i32_653 v736
  v737.toNat
def k0_off3 (d0 : Dev nD) : Fin 3 → Nat :=
  let c0_658 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_657 : BitVec 32 := 64#32
  let v745 : BitVec 32 := Scalar.muli v2 c64_i32_657
  let v746 : Index := Scalar.indexCast v745
  let c0_659 : Index := 0#32
  ![0, v746.toNat, 0]
def k0_off4 (d0 : Dev nD) : Fin 3 → Nat :=
  let c1_661 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_660 : BitVec 32 := 64#32
  let v750 : BitVec 32 := Scalar.muli v2 c64_i32_660
  let v751 : Index := Scalar.indexCast v750
  let c0_662 : Index := 0#32
  ![1, v751.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_663 : BitVec 32 := 64#32
  let v755 : BitVec 32 := Scalar.muli v2 c64_i32_663
  let v756 : Index := Scalar.indexCast v755
  let c0_664 : Index := 0#32
  ![v756.toNat, 0]
def k0_off6 (d0 : Dev nD) : Fin 3 → Nat :=
  let c0_1037 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1036 : BitVec 32 := 64#32
  let v1587 : BitVec 32 := Scalar.muli v2 c64_i32_1036
  let v1588 : Index := Scalar.indexCast v1587
  let c0_1038 : Index := 0#32
  ![0, v1588.toNat, 0]
def k0_off7 (d0 : Dev nD) : Fin 3 → Nat :=
  let c1_1040 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1039 : BitVec 32 := 64#32
  let v1608 : BitVec 32 := Scalar.muli v2 c64_i32_1039
  let v1609 : Index := Scalar.indexCast v1608
  let c0_1041 : Index := 0#32
  ![1, v1609.toNat, 0]
def k0_off8 (d0 : Dev nD) : Fin 3 → Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1045 : BitVec 32 := 64#32
  let v1616 : BitVec 32 := Scalar.muli v2 c64_i32_1045
  let c0_i32_1053 : BitVec 32 := 0#32
  ![0, v1616.toNat, 0]
def k0_dev36 (d0 : Dev nD) : Nat :=
  let c0_i32_1051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1042 : BitVec 32 := 1#32
  let v1613 : BitVec 32 := Scalar.addi v2 c1_i32_1042
  let c8_i32_1043 : BitVec 32 := 8#32
  let v1614 : BitVec 32 := Scalar.remsi v1613 c8_i32_1043
  let c1_i32_1050 : BitVec 32 := 1#32
  let v1617 : BitVec 32 := Scalar.muli v1614 c1_i32_1050
  let v1618 : BitVec 32 := Scalar.addi c0_i32_1051 v1617
  v1618.toNat
def k0_dev37 (d0 : Dev nD) : Nat :=
  let c0_i32_1065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1056 : BitVec 32 := 2#32
  let v1625 : BitVec 32 := Scalar.addi v2 c2_i32_1056
  let c8_i32_1057 : BitVec 32 := 8#32
  let v1626 : BitVec 32 := Scalar.remsi v1625 c8_i32_1057
  let c1_i32_1064 : BitVec 32 := 1#32
  let v1629 : BitVec 32 := Scalar.muli v1626 c1_i32_1064
  let v1630 : BitVec 32 := Scalar.addi c0_i32_1065 v1629
  v1630.toNat
def k0_dev38 (d0 : Dev nD) : Nat :=
  let c0_i32_1079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1070 : BitVec 32 := 3#32
  let v1637 : BitVec 32 := Scalar.addi v2 c3_i32_1070
  let c8_i32_1071 : BitVec 32 := 8#32
  let v1638 : BitVec 32 := Scalar.remsi v1637 c8_i32_1071
  let c1_i32_1078 : BitVec 32 := 1#32
  let v1641 : BitVec 32 := Scalar.muli v1638 c1_i32_1078
  let v1642 : BitVec 32 := Scalar.addi c0_i32_1079 v1641
  v1642.toNat
def k0_dev39 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1084 : BitVec 32 := 4#32
  let v1649 : BitVec 32 := Scalar.addi v2 c4_i32_1084
  let c8_i32_1085 : BitVec 32 := 8#32
  let v1650 : BitVec 32 := Scalar.remsi v1649 c8_i32_1085
  let c1_i32_1092 : BitVec 32 := 1#32
  let v1653 : BitVec 32 := Scalar.muli v1650 c1_i32_1092
  let v1654 : BitVec 32 := Scalar.addi c0_i32_1093 v1653
  v1654.toNat
def k0_dev40 (d0 : Dev nD) : Nat :=
  let c0_i32_1107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1098 : BitVec 32 := 5#32
  let v1661 : BitVec 32 := Scalar.addi v2 c5_i32_1098
  let c8_i32_1099 : BitVec 32 := 8#32
  let v1662 : BitVec 32 := Scalar.remsi v1661 c8_i32_1099
  let c1_i32_1106 : BitVec 32 := 1#32
  let v1665 : BitVec 32 := Scalar.muli v1662 c1_i32_1106
  let v1666 : BitVec 32 := Scalar.addi c0_i32_1107 v1665
  v1666.toNat
def k0_dev41 (d0 : Dev nD) : Nat :=
  let c0_i32_1121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1112 : BitVec 32 := 6#32
  let v1673 : BitVec 32 := Scalar.addi v2 c6_i32_1112
  let c8_i32_1113 : BitVec 32 := 8#32
  let v1674 : BitVec 32 := Scalar.remsi v1673 c8_i32_1113
  let c1_i32_1120 : BitVec 32 := 1#32
  let v1677 : BitVec 32 := Scalar.muli v1674 c1_i32_1120
  let v1678 : BitVec 32 := Scalar.addi c0_i32_1121 v1677
  v1678.toNat
def k0_dev42 (d0 : Dev nD) : Nat :=
  let c0_i32_1135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1126 : BitVec 32 := 7#32
  let v1685 : BitVec 32 := Scalar.addi v2 c7_i32_1126
  let c8_i32_1127 : BitVec 32 := 8#32
  let v1686 : BitVec 32 := Scalar.remsi v1685 c8_i32_1127
  let c1_i32_1134 : BitVec 32 := 1#32
  let v1689 : BitVec 32 := Scalar.muli v1686 c1_i32_1134
  let v1690 : BitVec 32 := Scalar.addi c0_i32_1135 v1689
  v1690.toNat
def k0_off9 (d0 : Dev nD) : Fin 3 → Nat :=
  let c0_1520 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1519 : BitVec 32 := 64#32
  let v2539 : BitVec 32 := Scalar.muli v2 c64_i32_1519
  let v2540 : Index := Scalar.indexCast v2539
  let c256 : Index := 256#32
  ![0, v2540.toNat, 256]
def k0_off10 (d0 : Dev nD) : Fin 3 → Nat :=
  let c1_1522 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1521 : BitVec 32 := 64#32
  let v2560 : BitVec 32 := Scalar.muli v2 c64_i32_1521
  let v2561 : Index := Scalar.indexCast v2560
  let c256_1523 : Index := 256#32
  ![1, v2561.toNat, 256]
def k0_off11 (d0 : Dev nD) : Fin 3 → Nat :=
  let c0_i32_1534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1527 : BitVec 32 := 64#32
  let v2568 : BitVec 32 := Scalar.muli v2 c64_i32_1527
  let c256_i32 : BitVec 32 := 256#32
  ![0, v2568.toNat, 256]
def k0_dev43 (d0 : Dev nD) : Nat :=
  let c0_i32_1533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1524 : BitVec 32 := 1#32
  let v2565 : BitVec 32 := Scalar.addi v2 c1_i32_1524
  let c8_i32_1525 : BitVec 32 := 8#32
  let v2566 : BitVec 32 := Scalar.remsi v2565 c8_i32_1525
  let c1_i32_1532 : BitVec 32 := 1#32
  let v2569 : BitVec 32 := Scalar.muli v2566 c1_i32_1532
  let v2570 : BitVec 32 := Scalar.addi c0_i32_1533 v2569
  v2570.toNat
def k0_dev44 (d0 : Dev nD) : Nat :=
  let c0_i32_1546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1537 : BitVec 32 := 2#32
  let v2577 : BitVec 32 := Scalar.addi v2 c2_i32_1537
  let c8_i32_1538 : BitVec 32 := 8#32
  let v2578 : BitVec 32 := Scalar.remsi v2577 c8_i32_1538
  let c1_i32_1545 : BitVec 32 := 1#32
  let v2581 : BitVec 32 := Scalar.muli v2578 c1_i32_1545
  let v2582 : BitVec 32 := Scalar.addi c0_i32_1546 v2581
  v2582.toNat
def k0_dev45 (d0 : Dev nD) : Nat :=
  let c0_i32_1560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1551 : BitVec 32 := 3#32
  let v2589 : BitVec 32 := Scalar.addi v2 c3_i32_1551
  let c8_i32_1552 : BitVec 32 := 8#32
  let v2590 : BitVec 32 := Scalar.remsi v2589 c8_i32_1552
  let c1_i32_1559 : BitVec 32 := 1#32
  let v2593 : BitVec 32 := Scalar.muli v2590 c1_i32_1559
  let v2594 : BitVec 32 := Scalar.addi c0_i32_1560 v2593
  v2594.toNat
def k0_dev46 (d0 : Dev nD) : Nat :=
  let c0_i32_1574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1565 : BitVec 32 := 4#32
  let v2601 : BitVec 32 := Scalar.addi v2 c4_i32_1565
  let c8_i32_1566 : BitVec 32 := 8#32
  let v2602 : BitVec 32 := Scalar.remsi v2601 c8_i32_1566
  let c1_i32_1573 : BitVec 32 := 1#32
  let v2605 : BitVec 32 := Scalar.muli v2602 c1_i32_1573
  let v2606 : BitVec 32 := Scalar.addi c0_i32_1574 v2605
  v2606.toNat
def k0_dev47 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1579 : BitVec 32 := 5#32
  let v2613 : BitVec 32 := Scalar.addi v2 c5_i32_1579
  let c8_i32_1580 : BitVec 32 := 8#32
  let v2614 : BitVec 32 := Scalar.remsi v2613 c8_i32_1580
  let c1_i32_1587 : BitVec 32 := 1#32
  let v2617 : BitVec 32 := Scalar.muli v2614 c1_i32_1587
  let v2618 : BitVec 32 := Scalar.addi c0_i32_1588 v2617
  v2618.toNat
def k0_dev48 (d0 : Dev nD) : Nat :=
  let c0_i32_1602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1593 : BitVec 32 := 6#32
  let v2625 : BitVec 32 := Scalar.addi v2 c6_i32_1593
  let c8_i32_1594 : BitVec 32 := 8#32
  let v2626 : BitVec 32 := Scalar.remsi v2625 c8_i32_1594
  let c1_i32_1601 : BitVec 32 := 1#32
  let v2629 : BitVec 32 := Scalar.muli v2626 c1_i32_1601
  let v2630 : BitVec 32 := Scalar.addi c0_i32_1602 v2629
  v2630.toNat
def k0_dev49 (d0 : Dev nD) : Nat :=
  let c0_i32_1616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1607 : BitVec 32 := 7#32
  let v2637 : BitVec 32 := Scalar.addi v2 c7_i32_1607
  let c8_i32_1608 : BitVec 32 := 8#32
  let v2638 : BitVec 32 := Scalar.remsi v2637 c8_i32_1608
  let c1_i32_1615 : BitVec 32 := 1#32
  let v2641 : BitVec 32 := Scalar.muli v2638 c1_i32_1615
  let v2642 : BitVec 32 := Scalar.addi c0_i32_1616 v2641
  v2642.toNat
def k0_off12 (d0 : Dev nD) : Fin 3 → Nat :=
  let c0_1625 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1624 : BitVec 32 := 64#32
  let v2655 : BitVec 32 := Scalar.muli v2 c64_i32_1624
  let v2656 : Index := Scalar.indexCast v2655
  let c0_1626 : Index := 0#32
  ![0, v2656.toNat, 0]
def k0_off13 (d0 : Dev nD) : Fin 3 → Nat :=
  let c1_1629 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1628 : BitVec 32 := 64#32
  let v2663 : BitVec 32 := Scalar.muli v2 c64_i32_1628
  let v2664 : Index := Scalar.indexCast v2663
  let c0_1630 : Index := 0#32
  ![1, v2664.toNat, 0]
def k0_off14 (d0 : Dev nD) (c1_i32_1669 : BitVec 32) : Fin 3 → Nat :=
  let c0_1673 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2688 : BitVec 32 := Scalar.subi v2 c1_i32_1669
  let c8_i32_1670 : BitVec 32 := 8#32
  let v2689 : BitVec 32 := Scalar.addi v2688 c8_i32_1670
  let c8_i32_1671 : BitVec 32 := 8#32
  let v2690 : BitVec 32 := Scalar.remsi v2689 c8_i32_1671
  let c64_i32_1672 : BitVec 32 := 64#32
  let v2691 : BitVec 32 := Scalar.muli v2690 c64_i32_1672
  let v2692 : Index := Scalar.indexCast v2691
  let c0_1674 : Index := 0#32
  ![0, v2692.toNat, 0]
def k0_off15 (d0 : Dev nD) (c1_i32_1669 : BitVec 32) : Fin 3 → Nat :=
  let c0_1677 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2688 : BitVec 32 := Scalar.subi v2 c1_i32_1669
  let c8_i32_1670 : BitVec 32 := 8#32
  let v2689 : BitVec 32 := Scalar.addi v2688 c8_i32_1670
  let c8_i32_1671 : BitVec 32 := 8#32
  let v2690 : BitVec 32 := Scalar.remsi v2689 c8_i32_1671
  let c64_i32_1676 : BitVec 32 := 64#32
  let v2696 : BitVec 32 := Scalar.muli v2690 c64_i32_1676
  let v2697 : Index := Scalar.indexCast v2696
  let c0_1678 : Index := 0#32
  ![0, v2697.toNat, 0]
def k0_off16 (d0 : Dev nD) (c1_i32_1669 : BitVec 32) : Fin 3 → Nat :=
  let c1_1680 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2688 : BitVec 32 := Scalar.subi v2 c1_i32_1669
  let c8_i32_1670 : BitVec 32 := 8#32
  let v2689 : BitVec 32 := Scalar.addi v2688 c8_i32_1670
  let c8_i32_1671 : BitVec 32 := 8#32
  let v2690 : BitVec 32 := Scalar.remsi v2689 c8_i32_1671
  let c64_i32_1679 : BitVec 32 := 64#32
  let v2701 : BitVec 32 := Scalar.muli v2690 c64_i32_1679
  let v2702 : Index := Scalar.indexCast v2701
  let c0_1681 : Index := 0#32
  ![1, v2702.toNat, 0]
def k0_off17 (d0 : Dev nD) (c1_i32_1669 : BitVec 32) : Fin 3 → Nat :=
  let c1_1684 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2688 : BitVec 32 := Scalar.subi v2 c1_i32_1669
  let c8_i32_1670 : BitVec 32 := 8#32
  let v2689 : BitVec 32 := Scalar.addi v2688 c8_i32_1670
  let c8_i32_1671 : BitVec 32 := 8#32
  let v2690 : BitVec 32 := Scalar.remsi v2689 c8_i32_1671
  let c64_i32_1683 : BitVec 32 := 64#32
  let v2706 : BitVec 32 := Scalar.muli v2690 c64_i32_1683
  let v2707 : Index := Scalar.indexCast v2706
  let c0_1685 : Index := 0#32
  ![1, v2707.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x8x512x4096 : Shape := ⟨4, ![2, 8, 512, 4096]⟩
abbrev S1x1x512x4096 : Shape := ⟨4, ![1, 1, 512, 4096]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x4096x8x64, .f32⟩
  | .hbm, ⟨3, _⟩ => ⟨S2x4096x8x64, .f32⟩
  | .hbm, ⟨4, _⟩ => ⟨S512x768, .f32⟩
  | .hbm, ⟨5, _⟩ => ⟨S2x512x512, .f32⟩
  | .hbm, ⟨6, _⟩ => ⟨S2x512x8x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S512x4096, .i32⟩
  | .hbm, ⟨48, _⟩ => ⟨S512x4096, .i32⟩
  | .hbm, ⟨49, _⟩ => ⟨S512x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S512x4096, .i1⟩
  | .hbm, ⟨54, _⟩ => ⟨S512x4096, .i1⟩
  | .hbm, ⟨55, _⟩ => ⟨S512x4096, .i32⟩
  | .hbm, ⟨56, _⟩ => ⟨S512x4096, .i32⟩
  | .hbm, ⟨57, _⟩ => ⟨S512x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x4096, .i32⟩
  | .hbm, ⟨65, _⟩ => ⟨S512x4096, .i32⟩
  | .hbm, ⟨66, _⟩ => ⟨S_, .i32⟩
  | .hbm, ⟨67, _⟩ => ⟨S512x4096, .i32⟩
  | .hbm, ⟨68, _⟩ => ⟨S512x4096, .i1⟩
  | .hbm, ⟨69, _⟩ => ⟨S_, .i32⟩
  | .hbm, ⟨70, _⟩ => ⟨S512x4096, .i32⟩
  | .hbm, ⟨71, _⟩ => ⟨S512x4096, .i1⟩
  | .hbm, ⟨72, _⟩ => ⟨S_, .i32⟩
  | .hbm, ⟨73, _⟩ => ⟨S_, .i1⟩
  | .hbm, ⟨74, _⟩ => ⟨S512x4096, .i1⟩
  | .hbm, ⟨75, _⟩ => ⟨S512x4096, .i1⟩
  | .hbm, ⟨76, _⟩ => ⟨S512x4096, .i1⟩
  | .hbm, ⟨77, _⟩ => ⟨S512x4096, .i32⟩
  | .hbm, ⟨78, _⟩ => ⟨S512x4096, .i32⟩
  | .hbm, ⟨79, _⟩ => ⟨S512x4096, .i32⟩
  | .hbm, ⟨80, _⟩ => ⟨S_, .i32⟩
  | .hbm, ⟨81, _⟩ => ⟨S512x4096, .i32⟩
  | .hbm, ⟨82, _⟩ => ⟨S512x4096, .i1⟩
  | .hbm, ⟨83, _⟩ => ⟨S512x4096, .i1⟩
  | .hbm, ⟨84, _⟩ => ⟨S2x8x512x4096, .f32⟩
  | .hbm, ⟨85, _⟩ => ⟨S_, .f32⟩
  | .hbm, ⟨86, _⟩ => ⟨S2x8x512x4096, .f32⟩
  | .hbm, ⟨87, _⟩ => ⟨S2x8x512x4096, .f32⟩
  | .hbm, ⟨88, _⟩ => ⟨S1x1x512x4096, .i1⟩
  | .hbm, ⟨89, _⟩ => ⟨S_, .f32⟩
  | .hbm, ⟨90, _⟩ => ⟨S_, .f32⟩
  | .hbm, ⟨91, _⟩ => ⟨S2x8x512x4096, .i1⟩
  | .hbm, ⟨92, _⟩ => ⟨S2x8x512x4096, .f32⟩
  | .hbm, ⟨93, _⟩ => ⟨S2x8x512x4096, .f32⟩
  | .hbm, ⟨94, _⟩ => ⟨S_, .f32⟩
  | .hbm, ⟨95, _⟩ => ⟨S2x8x512, .f32⟩
  | .hbm, ⟨96, _⟩ => ⟨S2x8x512x1, .f32⟩
  | .hbm, ⟨97, _⟩ => ⟨S2x8x512x4096, .f32⟩
  | .hbm, ⟨98, _⟩ => ⟨S2x8x512x4096, .f32⟩
  | .hbm, ⟨99, _⟩ => ⟨S2x8x512x4096, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x8x512, .f32⟩
  | .hbm, ⟨105, _⟩ => ⟨S2x8x512x1, .f32⟩
  | .hbm, ⟨106, _⟩ => ⟨S_, .f32⟩
  | .hbm, ⟨107, _⟩ => ⟨S_, .f32⟩
  | .hbm, ⟨108, _⟩ => ⟨S2x8x512x1, .i1⟩
  | .hbm, ⟨109, _⟩ => ⟨S2x8x512x1, .f32⟩
  | .hbm, ⟨110, _⟩ => ⟨S2x8x512x1, .f32⟩
  | .hbm, ⟨111, _⟩ => ⟨S2x8x512x4096, .f32⟩
  | .hbm, ⟨112, _⟩ => ⟨S2x8x512x4096, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x8x512x4096, .i1⟩
  | .hbm, ⟨117, _⟩ => ⟨S2x8x512x4096, .f32⟩
  | .hbm, ⟨118, _⟩ => ⟨S2x8x512x4096, .f32⟩
  | .hbm, ⟨119, _⟩ => ⟨S2x8x64x512, .f32⟩
  | .hbm, ⟨120, _⟩ => ⟨S2x512x8x64, .f32⟩
  | .hbm, ⟨121, _⟩ => ⟨S2x512x512, .f32⟩
  | .hbm, ⟨122, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Attn.Prog.lean ====
/-
# The kernel's body, phase by phase

The printed body is one straight line of some 350 operations. Here it is written again with its repetitions named:
the signals, the local attention of a group of four heads, the reduce-scatter sends of a group, the combination of the
received partial results, the all-gather sends, and the projection of each device's rows, each once for every group `g`
and every distance `r + 1` on the ring. `body_eq` states that the printed body IS this program, by definitional
unfolding, so nothing about the kernel is changed by reading it in this form.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.Attn

open Cert.KernelIdeal Cert.KernelIdeal.Gen
open Idealize.ShloMosaic Idealize.ShloMosaic.TcCoe
open Idealize.SL Idealize.SL.Sem

variable {F : FTy → Type} [FloatOps F]

/-- Programs of a TensorCore of this kernel. -/
abbrev Pg (F : FTy → Type) [FloatOps F] : Type 1 := Prog (TpuEff nD τ sig (Elt F) Λ₀ .tc) PUnit

/-- One operation, then the rest. -/
abbrev op {X : Type} (e : TpuEff nD τ sig (Elt F) Λ₀ .tc X) (k : X → Pg F) : Pg F := Prog.op e k

/-! ## Buffers, slices and semaphores -/

abbrev xM : Memref sig .tc .vmem S2x512x768 .f32 := Memref.whole cc0_stg0_0
abbrev wqM : Memref sig .tc .vmem S768x512 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S512x768 .f32 := Memref.whole cc0_stg4_0
abbrev outM : Memref sig .tc .vmem S2x512x768 .f32 := Memref.whole cc0_stg5_0
/-- Group `g`'s unnormalised attention of this device's keys, its row statistics, and the landing slots of both. -/
abbrev oB : Fin 2 → Ref sig .tc := fun | 0 => cc0_scratch0 | 1 => cc0_scratch1
abbrev oM : Fin 2 → Memref sig .tc .vmem S2x512x256 .bf16 :=
  fun | 0 => Memref.whole cc0_scratch0 | 1 => Memref.whole cc0_scratch1
abbrev sM : Fin 2 → Memref sig .tc .vmem S512x16 .bf16 :=
  fun | 0 => Memref.whole cc0_scratch2 | 1 => Memref.whole cc0_scratch3
abbrev roM : Fin 2 → Memref sig .tc .vmem S7x2x64x256 .bf16 :=
  fun | 0 => Memref.whole cc0_scratch4 | 1 => Memref.whole cc0_scratch5
abbrev rsM : Fin 2 → Memref sig .tc .vmem S7x64x16 .bf16 :=
  fun | 0 => Memref.whole cc0_scratch6 | 1 => Memref.whole cc0_scratch7
/-- The normalised context of all rows and heads. -/
abbrev cM : Memref sig .tc .vmem S2x512x512 .bf16 := Memref.whole cc0_scratch8

theorem oM_whole : ∀ g, (oM g).IsWhole := fun | 0 => Memref.isWhole_whole _ | 1 => Memref.isWhole_whole _
theorem sM_whole : ∀ g, (sM g).IsWhole := fun | 0 => Memref.isWhole_whole _ | 1 => Memref.isWhole_whole _
theorem roM_whole : ∀ g, (roM g).IsWhole := fun | 0 => Memref.isWhole_whole _ | 1 => Memref.isWhole_whole _
theorem rsM_whole : ∀ g, (rsM g).IsWhole := fun | 0 => Memref.isWhole_whole _ | 1 => Memref.isWhole_whole _
theorem cM_whole : cM.IsWhole := Memref.isWhole_whole _

theorem inb_slotO : ∀ j : Fin 7, ∀ a, (![j.val, 0, 0, 0] : Fin 4 → Nat) a + S1x2x64x256.size a ≤ S7x2x64x256.size a := by decide +kernel
theorem words_slotO : ∀ j : Fin 7, (Rect.unit (s := S7x2x64x256) ![j.val, 0, 0, 0] S1x2x64x256.size (inb_slotO j)).WholeWords (EltTy.packing .bf16) := by decide +kernel
theorem inb_slotS : ∀ j : Fin 7, ∀ a, (![j.val, 0, 0] : Fin 3 → Nat) a + S1x64x16.size a ≤ S7x64x16.size a := by decide +kernel
theorem words_slotS : ∀ j : Fin 7, (Rect.unit (s := S7x64x16) ![j.val, 0, 0] S1x64x16.size (inb_slotS j)).WholeWords (EltTy.packing .bf16) := by decide +kernel
theorem inb_sem : ∀ (g : Fin 2) (r : Fin 7), ∀ a, (![g.val, r.val] : Fin 2 → Nat) a + S1x1.size a ≤ S2x7.size a := by decide +kernel
theorem inb_slotOb : ∀ (j : Fin 7) (b : Fin 2), ∀ a, (![j.val, b.val, 0, 0] : Fin 4 → Nat) a + S1x1x64x256.size a ≤ S7x2x64x256.size a := by decide +kernel
theorem inb_kv : ∀ (b : Fin 2) (h : Fin 8), ∀ a, (![b.val, 0, h.val, 0] : Fin 4 → Nat) a + S1x512x1x64.size a ≤ S2x512x8x64.size a := by decide +kernel
theorem inb_x : ∀ (b : Fin 2), ∀ a, (![b.val, 0, 0] : Fin 3 → Nat) a + S1x512x768.size a ≤ S2x512x768.size a := by decide +kernel
theorem inb_o : ∀ (b : Fin 2), ∀ a, (![b.val, 0, 0] : Fin 3 → Nat) a + S1x512x256.size a ≤ S2x512x256.size a := by decide +kernel
theorem packed_o : ∀ b : Fin 2, (Rect.unit (s := S2x512x256) ![b.val, 0, 0] S1x512x256.size (inb_o b)).PackedRows (EltTy.packing .bf16) := by decide +kernel

/-- Rows of `o`/`s` bound for the device `r + 1` further on. -/
abbrev chunkO (g : Fin 2) (d : Dev nD) (r : Fin 7) : Memref sig .tc .vmem S2x64x256 .bf16 :=
  (oM g).slice (Rect.unit (s := S2x512x256) (k0_off1 d (BitVec.ofNat 32 (1 + r.val))) S2x64x256.size (k0_off1_inb d r)) (fun _ => rfl)
abbrev chunkS (g : Fin 2) (d : Dev nD) (r : Fin 7) : Memref sig .tc .vmem S64x16 .bf16 :=
  (sM g).slice (Rect.unit (s := S512x16) (k0_off2 d (BitVec.ofNat 32 (1 + r.val))) S64x16.size (k0_off2_inb d r)) (fun _ => rfl)
/-- The landing slots. -/
abbrev slotO (g : Fin 2) (j : Fin 7) : Memref sig .tc .vmem S2x64x256 .bf16 :=
  ((roM g).slice (Rect.unit (s := S7x2x64x256) ![j.val, 0, 0, 0] S1x2x64x256.size (inb_slotO j)) (fun _ => rfl)).squeeze S2x64x256 squeezes_S1x2x64x256_S2x64x256
abbrev slotS (g : Fin 2) (j : Fin 7) : Memref sig .tc .vmem S64x16 .bf16 :=
  ((rsM g).slice (Rect.unit (s := S7x64x16) ![j.val, 0, 0] S1x64x16.size (inb_slotS j)) (fun _ => rfl)).squeeze S64x16 squeezes_S1x64x16_S64x16
/-- This device's rows of group `g`'s columns of the context. -/
abbrev agOff : Fin 2 → Dev nD → Fin 3 → Nat := fun | 0 => k0_off8 | 1 => k0_off11
theorem agOff_inb : ∀ (g : Fin 2) (d : Dev nD), ∀ a, agOff g d a + S2x64x256.size a ≤ S2x512x512.size a := fun | 0 => k0_off8_inb | 1 => k0_off11_inb
theorem agOff_words : ∀ (g : Fin 2) (d : Dev nD), (Rect.unit (s := S2x512x512) (agOff g d) S2x64x256.size (agOff_inb g d)).WholeWords (EltTy.packing .bf16) :=
  fun | 0 => k0_off8_wordsbf16 | 1 => k0_off11_wordsbf16
abbrev ctxC (g : Fin 2) (d : Dev nD) : Memref sig .tc .vmem S2x64x256 .bf16 :=
  cM.slice (Rect.unit (s := S2x512x512) (agOff g d) S2x64x256.size (agOff_inb g d)) (fun _ => rfl)

/-- The six arrays of DMA semaphores: send and receive of `o`, of `s`, and of the all-gather. -/
abbrev semArr : Fin 6 → DmaSems sig S2x7 :=
  fun | 0 => cc0_scratch9 | 1 => cc0_scratch10 | 2 => cc0_scratch11 | 3 => cc0_scratch12 | 4 => cc0_scratch13 | 5 => cc0_scratch14
abbrev sm (a : Fin 6) (g : Fin 2) (r : Fin 7) : DmaSem sig :=
  (((semArr a).slice (Rect.unit (s := S2x7) ![g.val, r.val] S1x1.size (inb_sem g r))).squeeze S_ squeezes_S1x1_S_).sem
abbrev barS : Sem sig := (SemArray.scalar (sig.barrier 0 rfl) : Sems sig S_).sem

/-- The device each signal and each transfer addresses, as the kernel computes it. -/
abbrev dvSig : Fin 7 → Dev nD → Dev nD :=
  fun | 0 => fun d => ⟨k0_dev1 d, k0_dev1_lt d⟩ | 1 => fun d => ⟨k0_dev2 d, k0_dev2_lt d⟩ | 2 => fun d => ⟨k0_dev3 d, k0_dev3_lt d⟩
      | 3 => fun d => ⟨k0_dev4 d, k0_dev4_lt d⟩ | 4 => fun d => ⟨k0_dev5 d, k0_dev5_lt d⟩ | 5 => fun d => ⟨k0_dev6 d, k0_dev6_lt d⟩ | 6 => fun d => ⟨k0_dev7 d, k0_dev7_lt d⟩
abbrev dvO : Fin 2 → Fin 7 → Dev nD → Dev nD
  | 0, 0, d => ⟨k0_dev8 d, k0_dev8_lt d⟩ | 0, 1, d => ⟨k0_dev10 d, k0_dev10_lt d⟩ | 0, 2, d => ⟨k0_dev12 d, k0_dev12_lt d⟩ | 0, 3, d => ⟨k0_dev14 d, k0_dev14_lt d⟩
  | 0, 4, d => ⟨k0_dev16 d, k0_dev16_lt d⟩ | 0, 5, d => ⟨k0_dev18 d, k0_dev18_lt d⟩ | 0, 6, d => ⟨k0_dev20 d, k0_dev20_lt d⟩
  | 1, 0, d => ⟨k0_dev22 d, k0_dev22_lt d⟩ | 1, 1, d => ⟨k0_dev24 d, k0_dev24_lt d⟩ | 1, 2, d => ⟨k0_dev26 d, k0_dev26_lt d⟩ | 1, 3, d => ⟨k0_dev28 d, k0_dev28_lt d⟩
  | 1, 4, d => ⟨k0_dev30 d, k0_dev30_lt d⟩ | 1, 5, d => ⟨k0_dev32 d, k0_dev32_lt d⟩ | 1, 6, d => ⟨k0_dev34 d, k0_dev34_lt d⟩
abbrev dvS : Fin 2 → Fin 7 → Dev nD → Dev nD
  | 0, 0, d => ⟨k0_dev9 d, k0_dev9_lt d⟩ | 0, 1, d => ⟨k0_dev11 d, k0_dev11_lt d⟩ | 0, 2, d => ⟨k0_dev13 d, k0_dev13_lt d⟩ | 0, 3, d => ⟨k0_dev15 d, k0_dev15_lt d⟩
  | 0, 4, d => ⟨k0_dev17 d, k0_dev17_lt d⟩ | 0, 5, d => ⟨k0_dev19 d, k0_dev19_lt d⟩ | 0, 6, d => ⟨k0_dev21 d, k0_dev21_lt d⟩
  | 1, 0, d => ⟨k0_dev23 d, k0_dev23_lt d⟩ | 1, 1, d => ⟨k0_dev25 d, k0_dev25_lt d⟩ | 1, 2, d => ⟨k0_dev27 d, k0_dev27_lt d⟩ | 1, 3, d => ⟨k0_dev29 d, k0_dev29_lt d⟩
  | 1, 4, d => ⟨k0_dev31 d, k0_dev31_lt d⟩ | 1, 5, d => ⟨k0_dev33 d, k0_dev33_lt d⟩ | 1, 6, d => ⟨k0_dev35 d, k0_dev35_lt d⟩
abbrev dvC : Fin 2 → Fin 7 → Dev nD → Dev nD
  | 0, 0, d => ⟨k0_dev36 d, k0_dev36_lt d⟩ | 0, 1, d => ⟨k0_dev37 d, k0_dev37_lt d⟩ | 0, 2, d => ⟨k0_dev38 d, k0_dev38_lt d⟩ | 0, 3, d => ⟨k0_dev39 d, k0_dev39_lt d⟩
  | 0, 4, d => ⟨k0_dev40 d, k0_dev40_lt d⟩ | 0, 5, d => ⟨k0_dev41 d, k0_dev41_lt d⟩ | 0, 6, d => ⟨k0_dev42 d, k0_dev42_lt d⟩
  | 1, 0, d => ⟨k0_dev43 d, k0_dev43_lt d⟩ | 1, 1, d => ⟨k0_dev44 d, k0_dev44_lt d⟩ | 1, 2, d => ⟨k0_dev45 d, k0_dev45_lt d⟩ | 1, 3, d => ⟨k0_dev46 d, k0_dev46_lt d⟩
  | 1, 4, d => ⟨k0_dev47 d, k0_dev47_lt d⟩ | 1, 5, d => ⟨k0_dev48 d, k0_dev48_lt d⟩ | 1, 6, d => ⟨k0_dev49 d, k0_dev49_lt d⟩

/-! ## Values -/

theorem slices_q : ∀ h : Fin 8, S512x512.Slices ![0, 64 * h.val] S512x64 := by decide +kernel
theorem slices_s (b : Fin 2) : S64x16.Slices ![0, 8 * b.val] S64x4 := by revert b; decide +kernel
theorem slices_l (b : Fin 2) : S64x16.Slices ![0, 8 * b.val + 4] S64x4 := by revert b; decide +kernel
theorem slices_e (h : Fin 4) : S64x4.Slices ![0, h.val] S64x1 := by revert h; decide +kernel

/-- The mask of device `d`'s block of keys: which pairs of a query row and one of its 512 keys attend. -/
def maskV (d : Dev nD) : IVec S512x512 1 :=
  let v2 : BitVec 32 := Scalar.remsi (Scalar.divsi (Dev.word d) 1#32) 8#32
  k0_pay5 k0_pay2 (k0_pay3 v2) 64#32 (k0_pay4 v2)

/-- The queries of one batch row: `x @ Wq`. -/
def qV (x : Vec F S1x512x768 .f32) (wq : Vec F S768x512 .f32) : FVec F S512x512 .f32 :=
  matmul dot_S512x768_S768x512_S512x512_1_0_0_1_n_n none (shapeCast S512x768 x shapeCasts_S1x512x768_S512x768)
    (shapeCast S768x512 wq shapeCasts_S768x512_S768x512) (constant S512x512 .f32 0x00000000#32)

/-- One head's masked scores against this device's keys, -/
def scoreV (mk : IVec S512x512 1) (q : FVec F S512x512 .f32) (h : Fin 8) (k : Vec F S1x512x1x64 .f32) : FVec F S512x512 .f32 :=
  select mk
    (mulf (matmul dot_S512x64_S512x64_S512x512_1_1_0_0_n_n none (extractStridedSlice S512x64 ![0, 64 * h.val] q (slices_q h))
      (shapeCast S512x64 k shapeCasts_S1x512x1x64_S512x64) (constant S512x512 .f32 0x00000000#32)) (broadcast S512x512 (Scalar.ofBits .f32 0x3E000000#32)))
    (broadcast S512x512 (Scalar.ofBits .f32 0xCE6E6B28#32))
/-- their row maximum, -/
def maxV (s : FVec F S512x512 .f32) : FVec F S512x1 .f32 :=
  shapeCast S512x1 (multiReduction .maximumf [1] S512 s 0xFF800000#32 reduces_S512x512_S512 (.inl rfl) rfl) shapeCasts_S512_S512x1
/-- the weights, -/
def expV (s : FVec F S512x512 .f32) : FVec F S512x512 .f32 := exp (subf s (broadcastTo S512x512 (maxV s) broadcasts_S512x1_S512x512))
/-- their row sum, -/
def sumV (s : FVec F S512x512 .f32) : FVec F S512x1 .f32 :=
  shapeCast S512x1 (multiReduction .add [1] S512 (expV s) 0x00000000#32 reduces_S512x512_S512 (.inl rfl) rfl) shapeCasts_S512_S512x1
/-- and the weighted values. -/
def accV (s : FVec F S512x512 .f32) (v : Vec F S1x512x1x64 .f32) : FVec F S512x64 .f32 :=
  matmul dot_S512x512_S512x64_S512x64_1_0_0_1_n_n none (expV s) (shapeCast S512x64 v shapeCasts_S1x512x1x64_S512x64) (constant S512x64 .f32 0x00000000#32)

/-- What a device stores of one batch row's four heads. -/
def oStore (s : Fin 4 → FVec F S512x512 .f32) (v : Fin 4 → Vec F S1x512x1x64 .f32) : FVec F S1x512x256 .bf16 :=
  shapeCast S1x512x256 (truncf .bf16 (concatenate S512x256 1 [⟨S512x64, accV (s 0) (v 0)⟩, ⟨S512x64, accV (s 1) (v 1)⟩, ⟨S512x64, accV (s 2) (v 2)⟩, ⟨S512x64, accV (s 3) (v 3)⟩]
    concatenates_S512x64_S512x64_S512x64_S512x64_S512x256_d1) bitsLt_bf16_f32) shapeCasts_S512x256_S1x512x256
/-- The row statistics of both batch rows: maxima and sums of four heads, twice. -/
def sStore (s0 s1 : Fin 4 → FVec F S512x512 .f32) : FVec F S512x16 .bf16 :=
  shapeCast S512x16 (truncf .bf16 (concatenate S512x16 1 [⟨S512x1, maxV (s0 0)⟩, ⟨S512x1, maxV (s0 1)⟩, ⟨S512x1, maxV (s0 2)⟩, ⟨S512x1, maxV (s0 3)⟩,
      ⟨S512x1, sumV (s0 0)⟩, ⟨S512x1, sumV (s0 1)⟩, ⟨S512x1, sumV (s0 2)⟩, ⟨S512x1, sumV (s0 3)⟩,
      ⟨S512x1, maxV (s1 0)⟩, ⟨S512x1, maxV (s1 1)⟩, ⟨S512x1, maxV (s1 2)⟩, ⟨S512x1, maxV (s1 3)⟩,
      ⟨S512x1, sumV (s1 0)⟩, ⟨S512x1, sumV (s1 1)⟩, ⟨S512x1, sumV (s1 2)⟩, ⟨S512x1, sumV (s1 3)⟩]
    concatenates_S512x1_S512x1_S512x1_S512x1_S512x1_S512x1_S512x1_S512x1_S512x1_S512x1_S512x1_S512x1_S512x1_S512x1_S512x1_S512x1_S512x16_d1) bitsLt_bf16_f32)
    shapeCasts_S512x16_S512x16

/-- The running combination: the statistics and the two batch rows' accumulators. -/
structure Acc (F : FTy → Type) [FloatOps F] where
  s : FVec F S64x16 .f32
  o0 : FVec F S64x256 .f32
  o1 : FVec F S64x256 .f32

/-- One column for each of four heads, each spread over the head's 64 lanes. -/
def spread (e : FVec F S64x4 .f32) : FVec F S64x256 .f32 :=
  concatenate S64x256 1
    [⟨S64x64, broadcastTo S64x64 (shapeCast S64x1 (extractStridedSlice S64x1 ![0, (0 : Fin 4).val] e (slices_e 0)) shapeCasts_S64x1_S64x1) broadcasts_S64x1_S64x64⟩,
     ⟨S64x64, broadcastTo S64x64 (shapeCast S64x1 (extractStridedSlice S64x1 ![0, (1 : Fin 4).val] e (slices_e 1)) shapeCasts_S64x1_S64x1) broadcasts_S64x1_S64x64⟩,
     ⟨S64x64, broadcastTo S64x64 (shapeCast S64x1 (extractStridedSlice S64x1 ![0, (2 : Fin 4).val] e (slices_e 2)) shapeCasts_S64x1_S64x1) broadcasts_S64x1_S64x64⟩,
     ⟨S64x64, broadcastTo S64x64 (shapeCast S64x1 (extractStridedSlice S64x1 ![0, (3 : Fin 4).val] e (slices_e 3)) shapeCasts_S64x1_S64x1) broadcasts_S64x1_S64x64⟩]
    concatenates_S64x64_S64x64_S64x64_S64x64_S64x256_d1

/-- Batch row `b`'s four maxima, and its four sums. -/
def colM (b : Fin 2) (s : FVec F S64x16 .f32) : FVec F S64x4 .f32 := extractStridedSlice S64x4 ![0, 8 * b.val] s (slices_s b)
def colL (b : Fin 2) (s : FVec F S64x16 .f32) : FVec F S64x4 .f32 := extractStridedSlice S64x4 ![0, 8 * b.val + 4] s (slices_l b)
/-- The new maxima and the two factors that bring the old and the received part to them. -/
def newM (b : Fin 2) (s t : FVec F S64x16 .f32) : FVec F S64x4 .f32 := maximumf (colM b s) (colM b t)
def facA (b : Fin 2) (s t : FVec F S64x16 .f32) : FVec F S64x4 .f32 := exp (subf (colM b s) (newM b s t))
def facB (b : Fin 2) (s t : FVec F S64x16 .f32) : FVec F S64x4 .f32 := exp (subf (colM b t) (newM b s t))
def newL (b : Fin 2) (s t : FVec F S64x16 .f32) : FVec F S64x4 .f32 := addf (mulf (colL b s) (facA b s t)) (mulf (colL b t) (facB b s t))
def newO (b : Fin 2) (s t : FVec F S64x16 .f32) (a r : FVec F S64x256 .f32) : FVec F S64x256 .f32 :=
  addf (mulf a (spread (facA b s t))) (mulf r (spread (facB b s t)))
/-- The combination with one device's received statistics `t` and accumulators `r0`, `r1`. -/
def comb (a : Acc F) (t : FVec F S64x16 .f32) (r0 r1 : FVec F S64x256 .f32) : Acc F where
  s := concatenate S64x16 1 [⟨S64x4, newM 0 a.s t⟩, ⟨S64x4, newL 0 a.s t⟩, ⟨S64x4, newM 1 a.s t⟩, ⟨S64x4, newL 1 a.s t⟩] concatenates_S64x4_S64x4_S64x4_S64x4_S64x16_d1
  o0 := newO 0 a.s t a.o0 r0
  o1 := newO 1 a.s t a.o1 r1

/-- What is read of the own chunk and of a landing slot, widened. -/
def upO (v : Vec F S1x64x256 .bf16) : FVec F S64x256 .f32 := extf .f32 (shapeCast S64x256 v shapeCasts_S1x64x256_S64x256) bitsLt_bf16_f32
def upS (v : Vec F S64x16 .bf16) : FVec F S64x16 .f32 := extf .f32 (show FVec F S64x16 .bf16 from v) bitsLt_bf16_f32
def upRO (v : Vec F S1x1x64x256 .bf16) : FVec F S64x256 .f32 := extf .f32 (shapeCast S64x256 v shapeCasts_S1x1x64x256_S64x256) bitsLt_bf16_f32
def upRS (v : Vec F S1x64x16 .bf16) : FVec F S64x16 .f32 := extf .f32 (shapeCast S64x16 v shapeCasts_S1x64x16_S64x16) bitsLt_bf16_f32

/-- The normalised rows, and as they are stored. -/
def normV (b : Fin 2) (s : FVec F S64x16 .f32) (o : FVec F S64x256 .f32) : FVec F S64x256 .f32 := divf o (spread (colL b s))
def ctxStore (c : FVec F S64x256 .f32) : FVec F S1x64x256 .bf16 :=
  shapeCast S1x64x256 (truncf .bf16 c bitsLt_bf16_f32) shapeCasts_S64x256_S1x64x256
/-- The output projection of 64 rows: of this device's own (from both groups' rows), and of rows read back from the context. -/
def woV (wo : Vec F S512x768 .f32) : FVec F S512x768 .bf16 := truncf .bf16 (shapeCast S512x768 wo shapeCasts_S512x768_S512x768) bitsLt_bf16_f32
def projV (c : FVec F S64x512 .bf16) (wo : FVec F S512x768 .bf16) : FVec F S1x64x768 .f32 :=
  shapeCast S1x64x768 (matmul dot_S64x512_S512x768_S64x768_1_0_0_1_n_n none c wo (constant S64x768 .f32 0x00000000#32)) shapeCasts_S64x768_S1x64x768
def ownV (c0 c1 : FVec F S64x256 .f32) : FVec F S64x512 .bf16 :=
  truncf .bf16 (concatenate S64x512 1 [⟨S64x256, c0⟩, ⟨S64x256, c1⟩] concatenates_S64x256_S64x256_S64x512_d1) bitsLt_bf16_f32
def rowsV (v : Vec F S1x64x512 .bf16) : FVec F S64x512 .bf16 := shapeCast S64x512 v shapeCasts_S1x64x512_S64x512

/-! ## The program -/

/-- Read the key or value block of batch row `b` and head `h`. -/
def ldKV (M : Memref sig .tc .vmem S2x512x8x64 .f32) (b : Fin 2) (h : Fin 8) (kk : Vec F S1x512x1x64 .f32 → Pg F) : Pg F :=
  op (.load M (Rect.unit (s := S2x512x8x64) ![b.val, 0, h.val, 0] S1x512x1x64.size (inb_kv b h)).toLoadRect (View.loadsAt_vmem h_S1x512x1x64)) kk

/-- Head `i` of group `g`. -/
abbrev hd (g : Fin 2) (i : Fin 4) : Fin 8 := ⟨4 * g.val + i.val, by omega⟩

/-- One batch row of one group's local attention: the four heads' keys and values read, the accumulators stored, the scores handed on. -/
def attB (g b : Fin 2) (mk : IVec S512x512 1) (q : FVec F S512x512 .f32) (kk : (Fin 4 → FVec F S512x512 .f32) → Pg F) : Pg F :=
  ldKV kM b (hd g 0) fun k0 => ldKV vM b (hd g 0) fun v0 =>
  ldKV kM b (hd g 1) fun k1 => ldKV vM b (hd g 1) fun v1 =>
  ldKV kM b (hd g 2) fun k2 => ldKV vM b (hd g 2) fun v2 =>
  ldKV kM b (hd g 3) fun k3 => ldKV vM b (hd g 3) fun v3 =>
  op (.load (oM g) (Rect.unit (s := S2x512x256) ![b.val, 0, 0] S1x512x256.size (inb_o b)).toLoadRect (View.loadsAt_vmem h_S1x512x256)) fun _ =>
  op (.store (oM g) (Rect.unit (s := S2x512x256) ![b.val, 0, 0] S1x512x256.size (inb_o b))
    (oStore (fun i => scoreV mk q (hd g i) ((fun | 0 => k0 | 1 => k1 | 2 => k2 | 3 => k3 : Fin 4 → Vec F S1x512x1x64 .f32) i)) (fun | 0 => v0 | 1 => v1 | 2 => v2 | 3 => v3))
    Finset.univ (View.stores_vmem h_S1x512x256 ((oM_whole g).storeExact_slice rfl _ (packed_o b)) (fun _ => rfl)) (.inl rfl)) fun _ =>
  kk fun i => scoreV mk q (hd g i) ((fun | 0 => k0 | 1 => k1 | 2 => k2 | 3 => k3 : Fin 4 → Vec F S1x512x1x64 .f32) i)

/-- One group's local attention: both batch rows, then the statistics. -/
def attG (g : Fin 2) (mk : IVec S512x512 1) (q0 q1 : FVec F S512x512 .f32) (kk : Pg F) : Pg F :=
  attB g 0 mk q0 fun s0 => attB g 1 mk q1 fun s1 =>
  op (.load (sM g) (Rect.unit (s := S512x16) ![0, 0] S512x16.size inb_S512x16_S512x16_0_0).toLoadRect (View.loadsAt_vmem h_S512x16)) fun _ =>
  op (.store (sM g) (Rect.unit (s := S512x16) ![0, 0] S512x16.size inb_S512x16_S512x16_0_0) (sStore s0 s1)
    Finset.univ (View.stores_vmem h_S512x16 ((sM_whole g).storeExact_slice rfl _ packedbf16_S512x16_S512x16_0_0) (fun _ => rfl)) (.inl rfl)) fun _ => kk

/-- The entry signals to the devices at the listed distances. -/
def sigs (d : Dev nD) : List (Fin 7) → Pg F → Pg F
  | [], kk => kk
  | r :: rs, kk => op (.semSignal ((dvSig r d : Dev nD), .tc) barS (1#32).toInt) fun _ => sigs d rs kk

/-- The reduce-scatter transfers of group `g` to the devices at the listed distances. -/
def sends (g : Fin 2) (d : Dev nD) : List (Fin 7) → Pg F → Pg F
  | [], kk => kk
  | r :: rs, kk =>
    op (.enqueueDma (chunkO g d r) (.remote (Dev.tc (dvO g r d)) (slotO g r.rev) (.dma (sm 0 g r))) (.dma (sm 1 g r.rev))
      ((oM_whole g).wordExact_slice rfl _ (k0_off1_wordsbf16 d r)) (((roM_whole g).wordExact_slice rfl _ (words_slotO r.rev)).reshape _ _) ⟨⟨rfl, Or.inl rfl⟩, trivial⟩) fun _ =>
    op (.enqueueDma (chunkS g d r) (.remote (Dev.tc (dvS g r d)) (slotS g r.rev) (.dma (sm 2 g r))) (.dma (sm 3 g r.rev))
      ((sM_whole g).wordExact_slice rfl _ (k0_off2_wordsbf16 d r)) (((rsM_whole g).wordExact_slice rfl _ (words_slotS r.rev)).reshape _ _) ⟨⟨rfl, Or.inl rfl⟩, trivial⟩) fun _ =>
    sends g d rs kk

/-- Group `g`'s four waits at one distance, the landed slot read and combined, at the listed distances in turn. -/
def combs (g : Fin 2) (d : Dev nD) : List (Fin 7) → Acc F → (Acc F → Pg F) → Pg F
  | [], a, kk => kk a
  | r :: rs, a, kk =>
    op (.waitDma2 (sm 0 g r) (slotO g r.rev) (chunkO g d r) (((roM_whole g).wordExact_slice rfl _ (words_slotO r.rev)).reshape _ _) ((oM_whole g).wordExact_slice rfl _ (k0_off1_wordsbf16 d r))) fun _ =>
    op (.waitDma2 (sm 1 g r.rev) (chunkO g d r) (slotO g r.rev) ((oM_whole g).wordExact_slice rfl _ (k0_off1_wordsbf16 d r)) (((roM_whole g).wordExact_slice rfl _ (words_slotO r.rev)).reshape _ _)) fun _ =>
    op (.waitDma2 (sm 2 g r) (slotS g r.rev) (chunkS g d r) (((rsM_whole g).wordExact_slice rfl _ (words_slotS r.rev)).reshape _ _) ((sM_whole g).wordExact_slice rfl _ (k0_off2_wordsbf16 d r))) fun _ =>
    op (.waitDma2 (sm 3 g r.rev) (chunkS g d r) (slotS g r.rev) ((sM_whole g).wordExact_slice rfl _ (k0_off2_wordsbf16 d r)) (((rsM_whole g).wordExact_slice rfl _ (words_slotS r.rev)).reshape _ _)) fun _ =>
    op (.load (roM g) (Rect.unit (s := S7x2x64x256) ![r.rev.val, (0 : Fin 2).val, 0, 0] S1x1x64x256.size (inb_slotOb r.rev 0)).toLoadRect (View.loadsAt_vmem h_S1x1x64x256)) fun r0 =>
    op (.load (roM g) (Rect.unit (s := S7x2x64x256) ![r.rev.val, (1 : Fin 2).val, 0, 0] S1x1x64x256.size (inb_slotOb r.rev 1)).toLoadRect (View.loadsAt_vmem h_S1x1x64x256)) fun r1 =>
    op (.load (rsM g) (Rect.unit (s := S7x64x16) ![r.rev.val, 0, 0] S1x64x16.size (inb_slotS r.rev)).toLoadRect (View.loadsAt_vmem h_S1x64x16)) fun t =>
    combs g d rs (comb a (upRS t) (upRO r0) (upRO r1)) kk

/-- Where this device's context rows of batch row `b` and group `g` are. -/
abbrev cOff : Fin 2 → Fin 2 → Dev nD → Fin 3 → Nat :=
  fun | 0 => (fun | 0 => k0_off6 | 1 => k0_off7) | 1 => (fun | 0 => k0_off9 | 1 => k0_off10)
theorem cOff_inb : ∀ (g b : Fin 2) (d : Dev nD), ∀ a, cOff g b d a + S1x64x256.size a ≤ S2x512x512.size a :=
  fun | 0 => (fun | 0 => k0_off6_inb | 1 => k0_off7_inb) | 1 => (fun | 0 => k0_off9_inb | 1 => k0_off10_inb)
theorem cOff_packed : ∀ (g b : Fin 2) (d : Dev nD), (Rect.unit (s := S2x512x512) (cOff g b d) S1x64x256.size (cOff_inb g b d)).PackedRows (EltTy.packing .bf16) :=
  fun | 0 => (fun | 0 => k0_off6_packedbf16 | 1 => k0_off7_packedbf16) | 1 => (fun | 0 => k0_off9_packedbf16 | 1 => k0_off10_packedbf16)

/-- Store one batch row of this device's context rows. -/
def stC (g b : Fin 2) (d : Dev nD) (c : FVec F S64x256 .f32) (kk : Pg F) : Pg F :=
  op (.load cM (Rect.unit (s := S2x512x512) (cOff g b d) S1x64x256.size (cOff_inb g b d)).toLoadRect (View.loadsAt_vmem h_S1x64x256)) fun _ =>
  op (.store cM (Rect.unit (s := S2x512x512) (cOff g b d) S1x64x256.size (cOff_inb g b d)) (ctxStore c)
    Finset.univ (View.stores_vmem h_S1x64x256 (cM_whole.storeExact_slice rfl _ (cOff_packed g b d)) (fun _ => rfl)) (.inl rfl)) fun _ => kk

/-- The own chunk read, the received ones combined into it, the normalised rows stored and handed on. -/
def combG (g : Fin 2) (d : Dev nD) (kk : FVec F S64x256 .f32 → FVec F S64x256 .f32 → Pg F) : Pg F :=
  op (.load (oM g) (Rect.unit (s := S2x512x256) (k0_off3 d) S1x64x256.size (k0_off3_inb d)).toLoadRect (View.loadsAt_vmem h_S1x64x256)) fun o0 =>
  op (.load (oM g) (Rect.unit (s := S2x512x256) (k0_off4 d) S1x64x256.size (k0_off4_inb d)).toLoadRect (View.loadsAt_vmem h_S1x64x256)) fun o1 =>
  op (.load (sM g) (Rect.unit (s := S512x16) (k0_off5 d) S64x16.size (k0_off5_inb d)).toLoadRect (View.loadsAt_vmem h_S64x16)) fun s =>
  combs g d [0, 1, 2, 3, 4, 5, 6] ⟨upS s, upO o0, upO o1⟩ fun a =>
  stC g 0 d (normV 0 a.s a.o0) <| stC g 1 d (normV 1 a.s a.o1) <|
  kk (normV 0 a.s a.o0) (normV 1 a.s a.o1)

/-- The all-gather transfers of group `g` to the devices at the listed distances. -/
def gath (g : Fin 2) (d : Dev nD) : List (Fin 7) → Pg F → Pg F
  | [], kk => kk
  | r :: rs, kk =>
    op (.enqueueDma (ctxC g d) (.remote (Dev.tc (dvC g r d)) (ctxC g d) (.dma (sm 4 g r))) (.dma (sm 5 g r.rev))
      (cM_whole.wordExact_slice rfl _ (agOff_words g d)) (cM_whole.wordExact_slice rfl _ (agOff_words g d)) ⟨⟨rfl, Or.inl rfl⟩, trivial⟩) fun _ =>
    gath g d rs kk

/-- Where a block of 64 rows of batch row `b` is, in the context and in the result: this device's, and the device's `r + 1` back. -/
abbrev outOff : Fin 2 → Dev nD → Fin 3 → Nat := fun | 0 => k0_off12 | 1 => k0_off13
theorem outOff_inb : ∀ (b : Fin 2) (d : Dev nD), ∀ a, outOff b d a + S1x64x768.size a ≤ S2x512x768.size a := fun | 0 => k0_off12_inb | 1 => k0_off13_inb
abbrev srcOff : Fin 2 → Dev nD → BitVec 32 → Fin 3 → Nat := fun | 0 => k0_off14 | 1 => k0_off16
theorem srcOff_inb : ∀ (b : Fin 2) (d : Dev nD) (r : Fin 7), ∀ a, srcOff b d (BitVec.ofNat 32 (1 + r.val)) a + S1x64x512.size a ≤ S2x512x512.size a :=
  fun | 0 => k0_off14_inb | 1 => k0_off16_inb
abbrev dstOff : Fin 2 → Dev nD → BitVec 32 → Fin 3 → Nat := fun | 0 => k0_off15 | 1 => k0_off17
theorem dstOff_inb : ∀ (b : Fin 2) (d : Dev nD) (r : Fin 7), ∀ a, dstOff b d (BitVec.ofNat 32 (1 + r.val)) a + S1x64x768.size a ≤ S2x512x768.size a :=
  fun | 0 => k0_off15_inb | 1 => k0_off17_inb

/-- Store one batch row of this device's own 64 rows of the result. -/
def stOwn (b : Fin 2) (d : Dev nD) (v : FVec F S1x64x768 .f32) (kk : Pg F) : Pg F :=
  op (.load outM (Rect.unit (s := S2x512x768) (outOff b d) S1x64x768.size (outOff_inb b d)).toLoadRect (View.loadsAt_vmem h_S1x64x768)) fun _ =>
  op (.store outM (Rect.unit (s := S2x512x768) (outOff b d) S1x64x768.size (outOff_inb b d)) v
    Finset.univ (View.stores_vmem_bits_univ h_S1x64x768 rfl) (.inl rfl)) fun _ => kk

/-- Project one batch row of the rows gathered from the device `r + 1` back. -/
def stGot (b : Fin 2) (d : Dev nD) (r : Fin 7) (wo : FVec F S512x768 .bf16) (kk : Pg F) : Pg F :=
  op (.load cM (Rect.unit (s := S2x512x512) (srcOff b d (BitVec.ofNat 32 (1 + r.val))) S1x64x512.size (srcOff_inb b d r)).toLoadRect (View.loadsAt_vmem h_S1x64x512)) fun c =>
  op (.load outM (Rect.unit (s := S2x512x768) (dstOff b d (BitVec.ofNat 32 (1 + r.val))) S1x64x768.size (dstOff_inb b d r)).toLoadRect (View.loadsAt_vmem h_S1x64x768)) fun _ =>
  op (.store outM (Rect.unit (s := S2x512x768) (dstOff b d (BitVec.ofNat 32 (1 + r.val))) S1x64x768.size (dstOff_inb b d r)) (projV (rowsV c) wo)
    Finset.univ (View.stores_vmem_bits_univ h_S1x64x768 rfl) (.inl rfl)) fun _ => kk

/-- The wait for one all-gather transfer's departure, and for one's arrival. -/
def wAG (a : Fin 6) (g : Fin 2) (d : Dev nD) (r : Fin 7) (kk : Pg F) : Pg F :=
  op (.waitDma2 (sm a g r) (ctxC g d) (ctxC g d) (cM_whole.wordExact_slice rfl _ (agOff_words g d)) (cM_whole.wordExact_slice rfl _ (agOff_words g d))) fun _ => kk

/-- The gathered rows waited for and projected, at the listed distances in turn. -/
def outs (d : Dev nD) (wo : FVec F S512x768 .bf16) : List (Fin 7) → Pg F → Pg F
  | [], kk => kk
  | r :: rs, kk =>
    wAG 4 0 d r <| wAG 5 0 d r.rev <| wAG 4 1 d r <| wAG 5 1 d r.rev <|
    stGot 0 d r wo <| stGot 1 d r wo <| outs d wo rs kk

/-- The distances 1 to 7, each as one less. -/
abbrev all7 : List (Fin 7) := [0, 1, 2, 3, 4, 5, 6]

/-- From the context rows on: this device's rows of the result, then everyone else's. -/
def phaseOut (d : Dev nD) (c00 c01 c10 c11 : FVec F S64x256 .f32) (kk : Pg F) : Pg F :=
  op (.load woM (Rect.unit (s := S512x768) ![0, 0] S512x768.size inb_S512x768_S512x768_0_0).toLoadRect (View.loadsAt_vmem h_S512x768)) fun wo =>
  stOwn 0 d (projV (ownV c00 c10) (woV wo)) <| stOwn 1 d (projV (ownV c01 c11) (woV wo)) <|
  outs d (woV wo) all7 kk

/-- The queries of both batch rows. -/
def ldQ (kk : FVec F S512x512 .f32 → FVec F S512x512 .f32 → Pg F) : Pg F :=
  op (.load xM (Rect.unit (s := S2x512x768) ![(0 : Fin 2).val, 0, 0] S1x512x768.size (inb_x 0)).toLoadRect (View.loadsAt_vmem h_S1x512x768)) fun x0 =>
  op (.load wqM (Rect.unit (s := S768x512) ![0, 0] S768x512.size inb_S768x512_S768x512_0_0).toLoadRect (View.loadsAt_vmem h_S768x512)) fun w0 =>
  op (.load xM (Rect.unit (s := S2x512x768) ![(1 : Fin 2).val, 0, 0] S1x512x768.size (inb_x 1)).toLoadRect (View.loadsAt_vmem h_S1x512x768)) fun x1 =>
  op (.load wqM (Rect.unit (s := S768x512) ![0, 0] S768x512.size inb_S768x512_S768x512_0_0).toLoadRect (View.loadsAt_vmem h_S768x512)) fun w1 =>
  kk (qV x0 w0) (qV x1 w1)

/-- The whole body. -/
def bodyP : Pg F :=
  op .deviceId fun d =>
  sigs d all7 <| op (.semWait barS (7#32).toInt) fun _ =>
  ldQ fun q0 q1 =>
  attG 0 (maskV d) q0 q1 <| sends 0 d all7 <|
  attG 1 (maskV d) q0 q1 <| sends 1 d all7 <|
  combG 0 d fun c00 c01 => gath 0 d all7 <|
  combG 1 d fun c10 c11 => gath 1 d all7 <|
  phaseOut d c00 c01 c10 c11 (Prog.ret ⟨⟩)

end Cert.Attn

end
-- ==== Proof.Attn.Part.lean ====
/-
# A buffer held in parts, by values

`part c m A q X`: core `c` holds, at share `q`, the elements of the memref `m` at the indices `A`, and reads at each of
them the value of `X`, a function on ALL of `m`'s indices. A buffer cut into chunks, slots or column halves is then
always described by one function for the whole buffer: cutting and joining leave it as it is.
-/
module

public import Idealize.ShloMosaic.Lib.VecWindow
public import Idealize.ShloMosaic.Lib.Rounds
public import Idealize.ShloMosaic.Lib.Ring
public import Idealize.ShloMosaic.Lib.Transfers

@[expose] public section

noncomputable section

namespace Cert.Attn

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]
variable {Ix : Type} [DecidableEq Ix] {Name : Type} [DecidableEq Name] {U : Type} [URA U] {Lvl : Type}

local notation "𝕄" => MT nD τ sig Ix Val Name U Lvl

omit [∀ e, Nonempty (Val e)] in
theorem sep_eq {P Q : sProp 𝕄} (h : P ⊢ Q) (h' : Q ⊢ P) : P = Q := Entails.antisymm h h'

theorem rect_mem_emb {s : Shape} (r : Rect s) (x : r.shape.Idx) : r.emb x ∈ r.set := by
  rw [← Rect.map_emb_univ]; exact Finset.mem_map_of_mem _ (Finset.mem_univ _)

theorem rect_exists {s : Shape} (r : Rect s) {y : s.Idx} (h : y ∈ r.set) : ∃ x, r.emb x = y := by
  rw [← Rect.map_emb_univ] at h
  obtain ⟨x, -, hx⟩ := Finset.mem_map.mp h
  exact ⟨x, hx⟩

section
variable (c : Thread nD τ) {sp : Space} {s : Shape} {e : EltTy} (m : Memref sig c.2.kind sp s e)

/-- The elements of `m` at the indices `A`, at share `q`, holding the values of `X` there. -/
def part (A : Finset s.Idx) (q : PosShare TreeShare) (X : s.Idx → Val e) : sProp 𝕄 :=
  iprop(∃ f, ⌜∀ y ∈ A, m.view.read Val f y = X y⌝ ∗ (m.view.loc c ↦[m.view.setOn A]{q} f))

instance part_storable (A : Finset s.Idx) (q : PosShare TreeShare) (X : s.Idx → Val e) :
    BI.Storable (upEmb : UEmb _ 𝕄) (part c m A q X) := by unfold part; infer_instance

variable {c m} {A B : Finset s.Idx} {q : PosShare TreeShare} {X Y : s.Idx → Val e}

omit [∀ e, Nonempty (Val e)] in
theorem part_mono (h : ∀ y ∈ A, X y = Y y) : (part c m A q X : sProp 𝕄) ⊢ part c m A q Y := by
  unfold part
  iintro ⟨%f, %hf, H⟩
  iexists f
  isplitr; · ipureintro; exact fun y hy => (hf y hy).trans (h y hy)
  iexact H

/-- The elements at any contents of their buffer, by what is read of them. -/
theorem part_intro (f : Buf Val (m.view.loc c)) : (m.view.loc c ↦[m.view.setOn A]{q} f : sProp 𝕄) ⊢ part c m A q (m.view.read Val f) := by
  unfold part
  iintro H
  iexists f
  isplitr; · ipureintro; exact fun _ _ => rfl
  iexact H

omit [∀ e, Nonempty (Val e)] in
theorem setOn_union (v : View sig c.2.kind sp s e) : v.setOn (A ∪ B) = v.setOn A ∪ v.setOn B := Finset.map_union _ _

omit [∀ e, Nonempty (Val e)] in
theorem setOn_disjoint (v : View sig c.2.kind sp s e) (h : Disjoint A B) : Disjoint (v.setOn A) (v.setOn B) :=
  (Finset.disjoint_map v.emb).mpr h

omit [∀ e, Nonempty (Val e)] in
/-- A part is cut in two, -/
theorem part_split (h : Disjoint A B) : (part c m (A ∪ B) q X : sProp 𝕄) ⊢ iprop(part c m A q X ∗ part c m B q X) := by
  unfold part
  iintro ⟨%f, %hf, H⟩
  rw [setOn_union]
  ihave H' := (pointsTo_union (setOn_disjoint m.view h)).1 $$ H
  icases H' with ⟨HA, HB⟩
  isplitl [HA]
  · iexists f; isplitr; · ipureintro; exact fun y hy => hf y (Finset.mem_union_left _ hy)
    iexact HA
  · iexists f; isplitr; · ipureintro; exact fun y hy => hf y (Finset.mem_union_right _ hy)
    iexact HB

omit [∀ e, Nonempty (Val e)] in
/-- and two are joined. -/
theorem part_join (h : Disjoint A B) : (iprop(part c m A q X ∗ part c m B q X) : sProp 𝕄) ⊢ part c m (A ∪ B) q X := by
  unfold part
  iintro ⟨⟨%f, %hf, HA⟩, ⟨%g, %hg, HB⟩⟩
  iexists ((m.view.setOn B).piecewise g f)
  isplitr
  · ipureintro
    intro y hy
    by_cases hB : y ∈ B
    · rw [← hg y hB, View.read_apply, View.read_apply, Finset.piecewise_eq_of_mem _ _ _ ((View.mem_setOn _).mpr hB)]
    · rw [← hf y ((Finset.mem_union.mp hy).resolve_right hB), View.read_apply, View.read_apply,
        Finset.piecewise_eq_of_notMem _ _ _ (fun h' => hB ((View.mem_setOn _).mp h'))]
  · rw [setOn_union]
    iapply (pointsTo_join (setOn_disjoint m.view h))
    isplitl [HA] <;> iassumption

omit [∀ e, Nonempty (Val e)] in
theorem part_union (h : Disjoint A B) : (part c m (A ∪ B) q X : sProp 𝕄) = iprop(part c m A q X ∗ part c m B q X) :=
  Entails.antisymm (part_split h) (part_join h)

theorem part_empty : (part c m ∅ q X : sProp 𝕄) = iprop(emp) := by
  refine sep_eq ?_ ?_
  · iintro -; iempintro
  · unfold part
    iintro -
    iexists (fun _ => Classical.arbitrary _)
    isplitr; · ipureintro; exact fun y hy => absurd hy (Finset.notMem_empty _)
    rw [show m.view.setOn ∅ = ∅ from Finset.map_empty _, pointsTo_empty]; iempintro

omit [∀ e, Nonempty (Val e)] in
theorem bigSep_ins {T : Type} [DecidableEq T] {S : Finset T} {t : T} {Φ : T → sProp 𝕄} (h : t ∉ S) :
    bigSep (insert t S) Φ = iprop(Φ t ∗ bigSep S Φ) := BI.bigSep_insert h

/-- A part is the parts over any family that cuts its indices up. -/
theorem part_biUnion {T : Type} [DecidableEq T] (S : Finset T) (K : T → Finset s.Idx) (h : ∀ t ∈ S, ∀ t' ∈ S, t ≠ t' → Disjoint (K t) (K t')) :
    (part c m (S.biUnion K) q X : sProp 𝕄) = bigSep S fun t => part c m (K t) q X := by
  induction S using Finset.induction_on with
  | empty => rw [Finset.biUnion_empty, bigSep_empty, part_empty]; rfl
  | insert t S ht ih =>
    rw [Finset.biUnion_insert, bigSep_ins ht, part_union, ih fun t₁ h₁ t₂ h₂ => h t₁ (Finset.mem_insert_of_mem h₁) t₂ (Finset.mem_insert_of_mem h₂)]
    · exact (Finset.disjoint_biUnion_right _ _ _).mpr fun t' ht' =>
        h t (Finset.mem_insert_self _ _) t' (Finset.mem_insert_of_mem ht') (fun e => ht (e ▸ ht'))

/-- A part at some values. -/
def partAny (c : Thread nD τ) (m : Memref sig c.2.kind sp s e) (A : Finset s.Idx) : sProp 𝕄 :=
  iprop(∃ X : s.Idx → Val e, part c m A fullShare X)

instance partAny_storable : BI.Storable (upEmb : UEmb _ 𝕄) (partAny (Val := Val) c m A) := by unfold partAny; infer_instance

omit [∀ e, Nonempty (Val e)] in
theorem partAny_intro : (part c m A fullShare X : sProp 𝕄) ⊢ partAny c m A := by
  unfold partAny; iintro H; iexists X; iexact H

omit [∀ e, Nonempty (Val e)] in
theorem partAny_split (h : Disjoint A B) : (partAny (Val := Val) c m (A ∪ B) : sProp 𝕄) ⊢ iprop(partAny (Val := Val) c m A ∗ partAny (Val := Val) c m B) := by
  unfold partAny
  iintro ⟨%X, H⟩
  ihave H' := (part_split h) $$ H
  icases H' with ⟨HA, HB⟩
  isplitl [HA]
  · iexists X; iexact HA
  · iexists X; iexact HB

omit [∀ e, Nonempty (Val e)] in
theorem partAny_join (h : Disjoint A B) : (iprop(partAny (Val := Val) c m A ∗ partAny (Val := Val) c m B) : sProp 𝕄) ⊢ partAny (Val := Val) c m (A ∪ B) := by
  unfold partAny
  iintro ⟨⟨%X, HA⟩, %Y, HB⟩
  iexists (B.piecewise Y X)
  iapply (part_join h)
  isplitl [HA]
  · iapply (part_mono fun y hy => ?_) $$ HA
    rw [Finset.piecewise_eq_of_notMem _ _ _ (Finset.disjoint_left.mp h hy)]
  · iapply (part_mono fun y hy => ?_) $$ HB
    rw [Finset.piecewise_eq_of_mem _ _ _ hy]

theorem partAny_empty : (partAny (Val := Val) c m ∅ : sProp 𝕄) = iprop(emp) := by
  refine sep_eq ?_ ?_
  · iintro -; iempintro
  · unfold partAny; iintro H; iexists (fun _ => Classical.arbitrary _); rw [part_empty]; iexact H

theorem partAny_biUnion {T : Type} [DecidableEq T] (S : Finset T) (K : T → Finset s.Idx) (h : ∀ t ∈ S, ∀ t' ∈ S, t ≠ t' → Disjoint (K t) (K t')) :
    (partAny (Val := Val) c m (S.biUnion K) : sProp 𝕄) = bigSep S fun t => partAny (Val := Val) c m (K t) := by
  induction S using Finset.induction_on with
  | empty => rw [Finset.biUnion_empty, bigSep_empty, partAny_empty]; rfl
  | insert t S ht ih =>
    have hd : Disjoint (K t) (S.biUnion K) := (Finset.disjoint_biUnion_right _ _ _).mpr fun t' ht' =>
        h t (Finset.mem_insert_self _ _) t' (Finset.mem_insert_of_mem ht') (fun e => ht (e ▸ ht'))
    rw [Finset.biUnion_insert, bigSep_ins ht, Entails.antisymm (partAny_split hd) (partAny_join hd),
      ih fun t₁ h₁ t₂ h₂ => h t₁ (Finset.mem_insert_of_mem h₁) t₂ (Finset.mem_insert_of_mem h₂)]

omit [∀ e, Nonempty (Val e)] in
/-- A part at a share dealt out to `n` readers and a remainder. -/
theorem part_toks (n : ℕ) :
    (part c m A q X : sProp 𝕄) ⊣⊢ iprop(part c m A (Transfers.shareDrop q n) X ∗ bigSep Finset.univ fun i : Fin n => part c m A (Transfers.shareTok q n i) X) := by
  have key : ∀ k, (part c m A q X : sProp 𝕄) = iprop(part c m A (Transfers.shareDrop q k) X ∗ bigSep (Finset.range k) fun i => part c m A (Transfers.shareTokN q i) X) := by
    intro k
    induction k with
    | zero => rw [Finset.range_zero, BI.bigSep_empty]; exact Entails.antisymm sep_emp.2 sep_emp.1
    | succ k ih =>
      have hs : (part c m A (Transfers.shareDrop q k) X : sProp 𝕄) = iprop(part c m A (Transfers.shareDrop q (k + 1)) X ∗ part c m A (Transfers.shareTokN q k) X) := by
        have hsh := PosShare.mem_left_op_right (Transfers.shareDrop q k)
        refine sep_eq ?_ ?_
        · unfold part
          iintro ⟨%f, %hf, H⟩
          ihave H' := (pointsTo_share hsh).1 $$ H
          icases H' with ⟨H1, H2⟩
          isplitl [H1]
          · iexists f; isplitr; · ipureintro; exact hf
            iexact H1
          · iexists f; isplitr; · ipureintro; exact hf
            iexact H2
        · unfold part
          iintro ⟨⟨%f, %hf, H1⟩, ⟨%g, %hg, H2⟩⟩
          iexists f; isplitr; · ipureintro; exact hf
          iapply (pointsTo_share hsh).2
          isplitl [H1]; · iexact H1
          have hfg : (m.view.loc c ↦[m.view.setOn A]{Transfers.shareTokN q k} g : sProp 𝕄) = (m.view.loc c ↦[m.view.setOn A]{Transfers.shareTokN q k} f) := by
            refine pointsTo_congr fun i hi => ?_
            obtain ⟨y, hy, rfl⟩ := Finset.mem_map.mp hi
            have := (hg y hy).trans (hf y hy).symm
            rw [View.read_apply, View.read_apply] at this
            exact (cast_inj _).mp this
          iapply (show (m.view.loc c ↦[m.view.setOn A]{Transfers.shareTokN q k} g : sProp 𝕄) ⊢ (m.view.loc c ↦[m.view.setOn A]{(Transfers.shareDrop q k).right} f) from
            hfg ▸ Entails.refl _) $$ H2
      rw [Finset.range_add_one, bigSep_ins Finset.notMem_range_self, ih, hs]
      refine sep_eq ?_ ?_
      · iintro ⟨⟨Hd, Ht⟩, Hts⟩
        isplitl [Hd]; · iexact Hd
        isplitl [Ht] <;> iassumption
      · iintro ⟨Hd, Ht, Hts⟩
        isplitl [Hd Ht]; · isplitl [Hd] <;> iassumption
        iexact Hts
  rw [key n, ← Nat.Iio_eq_range, ← Fin.map_valEmbedding_univ, BI.bigSep_map]
  exact ⟨Entails.refl _, Entails.refl _⟩

end

/-! ## Whole buffers -/

section
variable {c : Thread nD τ} {b : Ref sig c.2.kind} {q : PosShare TreeShare}

omit [∀ e, Nonempty (Val e)] in
/-- A buffer held whole is all of its memref. -/
theorem part_whole (f : Buf Val (c.loc b)) :
    ((c.loc b) ↦{q} f : sProp 𝕄) ⊢ part c (Memref.whole b) Finset.univ q (f : b.ty.Contents Val) := by
  unfold part
  iintro H
  iexists f
  isplitr; · ipureintro; exact fun y _ => congrFun (View.read_whole b f) y
  have hs : (Memref.whole b : Memref sig c.2.kind _ _ _).view.setOn Finset.univ = (Finset.univ : Finset (Idx (c.loc b))) :=
    (View.setOn_univ _).trans (View.set_whole b)
  rw [hs]
  iexact H

omit [∀ e, Nonempty (Val e)] in
theorem whole_part (X : b.ty.Contents Val) :
    (part c (Memref.whole b) Finset.univ q X : sProp 𝕄) ⊢ ((c.loc b) ↦{q} (X : Buf Val (c.loc b))) := by
  unfold part
  iintro ⟨%f, %hf, H⟩
  have hs : (Memref.whole b : Memref sig c.2.kind _ _ _).view.setOn Finset.univ = (Finset.univ : Finset (Idx (c.loc b))) :=
    (View.setOn_univ _).trans (View.set_whole b)
  rw [hs]
  have : f = X := funext fun y => (congrFun (View.read_whole b f) y).symm.trans (hf y (Finset.mem_univ _))
  subst this
  iexact H
end

/-! ## Loads, stores and transfers -/

section
variable [Preorder Lvl] {Λ : Labels} {defs : Defs nD τ sig Val Λ} (𝒱 : Variants) (c : Thread nD τ) (bd : Option 𝒱.V)
  {Γ : PendingWaitsCtx sig Ix} (E : Set Name)
variable {s : Shape} {e : EltTy} {α : Type} {Q : α → sProp (MT nD τ sig Ix Val Name U Lvl)}

omit [∀ e, Nonempty (Val e)] in
/-- A load inside a part reads the part's values. -/
theorem wp_loadP {cs : CoreSpace} {m : Memref sig c.2.kind cs s e} {r : LoadRect s} {hl : m.view.LoadsAt r}
    {k : (r.shape.Idx → Val e) → Prog (TpuEff nD τ sig Val Λ c.2) α} {A : Finset s.Idx} {q : PosShare TreeShare} {X : s.Idx → Val e}
    (w : r.shape.Idx → Val e) (hA : r.set ⊆ A) (hw : ∀ x, X (r.idx x) = w x) :
    (part c m A q X : sProp 𝕄) ⊢ iprop((part c m A q X -∗ wp frame (wpE' defs 𝒱 c bd Γ) E (k w) Q)
        -∗ wp frame (wpE' defs 𝒱 c bd Γ) E (.op (.load m r hl) k) Q) := by
  unfold part
  iintro ⟨%f, %hf, H⟩ Hk
  iapply (wp_load 𝒱 c bd E (m := m) (r := r) (S := m.view.setOn A) (f := f) (Finset.map_subset_map.mpr hA)) $$ H
  iintro H
  have : m.view.readAt Val r f = w := funext fun x => (hf _ (hA (r.idx_mem x))).trans (hw x)
  rw [this]
  iapply Hk
  iexists f
  isplitr; · ipureintro; exact hf
  iexact H

omit [∀ e, Nonempty (Val e)] in
/-- A store at a rectangle inside a part leaves the part at any function that is what was stored there and unchanged elsewhere. -/
theorem wp_storeP {cs : CoreSpace} {m : Memref sig c.2.kind cs s e} {r : Rect s} {w : r.shape.Idx → Val e} {hx : (m.access r).Stores Finset.univ}
    {hm : Finset.univ = Finset.univ ∨ ∀ a, r.stride a = 1} {k : PUnit → Prog (TpuEff nD τ sig Val Λ c.2) α} {A : Finset s.Idx} {X : s.Idx → Val e}
    (X' : s.Idx → Val e) (hA : r.set ⊆ A) (hw : ∀ x, X' (r.emb x) = w x) (hX : ∀ y ∈ A, y ∉ r.set → X' y = X y) :
    (part c m A fullShare X : sProp 𝕄) ⊢ iprop((part c m A fullShare X' -∗ wp frame (wpE' defs 𝒱 c bd Γ) E (k ⟨⟩) Q)
        -∗ wp frame (wpE' defs 𝒱 c bd Γ) E (.op (.store m r w Finset.univ hx hm) k) Q) := by
  unfold part
  iintro ⟨%f, %hf, H⟩ Hk
  iapply (wp_store 𝒱 c bd E (m := m) (r := r) (S := m.view.setOn A) (by
    rw [View.setOn_univ]; exact (View.set_slice m.view r).subset.trans (Finset.map_subset_map.mpr hA))) $$ H
  iintro H
  iapply Hk
  iexists ((m.access r).write Val f w Finset.univ)
  isplitr
  · ipureintro
    intro y hy
    by_cases hr : y ∈ r.set
    · obtain ⟨x, rfl⟩ := rect_exists r hr
      rw [hw]
      exact congrFun (View.read_write_univ (v := m.access r) f w) x
    · rw [hX y hy hr, ← hf y hy, View.read_apply, View.read_apply]
      refine congrArg _ (View.write_of_not_mem (v := m.access r) _ _ _ fun h => hr ?_)
      rw [View.setOn_univ] at h
      have h' : m.view.emb y ∈ r.set.map m.view.emb := (View.set_slice m.view r) ▸ h
      exact (View.mem_setOn m.view).mp h'
  iexact H
end

section
variable {c : Thread nD τ} {sp : Space} {s s' : Shape} {e : EltTy} {m : Memref sig c.2.kind sp s e} {q : PosShare TreeShare} {X : s.Idx → Val e}

omit [∀ e, Nonempty (Val e)] in
/-- The part of a rectangle as the slice's own elements, -/
theorem part_slice (r : Rect s) (h : ∀ a, r.stride a = 1) :
    (part c m r.set q X : sProp 𝕄) ⊢ iprop(∃ f, ⌜(m.slice r h).view.read Val f = fun x => X (r.emb x)⌝
      ∗ ((m.slice r h).view.loc c ↦[(m.slice r h).view.set]{q} f)) := by
  unfold part
  iintro ⟨%f, %hf, H⟩
  iexists f
  isplitr
  · ipureintro
    exact funext fun x => hf _ (rect_mem_emb r x)
  have hs : (m.slice r h).view.set = m.view.setOn r.set := View.set_slice m.view r
  rw [hs]
  iexact H

omit [∀ e, Nonempty (Val e)] in
/-- and back. -/
theorem slice_part (r : Rect s) (h : ∀ a, r.stride a = 1) {f : Buf Val ((m.slice r h).view.loc c)}
    (hf : ∀ x, (m.slice r h).view.read Val f x = X (r.emb x)) :
    ((m.slice r h).view.loc c ↦[(m.slice r h).view.set]{q} f : sProp 𝕄) ⊢ part c m r.set q X := by
  have hs : (m.slice r h).view.set = m.view.setOn r.set := View.set_slice m.view r
  rw [hs]
  unfold part
  iintro H
  iexists f
  isplitr
  · ipureintro
    intro y hy
    obtain ⟨x, rfl⟩ := rect_exists r hy
    exact hf x
  iexact H

omit [∀ e, Nonempty (Val e)] in
/-- The part of a rectangle as the elements of the slice squeezed, -/
theorem part_squeeze (r : Rect s) (h : ∀ a, r.stride a = 1) (hq : r.shape.Squeezes s') :
    (part c m r.set q X : sProp 𝕄) ⊢ iprop(∃ f, ((m.slice r h).squeeze s' hq).view.loc c ↦[((m.slice r h).squeeze s' hq).view.set]{q} f) := by
  unfold part
  iintro ⟨%f, %hf, H⟩
  iexists f
  have hs : ((m.slice r h).squeeze s' hq).view.set = m.view.setOn r.set := ((m.slice r h).set_view_squeeze hq).trans (View.set_slice m.view r)
  rw [hs]
  iexact H

omit [∀ e, Nonempty (Val e)] in
/-- and back. -/
theorem squeeze_part (r : Rect s) (h : ∀ a, r.stride a = 1) (hq : r.shape.Squeezes s') {f : Buf Val (((m.slice r h).squeeze s' hq).view.loc c)}
    (hf : ∀ x, (m.slice r h).view.read Val f x = X (r.emb x)) :
    (((m.slice r h).squeeze s' hq).view.loc c ↦[((m.slice r h).squeeze s' hq).view.set]{q} f : sProp 𝕄) ⊢ part c m r.set q X := by
  have hs : ((m.slice r h).squeeze s' hq).view.set = m.view.setOn r.set := ((m.slice r h).set_view_squeeze hq).trans (View.set_slice m.view r)
  rw [hs]
  unfold part
  iintro H
  iexists f
  isplitr
  · ipureintro
    intro y hy
    obtain ⟨x, rfl⟩ := rect_exists r hy
    exact hf x
  iexact H
end

end Cert.Attn

end
-- ==== Proof.Attn.Cont.lean ====
/-
# What the buffers hold

The ring's geometry — the device `r + 1` further on, the 64 rows each device combines, the slots it receives into — and
the closed contents of every buffer that another device reads or writes, as functions of all devices' inputs.
-/
module

public import proofs.«01_k».proof.Proof.Attn.Prog
public import proofs.«01_k».proof.Proof.Attn.Part
public import Idealize.ShloMosaic.Lib.ValueLayout

@[expose] public section

noncomputable section

namespace Cert.Attn

open Cert.KernelIdeal Cert.KernelIdeal.Gen
open Idealize.ShloMosaic Idealize.ShloMosaic.TcCoe Idealize.ShloMosaic.ValueIdx

variable {F : FTy → Type} [FloatOps F]

/-! ## The ring -/

/-- The device `r + 1` further on. -/
def fw (c : Dev nD) (r : Fin 7) : Dev nD := ⟨(c.val + r.val + 1) % 8, Nat.mod_lt _ (by decide)⟩

theorem fw_val (c : Dev nD) (r : Fin 7) : (fw c r).val = (c.val + r.val + 1) % 8 := rfl
theorem dev_lt (c : Dev nD) : c.val < 8 := c.isLt
/-- Going `r + 1` on and then `7 - r` on comes back. -/
theorem fw_fw_rev : ∀ (c : Dev nD) (r : Fin 7), fw (fw c r) r.rev = c := by decide +kernel
theorem fw_rev_fw : ∀ (c : Dev nD) (r : Fin 7), fw (fw c r.rev) r = c := by decide +kernel
theorem fw_ne : ∀ (c : Dev nD) (r : Fin 7), fw c r ≠ c := by decide +kernel
theorem fw_inj : ∀ (c : Dev nD) (r s : Fin 7), fw c r = fw c s → r = s := by decide +kernel
theorem fw_inj_left : ∀ (r : Fin 7) (c d : Dev nD), fw c r = fw d r → c = d := by decide +kernel
/-- A device is `c` or one of the seven further on. -/
theorem dev_cases : ∀ c d : Dev nD, d = c ∨ ∃ r, d = fw c r := by decide +kernel

/-- Going `r + 1` on, as a permutation of the devices. -/
def fwE (r : Fin 7) : Dev nD ≃ Dev nD := ⟨fun c => fw c r, fun c => fw c r.rev, fun c => fw_fw_rev c r, fun c => fw_rev_fw c r⟩

theorem dvSig_eq : ∀ (r : Fin 7) (d : Dev nD), dvSig r d = fw d r := by decide +kernel
theorem dvO_eq : ∀ (g : Fin 2) (r : Fin 7) (d : Dev nD), dvO g r d = fw d r := by decide +kernel
theorem dvS_eq : ∀ (g : Fin 2) (r : Fin 7) (d : Dev nD), dvS g r d = fw d r := by decide +kernel
theorem dvC_eq : ∀ (g : Fin 2) (r : Fin 7) (d : Dev nD), dvC g r d = fw d r := by decide +kernel

/-- Row `i` of device `p`'s 64. -/
def row (p : Dev nD) (i : Fin 64) : Fin 512 := ⟨64 * p.val + i.val, by have := dev_lt p; omega⟩
/-- The device that combines row `i`, and the row's place among its 64. -/
def rowDev (i : Fin 512) : Dev nD := ⟨i.val / 64, by show _ < 8; omega⟩
def rowIn (i : Fin 512) : Fin 64 := ⟨i.val % 64, by omega⟩
theorem rowDev_row (p : Dev nD) (i : Fin 64) : rowDev (row p i) = p := Fin.ext (by show (64 * p.val + i.val) / 64 = p.val; omega)
theorem rowIn_row (p : Dev nD) (i : Fin 64) : rowIn (row p i) = i := Fin.ext (by show (64 * p.val + i.val) % 64 = i.val; omega)
theorem row_rowDev (i : Fin 512) : row (rowDev i) (rowIn i) = i := Fin.ext (by show 64 * (i.val / 64) + i.val % 64 = i.val; omega)
/-- Column `i` of group `g`'s 256, the group a column is of and its place there. -/
def col (g : Fin 2) (i : Fin 256) : Fin 512 := ⟨256 * g.val + i.val, by omega⟩
def colGrp (i : Fin 512) : Fin 2 := ⟨i.val / 256, by omega⟩
def colIn (i : Fin 512) : Fin 256 := ⟨i.val % 256, by omega⟩
theorem colGrp_col (g : Fin 2) (i : Fin 256) : colGrp (col g i) = g := Fin.ext (by show (256 * g.val + i.val) / 256 = g.val; omega)
theorem colIn_col (g : Fin 2) (i : Fin 256) : colIn (col g i) = i := Fin.ext (by show (256 * g.val + i.val) % 256 = i.val; omega)
theorem col_colGrp (i : Fin 512) : col (colGrp i) (colIn i) = i := Fin.ext (by show 256 * (i.val / 256) + i.val % 256 = i.val; omega)

/-! ## Pieces of the buffers, as sets of indices -/

/-- The rows of `o`, and of `s`, that device `p` combines. -/
def rowsO (p : Dev nD) : Finset S2x512x256.Idx := Finset.univ.filter fun y => rowDev (y 1) = p
def rowsS (p : Dev nD) : Finset S512x16.Idx := Finset.univ.filter fun y => rowDev (y 0) = p
/-- Landing slot `j`. -/
def slO (j : Fin 7) : Finset S7x2x64x256.Idx := Finset.univ.filter fun y => (y 0).val = j.val
def slS (j : Fin 7) : Finset S7x64x16.Idx := Finset.univ.filter fun y => (y 0).val = j.val
/-- Device `p`'s rows and group `g`'s columns of the context. -/
def ctxA (g : Fin 2) (p : Dev nD) : Finset S2x512x512.Idx := Finset.univ.filter fun y => rowDev (y 1) = p ∧ colGrp (y 2) = g
/-- Device `p`'s rows of the result. -/
def rowsY (p : Dev nD) : Finset S2x512x768.Idx := Finset.univ.filter fun y => rowDev (y 1) = p

section Rects

theorem mem_rect2 {a b : ℕ} {o n : Fin 2 → ℕ} {o0 o1 n0 n1 : ℕ} {inb} (ho : o = ![o0, o1]) (hn : n = ![n0, n1]) (y : (⟨2, ![a, b]⟩ : Shape).Idx) :
    y ∈ (Rect.unit (s := ⟨2, ![a, b]⟩) o n inb).set ↔ (o0 ≤ (y 0).val ∧ (y 0).val < o0 + n0) ∧ (o1 ≤ (y 1).val ∧ (y 1).val < o1 + n1) := by
  subst ho hn
  rw [Rect.mem_set_unit]
  exact Fin.forall_fin_two

theorem mem_rect3 {a b c : ℕ} {o n : Fin 3 → ℕ} {o0 o1 o2 n0 n1 n2 : ℕ} {inb} (ho : o = ![o0, o1, o2]) (hn : n = ![n0, n1, n2]) (y : (⟨3, ![a, b, c]⟩ : Shape).Idx) :
    y ∈ (Rect.unit (s := ⟨3, ![a, b, c]⟩) o n inb).set
      ↔ (o0 ≤ (y 0).val ∧ (y 0).val < o0 + n0) ∧ (o1 ≤ (y 1).val ∧ (y 1).val < o1 + n1) ∧ (o2 ≤ (y 2).val ∧ (y 2).val < o2 + n2) := by
  subst ho hn
  rw [Rect.mem_set_unit]
  exact ⟨fun h => ⟨h 0, h 1, h 2⟩, fun h i => match i with | ⟨0, _⟩ => h.1 | ⟨1, _⟩ => h.2.1 | ⟨2, _⟩ => h.2.2⟩

theorem mem_rect4 {a b c d : ℕ} {o n : Fin 4 → ℕ} {o0 o1 o2 o3 n0 n1 n2 n3 : ℕ} {inb} (ho : o = ![o0, o1, o2, o3]) (hn : n = ![n0, n1, n2, n3])
    (y : (⟨4, ![a, b, c, d]⟩ : Shape).Idx) :
    y ∈ (Rect.unit (s := ⟨4, ![a, b, c, d]⟩) o n inb).set
      ↔ (o0 ≤ (y 0).val ∧ (y 0).val < o0 + n0) ∧ (o1 ≤ (y 1).val ∧ (y 1).val < o1 + n1) ∧ (o2 ≤ (y 2).val ∧ (y 2).val < o2 + n2)
        ∧ (o3 ≤ (y 3).val ∧ (y 3).val < o3 + n3) := by
  subst ho hn
  rw [Rect.mem_set_unit]
  exact ⟨fun h => ⟨h 0, h 1, h 2, h 3⟩, fun h i => match i with | ⟨0, _⟩ => h.1 | ⟨1, _⟩ => h.2.1 | ⟨2, _⟩ => h.2.2.1 | ⟨3, _⟩ => h.2.2.2⟩

variable (g b : Fin 2) (d : Dev nD) (r j : Fin 7)

theorem rowDev_iff (i : Fin 512) (p : Dev nD) : rowDev i = p ↔ 64 * p.val ≤ i.val ∧ i.val < 64 * p.val + 64 := by
  have := dev_lt p
  rw [Fin.ext_iff]; show i.val / 64 = p.val ↔ _; omega
theorem colGrp_iff (i : Fin 512) (g : Fin 2) : colGrp i = g ↔ 256 * g.val ≤ i.val ∧ i.val < 256 * g.val + 256 := by
  rw [Fin.ext_iff]; show i.val / 256 = g.val ↔ _; omega

theorem mem_rowsO (p : Dev nD) (y : S2x512x256.Idx) : y ∈ rowsO p ↔ 64 * p.val ≤ (y 1).val ∧ (y 1).val < 64 * p.val + 64 :=
  (Finset.mem_filter.trans (and_iff_right (Finset.mem_univ y))).trans (rowDev_iff _ _)
theorem mem_rowsS (p : Dev nD) (y : S512x16.Idx) : y ∈ rowsS p ↔ 64 * p.val ≤ (y 0).val ∧ (y 0).val < 64 * p.val + 64 :=
  (Finset.mem_filter.trans (and_iff_right (Finset.mem_univ y))).trans (rowDev_iff _ _)
theorem mem_rowsY (p : Dev nD) (y : S2x512x768.Idx) : y ∈ rowsY p ↔ 64 * p.val ≤ (y 1).val ∧ (y 1).val < 64 * p.val + 64 :=
  (Finset.mem_filter.trans (and_iff_right (Finset.mem_univ y))).trans (rowDev_iff _ _)
theorem mem_slO (y : S7x2x64x256.Idx) : y ∈ slO j ↔ (y 0).val = j.val :=
  Finset.mem_filter.trans (and_iff_right (Finset.mem_univ y))
theorem mem_slS (y : S7x64x16.Idx) : y ∈ slS j ↔ (y 0).val = j.val :=
  Finset.mem_filter.trans (and_iff_right (Finset.mem_univ y))
theorem mem_ctxA (p : Dev nD) (y : S2x512x512.Idx) : y ∈ ctxA g p
    ↔ (64 * p.val ≤ (y 1).val ∧ (y 1).val < 64 * p.val + 64) ∧ (256 * g.val ≤ (y 2).val ∧ (y 2).val < 256 * g.val + 256) :=
  (Finset.mem_filter.trans (and_iff_right (Finset.mem_univ y))).trans (and_congr (rowDev_iff _ _) (colGrp_iff _ _))

theorem set_chunkO : (Rect.unit (s := S2x512x256) (k0_off1 d (BitVec.ofNat 32 (1 + r.val))) S2x64x256.size (k0_off1_inb d r)).set = rowsO (fw d r) := by
  ext y
  have h0 : (y 0).val < 2 := (y 0).isLt
  have h2 : (y 2).val < 256 := (y 2).isLt
  rw [mem_rowsO, mem_rect3 (k0_off1_eq d r) rfl, fw_val]
  omega

theorem set_chunkS : (Rect.unit (s := S512x16) (k0_off2 d (BitVec.ofNat 32 (1 + r.val))) S64x16.size (k0_off2_inb d r)).set = rowsS (fw d r) := by
  ext y
  have h1 : (y 1).val < 16 := (y 1).isLt
  rw [mem_rowsS, mem_rect2 (k0_off2_eq d r) rfl, fw_val]
  omega

theorem set_slotO : (Rect.unit (s := S7x2x64x256) ![j.val, 0, 0, 0] S1x2x64x256.size (inb_slotO j)).set = slO j := by
  ext y
  have h1 : (y 1).val < 2 := (y 1).isLt
  have h2 : (y 2).val < 64 := (y 2).isLt
  have h3 : (y 3).val < 256 := (y 3).isLt
  rw [mem_slO, mem_rect4 rfl rfl]
  omega

theorem set_slotS : (Rect.unit (s := S7x64x16) ![j.val, 0, 0] S1x64x16.size (inb_slotS j)).set = slS j := by
  ext y
  have h1 : (y 1).val < 64 := (y 1).isLt
  have h2 : (y 2).val < 16 := (y 2).isLt
  rw [mem_slS, mem_rect3 rfl rfl]
  omega

theorem sub_slotOb : (Rect.unit (s := S7x2x64x256) ![j.val, b.val, 0, 0] S1x1x64x256.size (inb_slotOb j b)).set ⊆ slO j := by
  intro y hy
  rw [mem_slO]
  rw [mem_rect4 rfl rfl] at hy
  omega

theorem agOff_eq : ∀ (g : Fin 2) (d : Dev nD), agOff g d = ![0, 64 * d.val, 256 * g.val] := fun | 0 => k0_off8_eq | 1 => k0_off11_eq
theorem cOff_eq : ∀ (g b : Fin 2) (d : Dev nD), cOff g b d = ![b.val, 64 * d.val, 256 * g.val] :=
  fun | 0 => (fun | 0 => k0_off6_eq | 1 => k0_off7_eq) | 1 => (fun | 0 => k0_off9_eq | 1 => k0_off10_eq)
theorem outOff_eq : ∀ (b : Fin 2) (d : Dev nD), outOff b d = ![b.val, 64 * d.val, 0] := fun | 0 => k0_off12_eq | 1 => k0_off13_eq
theorem back_val : ∀ (d : Dev nD) (r : Fin 7), (d.val + 7 - r.val) % 8 = (fw d r.rev).val := by decide +kernel
theorem srcOff_eq : ∀ (b : Fin 2) (d : Dev nD) (r : Fin 7), srcOff b d (BitVec.ofNat 32 (1 + r.val)) = ![b.val, 64 * (fw d r.rev).val, 0] :=
  fun | 0 => fun d r => back_val d r ▸ k0_off14_eq d r | 1 => fun d r => back_val d r ▸ k0_off16_eq d r
theorem dstOff_eq : ∀ (b : Fin 2) (d : Dev nD) (r : Fin 7), dstOff b d (BitVec.ofNat 32 (1 + r.val)) = ![b.val, 64 * (fw d r.rev).val, 0] :=
  fun | 0 => fun d r => back_val d r ▸ k0_off15_eq d r | 1 => fun d r => back_val d r ▸ k0_off17_eq d r

theorem set_ctxC : (Rect.unit (s := S2x512x512) (agOff g d) S2x64x256.size (agOff_inb g d)).set = ctxA g d := by
  ext y
  have h0 : (y 0).val < 2 := (y 0).isLt
  rw [mem_ctxA, mem_rect3 (agOff_eq g d) rfl]
  omega

theorem mem_cOff (y : S2x512x512.Idx) : y ∈ (Rect.unit (s := S2x512x512) (cOff g b d) S1x64x256.size (cOff_inb g b d)).set ↔ y ∈ ctxA g d ∧ (y 0).val = b.val := by
  rw [mem_ctxA, mem_rect3 (cOff_eq g b d) rfl]
  omega

theorem mem_outOff (y : S2x512x768.Idx) : y ∈ (Rect.unit (s := S2x512x768) (outOff b d) S1x64x768.size (outOff_inb b d)).set ↔ y ∈ rowsY d ∧ (y 0).val = b.val := by
  have h2 : (y 2).val < 768 := (y 2).isLt
  rw [mem_rowsY, mem_rect3 (outOff_eq b d) rfl]
  omega

theorem mem_dstOff (y : S2x512x768.Idx) :
    y ∈ (Rect.unit (s := S2x512x768) (dstOff b d (BitVec.ofNat 32 (1 + r.val))) S1x64x768.size (dstOff_inb b d r)).set ↔ y ∈ rowsY (fw d r.rev) ∧ (y 0).val = b.val := by
  have h2 : (y 2).val < 768 := (y 2).isLt
  rw [mem_rowsY, mem_rect3 (dstOff_eq b d r) rfl]
  omega

theorem sub_srcOff : (Rect.unit (s := S2x512x512) (srcOff b d (BitVec.ofNat 32 (1 + r.val))) S1x64x512.size (srcOff_inb b d r)).set
    ⊆ ctxA 0 (fw d r.rev) ∪ ctxA 1 (fw d r.rev) := by
  intro y hy
  have h2 : (y 2).val < 512 := (y 2).isLt
  rw [mem_rect3 (srcOff_eq b d r) rfl] at hy
  rw [Finset.mem_union, mem_ctxA, mem_ctxA]
  show _ ∧ 256 * 0 ≤ _ ∧ _ < 256 * 0 + 256 ∨ _ ∧ 256 * 1 ≤ _ ∧ _ < 256 * 1 + 256
  omega

theorem sub_off3 : (Rect.unit (s := S2x512x256) (k0_off3 d) S1x64x256.size (k0_off3_inb d)).set ⊆ rowsO d := by
  intro y hy
  rw [mem_rowsO]
  rw [mem_rect3 (k0_off3_eq d) rfl] at hy
  exact hy.2.1
theorem sub_off4 : (Rect.unit (s := S2x512x256) (k0_off4 d) S1x64x256.size (k0_off4_inb d)).set ⊆ rowsO d := by
  intro y hy
  rw [mem_rowsO]
  rw [mem_rect3 (k0_off4_eq d) rfl] at hy
  exact hy.2.1
theorem sub_off5 : (Rect.unit (s := S512x16) (k0_off5 d) S64x16.size (k0_off5_inb d)).set ⊆ rowsS d := by
  intro y hy
  rw [mem_rowsS]
  rw [mem_rect2 (k0_off5_eq d) rfl] at hy
  exact hy.1

end Rects

/-! ## Partitions -/

section Partitions
variable (c : Dev nD)

theorem rowsO_disj {p p' : Dev nD} (h : p ≠ p') : Disjoint (rowsO p) (rowsO p') :=
  Finset.disjoint_filter.mpr fun y _ h1 h2 => h (Eq.trans (Eq.symm h1) h2)
theorem rowsS_disj {p p' : Dev nD} (h : p ≠ p') : Disjoint (rowsS p) (rowsS p') :=
  Finset.disjoint_filter.mpr fun y _ h1 h2 => h (Eq.trans (Eq.symm h1) h2)
theorem slO_disj {p p' : Fin 7} (h : p ≠ p') : Disjoint (slO p) (slO p') :=
  Finset.disjoint_filter.mpr fun y _ h1 h2 => h (Fin.ext (Eq.trans (Eq.symm h1) h2))
theorem slS_disj {p p' : Fin 7} (h : p ≠ p') : Disjoint (slS p) (slS p') :=
  Finset.disjoint_filter.mpr fun y _ h1 h2 => h (Fin.ext (Eq.trans (Eq.symm h1) h2))
theorem ctxA_disj {x x' : Fin 2 × Dev nD} (h : x ≠ x') : Disjoint (ctxA x.1 x.2) (ctxA x'.1 x'.2) :=
  Finset.disjoint_filter.mpr fun y _ h1 h2 => h (Prod.ext (h1.2.symm.trans h2.2) (h1.1.symm.trans h2.1))

theorem rowsO_cover : (Finset.univ : Finset S2x512x256.Idx) = rowsO c ∪ Finset.univ.biUnion fun r => rowsO (fw c r) := by
  ext y
  simp only [Finset.mem_univ, Finset.mem_union, Finset.mem_biUnion, rowsO, Finset.mem_filter, true_and, true_iff]
  exact dev_cases c _
theorem rowsS_cover : (Finset.univ : Finset S512x16.Idx) = rowsS c ∪ Finset.univ.biUnion fun r => rowsS (fw c r) := by
  ext y
  simp only [Finset.mem_univ, Finset.mem_union, Finset.mem_biUnion, rowsS, Finset.mem_filter, true_and, true_iff]
  exact dev_cases c _
theorem rowsY_cover : (Finset.univ : Finset S2x512x768.Idx) = rowsY c ∪ Finset.univ.biUnion fun r => rowsY (fw c r) := by
  ext y
  simp only [Finset.mem_univ, Finset.mem_union, Finset.mem_biUnion, rowsY, Finset.mem_filter, true_and, true_iff]
  exact dev_cases c _
theorem slO_cover : (Finset.univ : Finset S7x2x64x256.Idx) = Finset.univ.biUnion slO := by
  ext y
  simp only [Finset.mem_univ, Finset.mem_biUnion, slO, Finset.mem_filter, true_and, true_iff]
  exact ⟨y 0, rfl⟩
theorem slS_cover : (Finset.univ : Finset S7x64x16.Idx) = Finset.univ.biUnion slS := by
  ext y
  simp only [Finset.mem_univ, Finset.mem_biUnion, slS, Finset.mem_filter, true_and, true_iff]
  exact ⟨y 0, rfl⟩
/-- The context is cut into each group's columns of the own rows and of the rows of the device at each receiver index. -/
theorem ctx_cover : (Finset.univ : Finset S2x512x512.Idx)
    = (ctxA 0 c ∪ ctxA 1 c) ∪ Finset.univ.biUnion fun r => ctxA 0 (fw c r) ∪ ctxA 1 (fw c r) := by
  ext y
  simp only [Finset.mem_univ, Finset.mem_union, Finset.mem_biUnion, ctxA, Finset.mem_filter, true_and, true_iff]
  have hg : colGrp (y 2) = 0 ∨ colGrp (y 2) = 1 := by generalize colGrp (y 2) = g; revert g; decide
  rcases dev_cases c (rowDev (y 1)) with h | ⟨r, h⟩
  · exact .inl (hg.imp (fun e => ⟨h, e⟩) fun e => ⟨h, e⟩)
  · exact .inr ⟨r, hg.imp (fun e => ⟨h, e⟩) fun e => ⟨h, e⟩⟩
theorem ctx_own_disj : Disjoint (ctxA 0 c) (ctxA 1 c) := ctxA_disj (x := (0, c)) (x' := (1, c)) (by simp)
theorem ctx_disj {p p' : Dev nD} (h : p ≠ p') : Disjoint (ctxA 0 p ∪ ctxA 1 p) (ctxA 0 p' ∪ ctxA 1 p') := by
  simp only [Finset.disjoint_union_left, Finset.disjoint_union_right]
  exact ⟨⟨ctxA_disj (x := (0, p)) (x' := (0, p')) (by simpa using h), ctxA_disj (x := (1, p)) (x' := (0, p')) (by simp)⟩,
    ctxA_disj (x := (0, p)) (x' := (1, p')) (by simp), ctxA_disj (x := (1, p)) (x' := (1, p')) (by simpa using h)⟩

end Partitions

/-! ## Contents -/

/-- One device's inputs, as staged. -/
structure Ins (F : FTy → Type) [FloatOps F] where
  x : Vec F S2x512x768 .f32
  wq : Vec F S768x512 .f32
  k : Vec F S2x512x8x64 .f32
  v : Vec F S2x512x8x64 .f32
  wo : Vec F S512x768 .f32

section Contents
variable (I : Dev nD → Ins F)

/-- What the body's loads of the inputs read. -/
def rdX (b : Fin 2) (x : Vec F S2x512x768 .f32) : Vec F S1x512x768 .f32 :=
  fun y => x ((Rect.unit (s := S2x512x768) ![b.val, 0, 0] S1x512x768.size (inb_x b)).emb y)
def rdWq (w : Vec F S768x512 .f32) : Vec F S768x512 .f32 :=
  fun y => w ((Rect.unit (s := S768x512) ![0, 0] S768x512.size inb_S768x512_S768x512_0_0).emb y)
def rdWo (w : Vec F S512x768 .f32) : Vec F S512x768 .f32 :=
  fun y => w ((Rect.unit (s := S512x768) ![0, 0] S512x768.size inb_S512x768_S512x768_0_0).emb y)
def rdKV (b : Fin 2) (h : Fin 8) (k : Vec F S2x512x8x64 .f32) : Vec F S1x512x1x64 .f32 :=
  fun y => k ((Rect.unit (s := S2x512x8x64) ![b.val, 0, h.val, 0] S1x512x1x64.size (inb_kv b h)).emb y)

/-- Device `c`'s queries of batch row `b`, and its masked scores of group `g`'s head `i` against its own keys. -/
def qOf (c : Dev nD) (b : Fin 2) : FVec F S512x512 .f32 := qV (rdX b (I c).x) (rdWq (I c).wq)
def scoreOf (g : Fin 2) (c : Dev nD) (b : Fin 2) (i : Fin 4) : FVec F S512x512 .f32 :=
  scoreV (maskV c) (qOf I c b) (hd g i) (rdKV b (hd g i) (I c).k)
/-- The local attention it stores, and the row statistics. -/
def oOf (g : Fin 2) (c : Dev nD) (b : Fin 2) : FVec F S1x512x256 .bf16 := oStore (scoreOf I g c b) (fun i => rdKV b (hd g i) (I c).v)
def OW (g : Fin 2) (c : Dev nD) : Vec F S2x512x256 .bf16 := fun y => oOf I g c (y 0) (ix3 (0 : Fin 1) (y 1) (y 2))
def SW (g : Fin 2) (c : Dev nD) : Vec F S512x16 .bf16 := sStore (scoreOf I g c 0) (scoreOf I g c 1)
/-- What lands on device `c`: in slot `j` the rows of `c` of the device at receiver index `j`. -/
def RO (g : Fin 2) (c : Dev nD) : Vec F S7x2x64x256 .bf16 := fun y => OW I g (fw c (y 0)) (ix3 (y 1) (row c (y 2)) (y 3))
def RS (g : Fin 2) (c : Dev nD) : Vec F S7x64x16 .bf16 := fun y => SW I g (fw c (y 0)) (ix2 (row c (y 1)) (y 2))

/-- The combination of the listed devices' parts into `a`. -/
def accL (g : Fin 2) (c : Dev nD) : List (Fin 7) → Acc F → Acc F
  | [], a => a
  | r :: rs, a => accL g c rs (comb a
      (upRS fun y => RS I g c ((Rect.unit (s := S7x64x16) ![r.rev.val, 0, 0] S1x64x16.size (inb_slotS r.rev)).emb y))
      (upRO fun y => RO I g c ((Rect.unit (s := S7x2x64x256) ![r.rev.val, (0 : Fin 2).val, 0, 0] S1x1x64x256.size (inb_slotOb r.rev 0)).emb y))
      (upRO fun y => RO I g c ((Rect.unit (s := S7x2x64x256) ![r.rev.val, (1 : Fin 2).val, 0, 0] S1x1x64x256.size (inb_slotOb r.rev 1)).emb y)))
/-- What it starts from: the own part. -/
def acc0 (g : Fin 2) (c : Dev nD) : Acc F where
  s := upS fun y => SW I g c ((Rect.unit (s := S512x16) (k0_off5 c) S64x16.size (k0_off5_inb c)).emb y)
  o0 := upO fun y => OW I g c ((Rect.unit (s := S2x512x256) (k0_off3 c) S1x64x256.size (k0_off3_inb c)).emb y)
  o1 := upO fun y => OW I g c ((Rect.unit (s := S2x512x256) (k0_off4 c) S1x64x256.size (k0_off4_inb c)).emb y)
def accOf (g : Fin 2) (c : Dev nD) : Acc F := accL I g c all7 (acc0 I g c)
/-- The normalised rows of device `c`, batch row `b`, group `g`. -/
def ctxR (g : Fin 2) (c : Dev nD) : Fin 2 → FVec F S64x256 .f32 :=
  fun | 0 => normV 0 (accOf I g c).s (accOf I g c).o0 | 1 => normV 1 (accOf I g c).s (accOf I g c).o1
/-- The gathered context, the same on every device. -/
def CTX : Vec F S2x512x512 .bf16 :=
  fun y => ctxStore (ctxR I (colGrp (y 2)) (rowDev (y 1)) (y 0)) (ix3 (0 : Fin 1) (rowIn (y 1)) (colIn (y 2)))
/-- What is read back of it: device `p`'s rows of batch row `b`. -/
def rdC (b : Fin 2) (p : Dev nD) : Vec F S1x64x512 .bf16 := fun y => CTX I (ix3 b (row p (y 1)) (y 2))
/-- The result: the own rows are projected from the values before they are stored, the others from the gathered context. -/
def OUT (c : Dev nD) : Vec F S2x512x768 .f32 := fun y =>
  (if rowDev (y 1) = c then projV (ownV (ctxR I 0 c (y 0)) (ctxR I 1 c (y 0))) (woV (rdWo (I c).wo))
    else projV (rowsV (rdC I (y 0) (rowDev (y 1)))) (woV (rdWo (I c).wo))) (ix3 (0 : Fin 1) (rowIn (y 1)) (y 2))

end Contents

end Cert.Attn

end
-- ==== Proof.Attn.Proto.lean ====
/-
# The protocol

Each device owns one barrier cell and, for each of the three transfers (accumulators, statistics, context), group and
distance, one send and one receive cell. Every cell has ONE round. A barrier cell has seven duties of one unit, paid by the
other devices; a transfer cell has one duty of the block's credit. Signalling device `c` hands `c` the landing slots and
the context rows that `c` will write on the signaller. A send cell returns the chunk sent; a receive cell delivers the
landed slot, or context rows, with their values.
-/
module

public import proofs.«01_k».proof.Proof.Attn.Cont
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

abbrev UB := URounds (GSem nD τ sig) (Fin 7)
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## A separating product along a list -/

/-- The separating product of `Φ` along a list. -/
def sepL {α : Type} : List α → (α → sProp (MT nD τ sig Unit (Elt F) ℕ UU ℕ)) → sProp (MT nD τ sig Unit (Elt F) ℕ UU ℕ)
  | [], _ => iprop(emp)
  | x :: xs, Φ => iprop(Φ x ∗ sepL xs Φ)

omit [FloatOps F] in
theorem sepL_finset {α : Type} [DecidableEq α] (Φ : α → sProp (MT nD τ sig Unit (Elt F) ℕ UU ℕ)) :
    ∀ l : List α, l.Nodup → bigSep l.toFinset Φ = sepL l Φ
  | [], _ => by rw [List.toFinset_nil, bigSep_empty]; rfl
  | x :: xs, h => by
    obtain ⟨h1, h2⟩ := List.nodup_cons.mp h
    rw [List.toFinset_cons, bigSep_ins (fun h' => h1 (List.mem_toFinset.mp h')), sepL_finset Φ xs h2]; rfl

omit [FloatOps F] in
/-- Over all seven distances. -/
theorem sepL_all7 (Φ : Fin 7 → sProp (MT nD τ sig Unit (Elt F) ℕ UU ℕ)) : bigSep Finset.univ Φ = sepL all7 Φ := by
  rw [show (Finset.univ : Finset (Fin 7)) = all7.toFinset from by decide]; exact sepL_finset Φ _ (by decide)

omit [FloatOps F] in
theorem sepL_mono {α : Type} {Φ Ψ : α → sProp (MT nD τ sig Unit (Elt F) ℕ UU ℕ)} (h : ∀ x, Φ x ⊢ Ψ x) :
    ∀ l : List α, sepL l Φ ⊢ sepL l Ψ
  | [] => Entails.rfl
  | x :: xs => by
    show iprop(Φ x ∗ sepL xs Φ) ⊢ iprop(Ψ x ∗ sepL xs Ψ)
    iintro ⟨H, Hs⟩
    isplitl [H]
    · iapply (h x); iexact H
    · iapply (sepL_mono h xs); iexact Hs

omit [FloatOps F] in
theorem sepL_sep {α : Type} {Φ Ψ : α → sProp (MT nD τ sig Unit (Elt F) ℕ UU ℕ)} :
    ∀ l : List α, sepL l (fun x => iprop(Φ x ∗ Ψ x)) ⊢ iprop(sepL l Φ ∗ sepL l Ψ)
  | [] => by
    show iprop(emp) ⊢ iprop(emp ∗ emp)
    iintro -; isplitl <;> iempintro
  | x :: xs => by
    show iprop((Φ x ∗ Ψ x) ∗ sepL xs fun x => iprop(Φ x ∗ Ψ x)) ⊢ iprop((Φ x ∗ sepL xs Φ) ∗ (Ψ x ∗ sepL xs Ψ))
    iintro ⟨⟨H, H'⟩, Hs⟩
    ihave Ht := (sepL_sep xs) $$ Hs
    icases Ht with ⟨Ht, Ht'⟩
    isplitl [H Ht]
    · isplitl [H] <;> iassumption
    · isplitl [H'] <;> iassumption

omit [FloatOps F] in
theorem sepL_sep' {α : Type} {Φ Ψ : α → sProp (MT nD τ sig Unit (Elt F) ℕ UU ℕ)} :
    ∀ l : List α, iprop(sepL l Φ ∗ sepL l Ψ) ⊢ sepL l (fun x => iprop(Φ x ∗ Ψ x))
  | [] => by
    show iprop(emp ∗ emp) ⊢ iprop(emp)
    iintro ⟨-, -⟩; iempintro
  | x :: xs => by
    show iprop((Φ x ∗ sepL xs Φ) ∗ (Ψ x ∗ sepL xs Ψ)) ⊢ iprop((Φ x ∗ Ψ x) ∗ sepL xs fun x => iprop(Φ x ∗ Ψ x))
    iintro ⟨⟨H, Ht⟩, H', Ht'⟩
    isplitl [H H']
    · isplitl [H] <;> iassumption
    · iapply (sepL_sep' xs); isplitl [Ht] <;> iassumption

/-! ## Cells -/

/-- A transfer: which of the three, the group, the index of the semaphore. -/
abbrev K3 := Fin 3 × Fin 2 × Fin 7
/-- A cell of a device: the barrier's, or a transfer's send (`false`) or receive (`true`) cell. -/
abbrev CI := Option (K3 × Bool)

/-- The semaphore array of a transfer's send or receive cells. -/
def aix : Fin 3 → Bool → Fin 6
  | 0, false => 0 | 0, true => 1 | 1, false => 2 | 1, true => 3 | 2, false => 4 | 2, true => 5
/-- The semaphore of a cell. -/
def csem : CI → SemLoc sig
  | none => .reg barS
  | some ((k, g, r), b) => .dma (sm (aix k b) g r)
abbrev kcell (x : Dev nD × CI) : GSem nD τ sig := ((x.1 : Thread nD τ), csem x.2)

theorem sm_val : ∀ (a : Fin 6) (g : Fin 2) (r : Fin 7), (sm a g r).val = 6 + 14 * a.val + 7 * g.val + r.val := by decide +kernel

theorem aix_inj : ∀ k k' b b', aix k b = aix k' b' → k = k' ∧ b = b' := by decide

theorem sm_inj {a a' : Fin 6} {g g' : Fin 2} {r r' : Fin 7} (h : sm a g r = sm a' g' r') : a = a' ∧ g = g' ∧ r = r' := by
  have hv := congrArg Fin.val h
  rw [sm_val, sm_val] at hv
  refine ⟨Fin.ext ?_, Fin.ext ?_, Fin.ext ?_⟩ <;> omega

theorem csem_inj : ∀ {x y : CI}, csem x = csem y → x = y
  | none, none, _ => rfl
  | none, some _, h => by cases h
  | some _, none, h => by cases h
  | some ((k, g, r), b), some ((k', g', r'), b'), h => by
    obtain ⟨h1, h2, h3⟩ := sm_inj (SemLoc.dma.inj h)
    obtain ⟨h4, h5⟩ := aix_inj _ _ _ _ h1
    subst h2 h3 h4 h5; rfl

theorem kcell_inj : Function.Injective kcell := fun x y h => by
  obtain ⟨c, a⟩ := x; obtain ⟨c', a'⟩ := y
  have h1 : c = c' := Fin.ext (congrArg (fun g : GSem nD τ sig => g.1.1.val) h)
  have h2 : a = a' := csem_inj (congrArg Prod.snd h)
  subst h1 h2; rfl

open Classical in
/-- The cell a semaphore is, if any. -/
def cellAt (g : GSem nD τ sig) : Option (Dev nD × CI) := if h : ∃ x, kcell x = g then some h.choose else none

theorem cellAt_kcell (x : Dev nD × CI) : cellAt (kcell x) = some x := by
  have h : ∃ y, kcell y = kcell x := ⟨x, rfl⟩
  unfold cellAt
  rw [dif_pos h, kcell_inj h.choose_spec]

/-! ## Amounts and levels -/

/-- The credit of one transfer of each kind. -/
def creditOf : Fin 3 → ℕ
  | 0 => (slotO 0 0).view.dmaCredit
  | 1 => (slotS 0 0).view.dmaCredit
  | 2 => (ctxC 0 0).view.dmaCredit
def amt : CI → ℕ
  | none => 1
  | some ((k, _, _), _) => creditOf k
theorem creditOf_pos : ∀ k, 0 < creditOf k
  | 0 => View.dmaCredit_pos _ (by decide)
  | 1 => View.dmaCredit_pos _ (by decide)
  | 2 => View.dmaCredit_pos _ (by decide)
theorem amt_pos : ∀ x, 0 < amt x
  | none => Nat.one_pos
  | some ((k, _, _), _) => creditOf_pos k

theorem credit_slotO : ∀ g j, (slotO g j).view.dmaCredit = creditOf 0 := fun | 0 => fun _ => rfl | 1 => fun _ => rfl
theorem credit_chunkO : ∀ g d r, (chunkO g d r).view.dmaCredit = creditOf 0 := fun | 0 => fun _ _ => rfl | 1 => fun _ _ => rfl
theorem credit_slotS : ∀ g j, (slotS g j).view.dmaCredit = creditOf 1 := fun | 0 => fun _ => rfl | 1 => fun _ => rfl
theorem credit_chunkS : ∀ g d r, (chunkS g d r).view.dmaCredit = creditOf 1 := fun | 0 => fun _ _ => rfl | 1 => fun _ _ => rfl
theorem credit_ctxC : ∀ g d, (ctxC g d).view.dmaCredit = creditOf 2 := fun _ _ => rfl

/-- A wait is allowed while everything owed is at a higher level: send cells (and the staging transfers) lowest, then the
    barrier, then the reduce-scatter's receive cells, then the all-gather's. -/
def lvl : CI → ℕ
  | none => 1
  | some (_, false) => 0
  | some ((2, _, _), true) => 3
  | some (_, true) => 2
def L (g : GSem nD τ sig) : Finset Unit := if g.1.2 = .tc then {()} else ∅
def lv (g : GSem nD τ sig) (_ : Unit) : ℕ := match cellAt g with | some x => lvl x.2 | none => 0

theorem L_of_ne (g : GSem nD τ sig) (h : g.1.2 ≠ .tc) : L g = ∅ := if_neg h
theorem L_tc (c : Dev nD) (s : SemLoc sig) : L ((c : Thread nD τ), s) = {()} := if_pos rfl
theorem lv_kcell (x : Dev nD × CI) : lv (kcell x) () = lvl x.2 := by unfold lv; rw [cellAt_kcell]

/-! ## The schedule -/

variable (I : Dev nD → Ins F)

/-- What device `s` hands the device `d + 1` further on: the landing slots and context rows it will write on `s`. -/
def grant (s : Dev nD) (d : Fin 7) : sProp 𝕄 :=
  iprop((partAny (s : Thread nD τ) (roM 0) (slO d) ∗ partAny (s : Thread nD τ) (rsM 0) (slS d) ∗ partAny (s : Thread nD τ) cM (ctxA 0 (fw s d)))
    ∗ partAny (s : Thread nD τ) (roM 1) (slO d) ∗ partAny (s : Thread nD τ) (rsM 1) (slS d) ∗ partAny (s : Thread nD τ) cM (ctxA 1 (fw s d)))

/-- The share of its context rows a device lends to the transfer to the device `r + 1` further on. -/
abbrev tokSh (r : Fin 7) : PosShare TreeShare := Transfers.shareTok fullShare 7 r

/-- What paying duty `d` of a cell of device `c` hands `c`. -/
def pay (c : Dev nD) : CI → Fin 7 → sProp (MT nD τ sig Unit (Elt F) ℕ UU ℕ)
  | none, d => grant (fw c d.rev) d
  | some ((0, g, r), false), _ => part (c : Thread nD τ) (oM g) (rowsO (fw c r)) fullShare (OW I g c)
  | some ((0, g, r), true), _ => part (c : Thread nD τ) (roM g) (slO r) fullShare (RO I g c)
  | some ((1, g, r), false), _ => part (c : Thread nD τ) (sM g) (rowsS (fw c r)) fullShare (SW I g c)
  | some ((1, g, r), true), _ => part (c : Thread nD τ) (rsM g) (slS r) fullShare (RS I g c)
  | some ((2, g, r), false), _ => part (c : Thread nD τ) cM (ctxA g c) (tokSh r) (CTX I)
  | some ((2, g, r), true), _ => part (c : Thread nD τ) cM (ctxA g (fw c r)) fullShare (CTX I)

instance grant_storable (s : Dev nD) (d : Fin 7) : BI.Storable (upEmb : UEmb _ 𝕄) (grant (F := F) s d) := by unfold grant; infer_instance
instance pay_storable (c : Dev nD) : ∀ (x : CI) (d : Fin 7), BI.Storable (upEmb : UEmb _ 𝕄) (pay I c x d)
  | none, d => by unfold pay; infer_instance
  | some ((0, g, r), false), _ => by unfold pay; infer_instance
  | some ((0, g, r), true), _ => by unfold pay; infer_instance
  | some ((1, g, r), false), _ => by unfold pay; infer_instance
  | some ((1, g, r), true), _ => by unfold pay; infer_instance
  | some ((2, g, r), false), _ => by unfold pay; infer_instance
  | some ((2, g, r), true), _ => by unfold pay; infer_instance

/-- The duties of a cell's one round. -/
def dutiesOf : CI → Finset (Fin 7)
  | none => Finset.univ
  | some _ => {0}

def sched : Rounds.Schedule (GSem nD τ sig) (Fin 7) 𝕄 where
  duties g r := if r = 0 then (match cellAt g with | some x => dutiesOf x.2 | none => ∅) else ∅
  unitless _ := False
  amount g _ _ := match cellAt g with | some x => amt x.2 | none => 1
  payload g _ d := match cellAt g with | some x => pay I x.1 x.2 d | none => iprop(emp)
  amount_pos g _ _ _ := by
    cases cellAt g with
    | none => exact Nat.one_pos
    | some x => exact amt_pos x.2

instance sched_storable (g : GSem nD τ sig) (r : ℕ) (d : Fin 7) : BI.Storable (upEmb : UEmb _ 𝕄) ((sched I).payload g r d) := by
  show BI.Storable upEmb (match cellAt g with | some x => pay I x.1 x.2 d | none => iprop(emp))
  cases cellAt g with
  | none => exact inferInstanceAs (BI.Storable upEmb iprop(emp))
  | some x => exact pay_storable I x.1 x.2 d

section Sched
variable (x : Dev nD × CI)

theorem duties_kcell : (sched I).duties (kcell x) 0 = dutiesOf x.2 := by
  dsimp only [sched]; rw [if_pos rfl, cellAt_kcell]
theorem duties_later (g : GSem nD τ sig) : ∀ r, 1 ≤ r → (sched I).duties g r = ∅ :=
  fun r hr => by dsimp only [sched]; exact if_neg (by omega)
theorem amount_kcell (d : Fin 7) : (sched I).amount (kcell x) 0 d = amt x.2 := by dsimp only [sched]; rw [cellAt_kcell]
theorem payload_kcell (d : Fin 7) : (sched I).payload (kcell x) 0 d = pay I x.1 x.2 d := by dsimp only [sched]; rw [cellAt_kcell]
theorem expect_bar (c : Dev nD) : (sched I).expect (kcell (c, none)) 0 = 7 := by
  unfold Schedule.expect Schedule.amountOf
  rw [duties_kcell, Finset.sum_congr rfl fun d _ => amount_kcell I (c, none) d]; rfl
theorem expect_dma (c : Dev nD) (y : K3 × Bool) : (sched I).expect (kcell (c, some y)) 0 = amt (some y) := by
  unfold Schedule.expect Schedule.amountOf
  rw [duties_kcell]
  exact (Finset.sum_singleton _ _).trans (amount_kcell I (c, some y) 0)
theorem rest_bar (c : Dev nD) : bigSep ((sched I).duties (kcell (c, none)) 0 \ ∅) (fun d => (sched I).payload (kcell (c, none)) 0 d)
    = bigSep Finset.univ fun d => grant (F := F) (fw c d.rev) d := by
  rw [Finset.sdiff_empty, duties_kcell]
  exact bigSep_congr fun d _ => payload_kcell I (c, none) d
theorem rest_dma (c : Dev nD) (y : K3 × Bool) : bigSep ((sched I).duties (kcell (c, some y)) 0 \ ∅) (fun d => (sched I).payload (kcell (c, some y)) 0 d)
    = pay I c (some y) 0 := by
  rw [Finset.sdiff_empty, duties_kcell]
  exact (bigSep_singleton).trans (payload_kcell I (c, some y) 0)
end Sched

/-! ## What is owed -/

/-- The units owed to the listed cells, the first of them peeled first. -/
def tl : List (Dev nD × CI) → CellTallies nD τ sig Unit
  | [] => 0
  | x :: xs => tl xs + tallyAt (kcell x) () (amt x.2)

/-- The cells a device pays: signals, reduce-scatter, all-gather, at the listed distances, then `l`. -/
def owSig (c : Dev nD) (rs : List (Fin 7)) (l : List (Dev nD × CI)) : List (Dev nD × CI) :=
  match rs with
  | [] => l
  | r :: rs => (fw c r, none) :: owSig c rs l
def owRS (g : Fin 2) (c : Dev nD) (rs : List (Fin 7)) (l : List (Dev nD × CI)) : List (Dev nD × CI) :=
  match rs with
  | [] => l
  | r :: rs => (fw c r, some ((0, g, r.rev), true)) :: (fw c r, some ((1, g, r.rev), true)) :: owRS g c rs l
def owAG (g : Fin 2) (c : Dev nD) (rs : List (Fin 7)) (l : List (Dev nD × CI)) : List (Dev nD × CI) :=
  match rs with
  | [] => l
  | r :: rs => (fw c r, some ((2, g, r.rev), true)) :: owAG g c rs l

/-- Everything device `c` owes at launch. -/
def owAll (c : Dev nD) : List (Dev nD × CI) :=
  owSig c all7 (owRS 0 c all7 (owRS 1 c all7 (owAG 0 c all7 (owAG 1 c all7 []))))

theorem tl_pos : ∀ {l : List (Dev nD × CI)} {g : GSem nD τ sig} {u : Unit}, 0 < tl l g u → ∃ x ∈ l, g = kcell x
  | [], g, u, h => absurd h (Nat.lt_irrefl 0)
  | x :: xs, g, u, h => by
    unfold tl at h
    rw [Pi.add_apply, Finsupp.add_apply, tallyAt_apply] at h
    by_cases hx : g = kcell x ∧ u = ()
    · exact ⟨x, List.mem_cons_self, hx.1⟩
    · rw [if_neg hx, Nat.add_zero] at h
      obtain ⟨y, hy, hg⟩ := tl_pos h
      exact ⟨y, List.mem_cons_of_mem _ hy, hg⟩

omit [FloatOps F] in
theorem mayWait_of {c : Dev nD} {s : SemLoc sig} {l : List (Dev nD × CI)} {n : ℕ} (hs : lv ((c : Thread nD τ), s) () ≤ n) (h : ∀ y ∈ l, n < lvl y.2) :
    (levAts L lv : sProp 𝕄) ⊢ MayWait (c : Thread nD τ) s () (tl l) :=
  MayOwe.of_cut (L := L) (lev := lv) n (fun p hp => by rw [Finset.mem_singleton.mp hp, L_tc]; exact Finset.mem_singleton_self _)
    (fun g u hg => by obtain ⟨y, -, rfl⟩ := tl_pos hg; rw [L_tc]; exact Finset.mem_singleton_self _)
    (fun p hp => by rw [Finset.mem_singleton.mp hp]; exact hs)
    (fun g u hg => by obtain ⟨y, hy, rfl⟩ := tl_pos hg; rw [lv_kcell]; exact h y hy)

omit [FloatOps F] in
/-- A device may wait at a cell below everything it owes. -/
theorem mayWait_kcell {c : Dev nD} {x : CI} {l : List (Dev nD × CI)} (h : ∀ y ∈ l, lvl x < lvl y.2) :
    (levAts L lv : sProp 𝕄) ⊢ MayWait (c : Thread nD τ) (csem x) () (tl l) :=
  mayWait_of (n := lvl x) (by rw [lv_kcell (c, x)]) h

theorem mem_owSig {c : Dev nD} {rs l} {y : Dev nD × CI} {n : ℕ} (hn : n < 1) (hl : ∀ y ∈ l, n < lvl y.2) : y ∈ owSig c rs l → n < lvl y.2 := by
  induction rs with
  | nil => exact hl y
  | cons r rs ih =>
    intro h
    rcases List.mem_cons.mp h with rfl | h
    · exact hn
    · exact ih h
theorem mem_owRS {g : Fin 2} {c : Dev nD} {rs l} {y : Dev nD × CI} {n : ℕ} (hn : n < 2) (hl : ∀ y ∈ l, n < lvl y.2) : y ∈ owRS g c rs l → n < lvl y.2 := by
  induction rs with
  | nil => exact hl y
  | cons r rs ih =>
    intro h
    rcases List.mem_cons.mp h with rfl | h
    · exact hn
    rcases List.mem_cons.mp h with rfl | h
    · exact hn
    · exact ih h
theorem mem_owAG {g : Fin 2} {c : Dev nD} {rs l} {y : Dev nD × CI} {n : ℕ} (hn : n < 3) (hl : ∀ y ∈ l, n < lvl y.2) : y ∈ owAG g c rs l → n < lvl y.2 := by
  induction rs with
  | nil => exact hl y
  | cons r rs ih =>
    intro h
    rcases List.mem_cons.mp h with rfl | h
    · exact hn
    · exact ih h

/-- The levels of what is owed before the combinations, at the barrier, and at the start. -/
theorem lvl_ag (c : Dev nD) : ∀ y ∈ owAG 0 c all7 (owAG 1 c all7 []), 2 < lvl y.2 :=
  fun y => mem_owAG (by decide) fun y => mem_owAG (by decide) fun y h => absurd h List.not_mem_nil
theorem lvl_ag1 (c : Dev nD) : ∀ y ∈ owAG 1 c all7 [], 2 < lvl y.2 :=
  fun y => mem_owAG (by decide) fun y h => absurd h List.not_mem_nil
theorem lvl_bar (c : Dev nD) : ∀ y ∈ owRS 0 c all7 (owRS 1 c all7 (owAG 0 c all7 (owAG 1 c all7 []))), 1 < lvl y.2 :=
  fun y => mem_owRS (by decide) fun y => mem_owRS (by decide) fun y h => Nat.lt_of_succ_lt (lvl_ag c y h)
theorem lvl_all (c : Dev nD) : ∀ y ∈ owAll c, 0 < lvl y.2 :=
  fun y => mem_owSig (by decide) fun y h => Nat.lt_of_succ_lt (lvl_bar c y h)

/-! ## What a device knows and holds -/

/-- Every cell's invariant, under the names `K` it was allocated at, and that its round is open. -/
def rec (K : Dev nD × CI → ℕ) : sProp 𝕄 :=
  iprop(levAts L lv ∗ bigSep Finset.univ fun x : Dev nD × CI => iprop(cellInv ER (sched I) (K x) (kcell x) ∗ reached ER (kcell x) 0))

instance rec_persistent (K : Dev nD × CI → ℕ) : BI.Persistent (rec I K) := by unfold rec; infer_instance

theorem rec_cell (K : Dev nD × CI → ℕ) (x : Dev nD × CI) : rec I K ⊢ iprop(cellInv ER (sched I) (K x) (kcell x) ∗ reached ER (kcell x) 0) := by
  unfold rec
  iintro ⟨-, H⟩
  iapply (show (bigSep Finset.univ fun x : Dev nD × CI => (iprop(cellInv ER (sched I) (K x) (kcell x) ∗ reached ER (kcell x) 0) : sProp 𝕄))
    ⊢ iprop(cellInv ER (sched I) (K x) (kcell x) ∗ reached ER (kcell x) 0) from bigSep_elim (Finset.mem_univ x))
  iexact H
theorem rec_lev (K : Dev nD × CI → ℕ) : rec I K ⊢ levAts L lv := by
  unfold rec
  iintro ⟨H, -⟩
  iexact H

/-- What device `c` owes: the listed cells, having waited at whatever it has waited at. -/
def ow (c : Dev nD) (l : List (Dev nD × CI)) : sProp 𝕄 := iprop(∃ W, owes (c : Thread nD τ) (tl l) W)
/-- The token of a cell's duty, the owner's position at a cell, the credit to wait at it, the cell's counter at zero. -/
abbrev tok (x : Dev nD × CI) (d : Fin 7) : sProp (MT nD τ sig Unit (Elt F) ℕ UU ℕ) := dutyTok ER (kcell x) 0 d
abbrev pos (x : Dev nD × CI) : sProp (MT nD τ sig Unit (Elt F) ℕ UU ℕ) := atPos ER (kcell x) 0 ∅ 0
abbrev crd (x : Dev nD × CI) : sProp (MT nD τ sig Unit (Elt F) ℕ UU ℕ) := cred (tallyAt (kcell x) () (amt x.2))
abbrev zed (x : Dev nD × CI) : sProp (MT nD τ sig Unit (Elt F) ℕ UU ℕ) := semVal (kcell x) 0

end Cert.Attn

end
-- ==== Proof.Attn.Steps.lean ====
/-
# One step of the protocol at a time

A signal, a transfer of each kind and a wait, each at any group and distance; then the program's loops of them.
-/
module

public import proofs.«01_k».proof.Proof.Attn.Proto

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

abbrev 𝒱₀ : Variants := Variants.none

/-- The run of the rest of device `c`'s program. -/
abbrev wpc (c : Dev nD) (p : Pg F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ p Q

variable (I : Dev nD → Ins F) (K : Dev nD × CI → ℕ) {Q : PUnit → sProp (MT nD τ sig Unit (Elt F) ℕ UU ℕ)}

/-- A signal to the device `r + 1` further on, handing it what it will write here. -/
theorem step_sig {c n : Dev nD} {r : Fin 7} (hn : n = fw c r) {l : List (Dev nD × CI)} {k : PUnit → Pg F} :
    iprop(rec I K ∗ tok (F := F) (fw c r, none) r ∗ grant (F := F) c r ∗ ow c ((fw c r, none) :: l))
      ⊢ iprop((ow c l -∗ wpc c (k ⟨⟩) Q) -∗ wpc c (op (.semSignal ((n : Dev nD), .tc) barS (1#32).toInt) k) Q) := by
  subst hn
  iintro ⟨#Hrec, Ht, Hg, Ho⟩ Hk
  unfold ow
  icases Ho with ⟨%W, HO⟩
  ihave Hc := (rec_cell I K (fw c r, none)) $$ Hrec
  icases Hc with ⟨#Hi, #Hr⟩
  have hp : grant (F := F) c r = (sched I).payload (((fw c r : Dev nD) : Thread nD τ), SemLoc.reg barS) 0 r := by
    rw [show (((fw c r : Dev nD) : Thread nD τ), SemLoc.reg barS) = kcell (fw c r, none) from rfl, payload_kcell]
    show _ = grant (fw (fw c r) r.rev) r
    rw [fw_fw_rev]
  iapply (Rounds.wp_signal 𝒱₀ ER (sched I) (c : Thread nD τ) none (dst := (fw c r : Thread nD τ)) (sem := barS) (κ := K (fw c r, none)) (r := 0) (d := r)
    (by rw [show (((fw c r : Dev nD) : Thread nD τ), SemLoc.reg barS) = kcell (fw c r, none) from rfl, duties_kcell]; exact Finset.mem_univ _)
    ((amount_kcell I (fw c r, none) r).trans (show (1 : ℕ) = (1#32).toNat from by decide)) () (tl l) rfl) $$ [HO Ht Hg]
  · isplitr; · iexact Hi
    isplitl [HO]; · iexact HO
    isplitl [Ht]; · iexact Ht
    isplitl [Hg]
    · iapply (Entails.of_eq hp); iexact Hg
    iexact Hr
  iintro HO
  iapply Hk
  iexists W; iexact HO

/-- A transfer from device `c` onto cell `b` of device `n`, its departure counted at cell `a`. -/
theorem step_send {c n : Dev nD} {y z : K3 × Bool} {s : Shape} {e : EltTy} {src : Memref sig .tc .vmem s e} {dst : Memref sig (Dev.tc n : Thread nD τ).2.kind .vmem s e} {sS dS : DmaSem sig}
    (hS : csem (some y) = .dma sS) (hD : csem (some z) = .dma dS)
    {hsc : dst.view.ref.isScScratch = false} {hsrc : src.view.WordExact} {hdst : dst.view.WordExact}
    {hsem : DmaTarget.Typed .vmem (.dma dS) (.remote (Dev.tc n : Thread nD τ) dst (.dma sS) hsc)}
    {q : PosShare TreeShare} {fs : Buf (Elt F) (src.view.loc (c : Thread nD τ))} (fd : Buf (Elt F) (dst.view.loc (n : Thread nD τ)))
    (hN : dst.view.dmaCredit = amt (some z)) (hNy : amt (some y) = amt (some z)) {l : List (Dev nD × CI)} {k : PUnit → Pg F}
    (hp₁ : (src.view.loc (c : Thread nD τ) ↦[src.view.set]{q} fs : sProp 𝕄) ⊢ pay I c (some y) 0)
    (hp₂ : (dst.view.loc (n : Thread nD τ) ↦[dst.view.set]{fullShare} dst.view.write (Elt F) fd (src.view.read (Elt F) fs) Finset.univ : sProp 𝕄) ⊢ pay I n (some z) 0) :
    iprop(rec I K ∗ (src.view.loc (c : Thread nD τ) ↦[src.view.set]{q} fs) ∗ (dst.view.loc (n : Thread nD τ) ↦[dst.view.set]{fullShare} fd)
        ∗ tok (F := F) (c, some y) 0 ∗ tok (F := F) (n, some z) 0 ∗ ow c ((n, some z) :: l))
      ⊢ iprop(((crd (F := F) (c, some y) ∗ ow c l) -∗ wpc c (k ⟨⟩) Q)
        -∗ wpc c (op (.enqueueDma src (.remote (Dev.tc n) dst (.dma sS) hsc) (.dma dS) hsrc hdst hsem) k) Q) := by
  iintro ⟨#Hrec, Hs, Hd, Hty, Htz, Ho⟩ Hk
  unfold ow
  icases Ho with ⟨%W, HO⟩
  ihave Hc := (rec_cell I K (c, some y)) $$ Hrec
  icases Hc with ⟨#Hiy, #Hry⟩
  ihave Hc := (rec_cell I K (n, some z)) $$ Hrec
  icases Hc with ⟨#Hiz, #Hrz⟩
  have hy : kcell (c, some y) = ((c : Thread nD τ), SemLoc.dma sS) := congrArg (Prod.mk _) hS
  have hz : kcell (n, some z) = ((n : Thread nD τ), SemLoc.dma dS) := congrArg (Prod.mk _) hD
  have e1 : (sched I).duties (kcell (c, some y)) 0 = {0} := duties_kcell I (c, some y)
  have e2 : (sched I).duties (kcell (n, some z)) 0 = {0} := duties_kcell I (n, some z)
  have a1 : (sched I).amount (kcell (c, some y)) 0 0 = amt (some y) := amount_kcell I (c, some y) 0
  have a2 : (sched I).amount (kcell (n, some z)) 0 0 = amt (some z) := amount_kcell I (n, some z) 0
  have p1 : (sched I).payload (kcell (c, some y)) 0 0 = pay I c (some y) 0 := payload_kcell I (c, some y) 0
  have p2 : (sched I).payload (kcell (n, some z)) 0 0 = pay I n (some z) 0 := payload_kcell I (n, some z) 0
  have t1 : tl ((n, some z) :: l) = tl l + tallyAt (kcell (n, some z)) () (amt (some z)) := rfl
  rw [t1]
  unfold crd tok
  dsimp only [] at *
  rw [hy] at *
  rw [hz] at *
  iapply (Rounds.wp_send_pointsTo 𝒱₀ ER (sched I) (c : Thread nD τ) none (κ₁ := K (c, some y)) (κ₂ := K (n, some z))
    (r₁ := 0) (r₂ := 0) (d₁ := 0) (d₂ := 0) (fd := fd) (by rw [e1]; exact Finset.mem_singleton_self _) (by rw [e2]; exact Finset.mem_singleton_self _)
    () () (amt (some z)) (show dst.view.amount (.dma dS) = _ from hN) (a1.trans hNy) a2 (tl l) rfl (W := W) (hp₁.trans (Entails.of_eq p1.symm)) (hp₂.trans (Entails.of_eq p2.symm))) $$ [Hs Hd HO Hty Htz]
  · isplitr; · iexact Hiy
    isplitr; · iexact Hiz
    isplitl [Hs]; · iexact Hs
    isplitl [Hd]; · iexact Hd
    isplitl [HO]; · iexact HO
    isplitl [Hty]; · iexact Hty
    isplitr; · iexact Hry
    isplitl [Htz]; · iexact Htz
    iexact Hrz
  iintro ⟨Hc, HO⟩
  iapply Hk
  isplitl [Hc]
  · rw [hNy]; iexact Hc
  iexists W; iexact HO

/-- A wait at a transfer's cell: what was handed over comes back, and the cell is closed. -/
theorem step_wait {c : Dev nD} {y : K3 × Bool} {s s' : Shape} {e e' : EltTy} {sp sp' : Space} {src : Memref sig .tc sp s e} {dst : Memref sig .tc sp' s' e'} {sS : DmaSem sig}
    {hs : src.view.WordExact} {hd : dst.view.WordExact}
    (hS : csem (some y) = .dma sS) (hN : dst.view.dmaCredit = amt (some y)) {l : List (Dev nD × CI)} (hl : ∀ x ∈ l, lvl (some y) < lvl x.2) {k : PUnit → Pg F} :
    iprop(rec I K ∗ crd (F := F) (c, some y) ∗ pos (F := F) (c, some y) ∗ ow c l)
      ⊢ iprop(((pay I c (some y) 0 ∗ zed (F := F) (c, some y) ∗ ow c l) -∗ wpc c (k ⟨⟩) Q)
        -∗ wpc c (op (.waitDma2 sS src dst hs hd) k) Q) := by
  iintro ⟨#Hrec, Hc, Hp, Ho⟩ Hk
  unfold ow
  icases Ho with ⟨%W, HO⟩
  ihave Hi := (rec_cell I K (c, some y)) $$ Hrec
  icases Hi with ⟨#Hi, -⟩
  ihave #Hlev := (rec_lev I K) $$ Hrec
  have hy : kcell (c, some y) = ((c : Thread nD τ), SemLoc.dma sS) := congrArg (Prod.mk _) hS
  have ex : (sched I).expect (kcell (c, some y)) 0 = amt (some y) := expect_dma I c y
  have re := rest_dma I c y
  have la := duties_later I (kcell (c, some y))
  have mw : (levAts L lv : sProp 𝕄) ⊢ MayWait (c : Thread nD τ) (csem (some y)) () (tl l) := mayWait_kcell hl
  unfold crd pos zed
  dsimp only [] at *
  rw [hS] at mw
  rw [hy] at *
  rw [← hN] at ex
  rw [← hN]
  iapply (Rounds.wp_wait_rest_token 𝒱₀ ER (sched I) (c : Thread nD τ) none (κ := K (c, some y))
    (wpE_waitDma2_eq 𝒱₀ (c : Thread nD τ) none Set.univ) (Set.mem_univ _) () (O := tl l) (W := W) (R := 0) (m := 0) (T := ∅)
    (by rw [Nat.zero_add, ex])) $$ [Hc HO Hp]
  · isplitr; · iexact Hi
    isplitl [Hc]; · iexact Hc
    isplitl [HO]; · iexact HO
    isplitr; · iapply mw; iexact Hlev
    iexact Hp
  iintro ⟨HO, Hp, -, Hpay⟩
  imod (Rounds.cell_close ER (sched I) (Set.mem_univ (K (c, some y))) (fun h => h) (R := 0 + 1) la) $$ [Hp] with Hz
  · isplitr; · iexact Hi
    iexact Hp
  iapply Hk
  isplitl [Hpay]; · iapply (Entails.of_eq re); iexact Hpay
  isplitl [Hz]; · iexact Hz
  iexists _; iexact HO

/-- The wait at the barrier: everyone's grant. -/
theorem step_bar {c : Dev nD} {l : List (Dev nD × CI)} (hl : ∀ x ∈ l, 1 < lvl x.2) {k : PUnit → Pg F} :
    iprop(rec I K ∗ cred (tallyAt (kcell (c, none)) () 7) ∗ pos (F := F) (c, none) ∗ ow c l)
      ⊢ iprop((((bigSep Finset.univ fun d => grant (F := F) (fw c d.rev) d) ∗ zed (F := F) (c, none) ∗ ow c l) -∗ wpc c (k ⟨⟩) Q)
        -∗ wpc c (op (.semWait barS (7#32).toInt) k) Q) := by
  iintro ⟨#Hrec, Hc, Hp, Ho⟩ Hk
  unfold ow
  icases Ho with ⟨%W, HO⟩
  ihave Hi := (rec_cell I K (c, none)) $$ Hrec
  icases Hi with ⟨#Hi, -⟩
  ihave #Hlev := (rec_lev I K) $$ Hrec
  have mw : (levAts L lv : sProp 𝕄) ⊢ MayWait (c : Thread nD τ) (csem none) () (tl l) := mayWait_kcell hl
  iapply (Rounds.wp_wait_rest_token 𝒱₀ ER (sched I) (c : Thread nD τ) none (κ := K (c, none)) (sm := .reg barS)
    (wpE_semWait_eq 𝒱₀ (c : Thread nD τ) none Set.univ) (Set.mem_univ _) () (O := tl l) (W := W) (R := 0) (m := 0) (T := ∅)
    (by rw [show (((c : Dev nD) : Thread nD τ), SemLoc.reg barS) = kcell (c, none) from rfl, expect_bar]; decide)) $$ [Hc HO Hp]
  · isplitr; · iexact Hi
    isplitl [Hc]; · iexact Hc
    isplitl [HO]; · iexact HO
    isplitr; · iapply mw; iexact Hlev
    iexact Hp
  iintro ⟨HO, Hp, -, Hpay⟩
  imod (Rounds.cell_close ER (sched I) (Set.mem_univ (K (c, none))) (fun h => h) (R := 0 + 1) (duties_later I (kcell (c, none)))) $$ [Hp] with Hz
  · isplitr; · iexact Hi
    iexact Hp
  iapply Hk
  isplitl [Hpay]; · iapply (Entails.of_eq (rest_bar I c)); iexact Hpay
  isplitl [Hz]; · iexact Hz
  iexists _; iexact HO

end Cert.Attn

end
-- ==== Proof.Attn.Sends.lean ====
/-
# The transfers

What each transfer writes where it lands, and the transfer of one chunk of accumulators, of statistics and of the context.
-/
module

public import proofs.«01_k».proof.Proof.Attn.Steps

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (I : Dev nD → Ins F) (K : Dev nD × CI → ℕ) {Q : PUnit → sProp (MT nD τ sig Unit (Elt F) ℕ UU ℕ)}

/-- An index of a rectangle lies at the offset plus the index. -/
theorem emb_val {s : Shape} {o n : Fin s.rank → ℕ} {inb} (y : (Rect.unit (s := s) o n inb).shape.Idx) (a : Fin s.rank) :
    ((Rect.unit (s := s) o n inb).emb y a).val = o a + (y a).val := by
  rw [Rect.emb_apply]; exact congrArg (o a + ·) (Nat.one_mul _)

theorem emb_at {s : Shape} {o o' n : Fin s.rank → ℕ} {inb} (ho : o = o') (y : (Rect.unit (s := s) o n inb).shape.Idx) (a : Fin s.rank) :
    ((Rect.unit (s := s) o n inb).emb y a).val = o' a + (y a).val := by subst ho; exact emb_val y a

abbrev rcO (c : Dev nD) (r : Fin 7) : Rect S2x512x256 := Rect.unit (k0_off1 c (BitVec.ofNat 32 (1 + r.val))) S2x64x256.size (k0_off1_inb c r)
abbrev rcS (c : Dev nD) (r : Fin 7) : Rect S512x16 := Rect.unit (k0_off2 c (BitVec.ofNat 32 (1 + r.val))) S64x16.size (k0_off2_inb c r)
abbrev rlO (j : Fin 7) : Rect S7x2x64x256 := Rect.unit ![j.val, 0, 0, 0] S1x2x64x256.size (inb_slotO j)
abbrev rlS (j : Fin 7) : Rect S7x64x16 := Rect.unit ![j.val, 0, 0] S1x64x16.size (inb_slotS j)
abbrev rcC (g : Fin 2) (c : Dev nD) : Rect S2x512x512 := Rect.unit (agOff g c) S2x64x256.size (agOff_inb g c)

/-- What a chunk of accumulators holds, and where it lands. -/
theorem chunkO_row (g : Fin 2) (c : Dev nD) (r : Fin 7) (y : S2x64x256.Idx) :
    (Rect.unit (s := S2x512x256) (k0_off1 c (BitVec.ofNat 32 (1 + r.val))) S2x64x256.size (k0_off1_inb c r)).emb y = ix3 (y 0) (row (fw c r) (y 1)) (y 2) := by
  funext a
  apply Fin.ext
  refine (emb_at (k0_off1_eq c r) y a).trans ?_
  match a with
  | ⟨0, _⟩ => exact Nat.zero_add _
  | ⟨1, _⟩ => show 64 * _ + (y 1).val = 64 * (fw c r).val + (y 1).val; rw [fw_val]
  | ⟨2, _⟩ => exact Nat.zero_add _

theorem chunkS_row (c : Dev nD) (r : Fin 7) (y : S64x16.Idx) :
    (Rect.unit (s := S512x16) (k0_off2 c (BitVec.ofNat 32 (1 + r.val))) S64x16.size (k0_off2_inb c r)).emb y = ix2 (row (fw c r) (y 0)) (y 1) := by
  funext a
  apply Fin.ext
  refine (emb_at (k0_off2_eq c r) y a).trans ?_
  match a with
  | ⟨0, _⟩ => show 64 * _ + (y 0).val = 64 * (fw c r).val + (y 0).val; rw [fw_val]
  | ⟨1, _⟩ => exact Nat.zero_add _

/-- The chunk for the device `r + 1` further on lands in that device's slot as its rows of what device `c` holds. -/
theorem land_O (g : Fin 2) (c : Dev nD) (r : Fin 7) (fs : Buf (Elt F) ((chunkO g c r).view.loc (c : Thread nD τ)))
    (hfs : (chunkO g c r).view.read (Elt F) fs
      = fun x => OW I g c ((Rect.unit (s := S2x512x256) (k0_off1 c (BitVec.ofNat 32 (1 + r.val))) S2x64x256.size (k0_off1_inb c r)).emb x))
    (fd : Buf (Elt F) ((slotO g r.rev).view.loc (fw c r : Thread nD τ))) (x : S1x2x64x256.Idx) :
    ((roM g).slice (Rect.unit (s := S7x2x64x256) ![r.rev.val, 0, 0, 0] S1x2x64x256.size (inb_slotO r.rev)) (fun _ => rfl)).view.read (Elt F)
        ((slotO g r.rev).view.write (Elt F) fd ((chunkO g c r).view.read (Elt F) fs) Finset.univ) x
      = RO I g (fw c r) ((Rect.unit (s := S7x2x64x256) ![r.rev.val, 0, 0, 0] S1x2x64x256.size (inb_slotO r.rev)).emb x) := by
  have hx : x = ix4 (⟨0, Nat.one_pos⟩ : Fin 1) (x 1) (x 2) (x 3) := by
    funext a
    match a with
    | ⟨0, _⟩ => exact Fin.ext (by have : (x 0).val < 1 := (x 0).isLt; show (x 0).val = 0; omega)
    | ⟨1, _⟩ => rfl
    | ⟨2, _⟩ => rfl
    | ⟨3, _⟩ => rfl
  have h1 := congrFun (View.read_write_univ (v := (slotO g r.rev).view) fd ((chunkO g c r).view.read (Elt F) fs)) (ix3 (x 1) (x 2) (x 3))
  have h2 : (Rect.unit (s := S7x2x64x256) ![r.rev.val, 0, 0, 0] S1x2x64x256.size (inb_slotO r.rev)).emb x = ix4 r.rev (x 1) (x 2) (x 3) := by
    funext a
    apply Fin.ext
    rw [emb_val]
    match a with
    | ⟨0, _⟩ => show r.rev.val + (x 0).val = r.rev.val; have : (x 0).val < 1 := (x 0).isLt; omega
    | ⟨1, _⟩ => exact Nat.zero_add _
    | ⟨2, _⟩ => exact Nat.zero_add _
    | ⟨3, _⟩ => exact Nat.zero_add _
  rw [h2]
  refine Eq.trans ?_ (h1.trans ?_)
  · have h3 := reshapeEquiv_ix3_1abc (a := 2) (b := 64) (c := 256) (by decide) (x 1) (x 2) (x 3)
    exact Eq.trans (congrArg _ (Eq.symm (h3.trans hx.symm))) rfl
  · rw [hfs]
    show OW I g c _ = OW I g (fw (fw c r) r.rev) (ix3 (x 1) (row (fw c r) (x 2)) (x 3))
    rw [fw_fw_rev]
    exact congrArg _ (chunkO_row g c r _)

theorem land_S (g : Fin 2) (c : Dev nD) (r : Fin 7) (fs : Buf (Elt F) ((chunkS g c r).view.loc (c : Thread nD τ)))
    (hfs : (chunkS g c r).view.read (Elt F) fs
      = fun x => SW I g c ((Rect.unit (s := S512x16) (k0_off2 c (BitVec.ofNat 32 (1 + r.val))) S64x16.size (k0_off2_inb c r)).emb x))
    (fd : Buf (Elt F) ((slotS g r.rev).view.loc (fw c r : Thread nD τ))) (x : S1x64x16.Idx) :
    ((rsM g).slice (Rect.unit (s := S7x64x16) ![r.rev.val, 0, 0] S1x64x16.size (inb_slotS r.rev)) (fun _ => rfl)).view.read (Elt F)
        ((slotS g r.rev).view.write (Elt F) fd ((chunkS g c r).view.read (Elt F) fs) Finset.univ) x
      = RS I g (fw c r) ((Rect.unit (s := S7x64x16) ![r.rev.val, 0, 0] S1x64x16.size (inb_slotS r.rev)).emb x) := by
  have hx : x = ix3 (⟨0, Nat.one_pos⟩ : Fin 1) (x 1) (x 2) := by
    funext a
    match a with
    | ⟨0, _⟩ => exact Fin.ext (by have : (x 0).val < 1 := (x 0).isLt; show (x 0).val = 0; omega)
    | ⟨1, _⟩ => rfl
    | ⟨2, _⟩ => rfl
  have h1 := congrFun (View.read_write_univ (v := (slotS g r.rev).view) fd ((chunkS g c r).view.read (Elt F) fs)) (ix2 (x 1) (x 2))
  have h2 : (Rect.unit (s := S7x64x16) ![r.rev.val, 0, 0] S1x64x16.size (inb_slotS r.rev)).emb x = ix3 r.rev (x 1) (x 2) := by
    funext a
    apply Fin.ext
    rw [emb_val]
    match a with
    | ⟨0, _⟩ => show r.rev.val + (x 0).val = r.rev.val; have : (x 0).val < 1 := (x 0).isLt; omega
    | ⟨1, _⟩ => exact Nat.zero_add _
    | ⟨2, _⟩ => exact Nat.zero_add _
  rw [h2]
  refine Eq.trans ?_ (h1.trans ?_)
  · have h3 := reshapeEquiv_ix2_1ab (a := 64) (b := 16) (by decide) (x 1) (x 2)
    exact Eq.trans (congrArg _ (Eq.symm (h3.trans hx.symm))) rfl
  · rw [hfs]
    show SW I g c _ = SW I g (fw (fw c r) r.rev) (ix2 (row (fw c r) (x 1)) (x 2))
    rw [fw_fw_rev]
    exact congrArg _ (chunkS_row c r _)

/-- One chunk of accumulators sent. -/
theorem send_O (g : Fin 2) (c n : Dev nD) (r : Fin 7) (hn : n = fw c r) {hsc} {hsrc} {hdst} {hsem} {l : List (Dev nD × CI)} {k : PUnit → Pg F} :
    iprop(rec I K ∗ part (c : Thread nD τ) (oM g) (rowsO (fw c r)) fullShare (OW I g c) ∗ partAny (Val := Elt F) (fw c r : Thread nD τ) (roM g) (slO r.rev)
        ∗ tok (F := F) (c, some ((0, g, r), false)) 0 ∗ tok (F := F) (fw c r, some ((0, g, r.rev), true)) 0 ∗ ow c ((fw c r, some ((0, g, r.rev), true)) :: l))
      ⊢ iprop(((crd (F := F) (c, some ((0, g, r), false)) ∗ ow c l) -∗ wpc c (k ⟨⟩) Q)
        -∗ wpc c (op (.enqueueDma (chunkO g c r) (.remote (Dev.tc n) (slotO g r.rev) (.dma (sm 0 g r)) hsc) (.dma (sm 1 g r.rev)) hsrc hdst hsem) k) Q) := by
  subst hn
  unfold partAny
  iintro ⟨#Hrec, Hs, ⟨%X, Hd⟩, Ht1, Ht2, Ho⟩
  rw [← set_chunkO, ← set_slotO]
  ihave Hs' := (part_slice _ (fun _ => rfl)) $$ Hs
  icases Hs' with ⟨%fs, %hfs, Hs⟩
  ihave Hd' := (part_squeeze (s' := S2x64x256) _ (fun _ => rfl) squeezes_S1x2x64x256_S2x64x256) $$ Hd
  icases Hd' with ⟨%fd, Hd⟩
  have hp₁ : ((chunkO g c r).view.loc (c : Thread nD τ) ↦[(chunkO g c r).view.set]{fullShare} fs : sProp 𝕄) ⊢ pay I c (some ((0, g, r), false)) 0 := by
    show _ ⊢ part (c : Thread nD τ) (oM g) (rowsO (fw c r)) fullShare (OW I g c)
    rw [← set_chunkO]
    exact slice_part (c := (c : Thread nD τ)) (m := oM g) (q := fullShare) (X := OW I g c) (rcO c r) (fun _ => rfl) (f := fs) (congrFun hfs)
  have hp₂ : ((slotO g r.rev).view.loc (fw c r : Thread nD τ) ↦[(slotO g r.rev).view.set]{fullShare}
      (slotO g r.rev).view.write (Elt F) fd ((chunkO g c r).view.read (Elt F) fs) Finset.univ : sProp 𝕄) ⊢ pay I (fw c r) (some ((0, g, r.rev), true)) 0 := by
    show _ ⊢ part (fw c r : Thread nD τ) (roM g) (slO r.rev) fullShare (RO I g (fw c r))
    rw [← set_slotO]
    exact squeeze_part (c := (fw c r : Thread nD τ)) (m := roM g) (q := fullShare) (X := RO I g (fw c r)) (rlO r.rev) (fun _ => rfl) squeezes_S1x2x64x256_S2x64x256 (f := _) (land_O I g c r fs hfs fd)
  have hN : (slotO g r.rev).view.dmaCredit = amt (some ((0, g, r.rev), true)) := credit_slotO g r.rev
  have hNy : amt (some ((0, g, r), false)) = amt (some ((0, g, r.rev), true)) := rfl
  have hS : csem (some ((0, g, r), false)) = .dma (sm 0 g r) := rfl
  have hD : csem (some ((0, g, r.rev), true)) = .dma (sm 1 g r.rev) := rfl
  iapply (step_send I K (c := c) (n := fw c r) (y := ((0, g, r), false)) (z := ((0, g, r.rev), true)) (src := chunkO g c r) (dst := slotO g r.rev) (sS := sm 0 g r) (dS := sm 1 g r.rev) hS hD
    (hsc := hsc) (hsrc := hsrc) (hdst := hdst) (hsem := hsem) (fs := fs) fd hN hNy (k := k) hp₁ hp₂)
  isplitr; · iexact Hrec
  isplitl [Hs]; · iexact Hs
  isplitl [Hd]; · iexact Hd
  isplitl [Ht1]; · iexact Ht1
  isplitl [Ht2]; · iexact Ht2
  iexact Ho

/-- One chunk of statistics sent. -/
theorem send_S (g : Fin 2) (c n : Dev nD) (r : Fin 7) (hn : n = fw c r) {hsc} {hsrc} {hdst} {hsem} {l : List (Dev nD × CI)} {k : PUnit → Pg F} :
    iprop(rec I K ∗ part (c : Thread nD τ) (sM g) (rowsS (fw c r)) fullShare (SW I g c) ∗ partAny (Val := Elt F) (fw c r : Thread nD τ) (rsM g) (slS r.rev)
        ∗ tok (F := F) (c, some ((1, g, r), false)) 0 ∗ tok (F := F) (fw c r, some ((1, g, r.rev), true)) 0 ∗ ow c ((fw c r, some ((1, g, r.rev), true)) :: l))
      ⊢ iprop(((crd (F := F) (c, some ((1, g, r), false)) ∗ ow c l) -∗ wpc c (k ⟨⟩) Q)
        -∗ wpc c (op (.enqueueDma (chunkS g c r) (.remote (Dev.tc n) (slotS g r.rev) (.dma (sm 2 g r)) hsc) (.dma (sm 3 g r.rev)) hsrc hdst hsem) k) Q) := by
  subst hn
  unfold partAny
  iintro ⟨#Hrec, Hs, ⟨%X, Hd⟩, Ht1, Ht2, Ho⟩
  rw [← set_chunkS, ← set_slotS]
  ihave Hs' := (part_slice _ (fun _ => rfl)) $$ Hs
  icases Hs' with ⟨%fs, %hfs, Hs⟩
  ihave Hd' := (part_squeeze (s' := S64x16) _ (fun _ => rfl) squeezes_S1x64x16_S64x16) $$ Hd
  icases Hd' with ⟨%fd, Hd⟩
  have hp₁ : ((chunkS g c r).view.loc (c : Thread nD τ) ↦[(chunkS g c r).view.set]{fullShare} fs : sProp 𝕄) ⊢ pay I c (some ((1, g, r), false)) 0 := by
    show _ ⊢ part (c : Thread nD τ) (sM g) (rowsS (fw c r)) fullShare (SW I g c)
    rw [← set_chunkS]
    exact slice_part (c := (c : Thread nD τ)) (m := sM g) (q := fullShare) (X := SW I g c) (rcS c r) (fun _ => rfl) (f := fs) (congrFun hfs)
  have hp₂ : ((slotS g r.rev).view.loc (fw c r : Thread nD τ) ↦[(slotS g r.rev).view.set]{fullShare}
      (slotS g r.rev).view.write (Elt F) fd ((chunkS g c r).view.read (Elt F) fs) Finset.univ : sProp 𝕄) ⊢ pay I (fw c r) (some ((1, g, r.rev), true)) 0 := by
    show _ ⊢ part (fw c r : Thread nD τ) (rsM g) (slS r.rev) fullShare (RS I g (fw c r))
    rw [← set_slotS]
    exact squeeze_part (c := (fw c r : Thread nD τ)) (m := rsM g) (q := fullShare) (X := RS I g (fw c r)) (rlS r.rev) (fun _ => rfl) squeezes_S1x64x16_S64x16 (f := _) (land_S I g c r fs hfs fd)
  have hN : (slotS g r.rev).view.dmaCredit = amt (some ((1, g, r.rev), true)) := credit_slotS g r.rev
  have hNy : amt (some ((1, g, r), false)) = amt (some ((1, g, r.rev), true)) := rfl
  have hS : csem (some ((1, g, r), false)) = .dma (sm 2 g r) := rfl
  have hD : csem (some ((1, g, r.rev), true)) = .dma (sm 3 g r.rev) := rfl
  iapply (step_send I K (c := c) (n := fw c r) (y := ((1, g, r), false)) (z := ((1, g, r.rev), true)) (src := chunkS g c r) (dst := slotS g r.rev) (sS := sm 2 g r) (dS := sm 3 g r.rev) hS hD
    (hsc := hsc) (hsrc := hsrc) (hdst := hdst) (hsem := hsem) (fs := fs) fd hN hNy (k := k) hp₁ hp₂)
  isplitr; · iexact Hrec
  isplitl [Hs]; · iexact Hs
  isplitl [Hd]; · iexact Hd
  isplitl [Ht1]; · iexact Ht1
  isplitl [Ht2]; · iexact Ht2
  iexact Ho

/-- The own context rows sent: they land at the same place, where they are the same values. -/
theorem send_C (g : Fin 2) (c n : Dev nD) (r : Fin 7) (hn : n = fw c r) {hsc} {hsrc} {hdst} {hsem} {l : List (Dev nD × CI)} {k : PUnit → Pg F} :
    iprop(rec I K ∗ part (c : Thread nD τ) cM (ctxA g c) (tokSh r) (CTX I) ∗ partAny (Val := Elt F) (fw c r : Thread nD τ) cM (ctxA g c)
        ∗ tok (F := F) (c, some ((2, g, r), false)) 0 ∗ tok (F := F) (fw c r, some ((2, g, r.rev), true)) 0 ∗ ow c ((fw c r, some ((2, g, r.rev), true)) :: l))
      ⊢ iprop(((crd (F := F) (c, some ((2, g, r), false)) ∗ ow c l) -∗ wpc c (k ⟨⟩) Q)
        -∗ wpc c (op (.enqueueDma (ctxC g c) (.remote (Dev.tc n) (ctxC g c) (.dma (sm 4 g r)) hsc) (.dma (sm 5 g r.rev)) hsrc hdst hsem) k) Q) := by
  subst hn
  unfold partAny
  iintro ⟨#Hrec, Hs, ⟨%X, Hd⟩, Ht1, Ht2, Ho⟩
  rw [← set_ctxC]
  ihave Hs' := (part_slice _ (fun _ => rfl)) $$ Hs
  icases Hs' with ⟨%fs, %hfs, Hs⟩
  ihave Hd' := (part_slice _ (fun _ => rfl)) $$ Hd
  icases Hd' with ⟨%fd, %hfd, Hd⟩
  have hp₁ : ((ctxC g c).view.loc (c : Thread nD τ) ↦[(ctxC g c).view.set]{tokSh r} fs : sProp 𝕄) ⊢ pay I c (some ((2, g, r), false)) 0 := by
    show _ ⊢ part (c : Thread nD τ) cM (ctxA g c) (tokSh r) (CTX I)
    rw [← set_ctxC]
    exact slice_part (c := (c : Thread nD τ)) (m := cM) (q := tokSh r) (X := CTX I) (rcC g c) (fun _ => rfl) (f := fs) (congrFun hfs)
  have hp₂ : ((ctxC g c).view.loc (fw c r : Thread nD τ) ↦[(ctxC g c).view.set]{fullShare}
      (ctxC g c).view.write (Elt F) fd ((ctxC g c).view.read (Elt F) fs) Finset.univ : sProp 𝕄) ⊢ pay I (fw c r) (some ((2, g, r.rev), true)) 0 := by
    show _ ⊢ part (fw c r : Thread nD τ) cM (ctxA g (fw (fw c r) r.rev)) fullShare (CTX I)
    rw [fw_fw_rev, ← set_ctxC]
    exact slice_part (c := (fw c r : Thread nD τ)) (m := cM) (q := fullShare) (X := CTX I) (rcC g c) (fun _ => rfl) (f := _)
      fun x => (congrFun (View.read_write_univ (v := (ctxC g c).view) fd _) x).trans (congrFun hfs x)
  have hN : (ctxC g c).view.dmaCredit = amt (some ((2, g, r.rev), true)) := credit_ctxC g c
  have hNy : amt (some ((2, g, r), false)) = amt (some ((2, g, r.rev), true)) := rfl
  have hS : csem (some ((2, g, r), false)) = .dma (sm 4 g r) := rfl
  have hD : csem (some ((2, g, r.rev), true)) = .dma (sm 5 g r.rev) := rfl
  iapply (step_send I K (c := c) (n := fw c r) (y := ((2, g, r), false)) (z := ((2, g, r.rev), true)) (src := ctxC g c) (dst := ctxC g c) (sS := sm 4 g r) (dS := sm 5 g r.rev) hS hD
    (hsc := hsc) (hsrc := hsrc) (hdst := hdst) (hsem := hsem) (fs := fs) fd hN hNy (k := k) hp₁ hp₂)
  isplitr; · iexact Hrec
  isplitl [Hs]; · iexact Hs
  isplitl [Hd]; · iexact Hd
  isplitl [Ht1]; · iexact Ht1
  isplitl [Ht2]; · iexact Ht2
  iexact Ho

end Cert.Attn

end
-- ==== Proof.Attn.Loops.lean ====
/-
# The program's loops

Each loop over the distances, from what it needs at each distance to what it leaves there.
-/
module

public import proofs.«01_k».proof.Proof.Attn.Sends

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (I : Dev nD → Ins F) (K : Dev nD × CI → ℕ) {Q : PUnit → sProp (MT nD τ sig Unit (Elt F) ℕ UU ℕ)}

/-! ## Signals -/

/-- The signals: each device gets its grant. -/
theorem wp_sigs (c : Dev nD) (l : List (Dev nD × CI)) (kk : Pg F) : ∀ rs : List (Fin 7),
    iprop(rec I K ∗ sepL rs (fun r => iprop(tok (F := F) (fw c r, none) r ∗ grant (F := F) c r)) ∗ ow c (owSig c rs l))
      ⊢ iprop((ow c l -∗ wpc c kk Q) -∗ wpc c (sigs c rs kk) Q)
  | [] => by
    iintro ⟨-, -, Ho⟩ Hk
    iapply Hk; iexact Ho
  | r :: rs => by
    unfold sepL
    iintro ⟨#Hrec, ⟨⟨Ht, Hg⟩, Hs⟩, Ho⟩ Hk
    unfold sigs
    iapply (step_sig I K (dvSig_eq r c) (l := owSig c rs l)) $$ [Ht Hg Ho]
    · isplitr; · iexact Hrec
      isplitl [Ht]; · iexact Ht
      isplitl [Hg]; · iexact Hg
      iexact Ho
    iintro Ho
    iapply (wp_sigs c l kk rs) $$ [Hs Ho]
    · isplitr; · iexact Hrec
      isplitl [Hs]; · iexact Hs
      iexact Ho
    iexact Hk

/-! ## The reduce-scatter's transfers -/

/-- What the two transfers of group `g` at one distance need, -/
def sendPre (g : Fin 2) (c : Dev nD) (r : Fin 7) : sProp (MT nD τ sig Unit (Elt F) ℕ UU ℕ) :=
  iprop((part (c : Thread nD τ) (oM g) (rowsO (fw c r)) fullShare (OW I g c) ∗ part (c : Thread nD τ) (sM g) (rowsS (fw c r)) fullShare (SW I g c))
    ∗ (partAny (Val := Elt F) (fw c r : Thread nD τ) (roM g) (slO r.rev) ∗ partAny (Val := Elt F) (fw c r : Thread nD τ) (rsM g) (slS r.rev))
    ∗ (tok (F := F) (c, some ((0, g, r), false)) 0 ∗ tok (F := F) (fw c r, some ((0, g, r.rev), true)) 0)
    ∗ (tok (F := F) (c, some ((1, g, r), false)) 0 ∗ tok (F := F) (fw c r, some ((1, g, r.rev), true)) 0))
/-- and leave. -/
def sendPost (g : Fin 2) (c : Dev nD) (r : Fin 7) : sProp (MT nD τ sig Unit (Elt F) ℕ UU ℕ) :=
  iprop(crd (F := F) (c, some ((0, g, r), false)) ∗ crd (F := F) (c, some ((1, g, r), false)))

theorem wp_sends (g : Fin 2) (c : Dev nD) (l : List (Dev nD × CI)) (kk : Pg F) : ∀ rs : List (Fin 7),
    iprop(rec I K ∗ sepL rs (sendPre I g c) ∗ ow c (owRS g c rs l))
      ⊢ iprop(((sepL rs (sendPost g c) ∗ ow c l) -∗ wpc c kk Q) -∗ wpc c (sends g c rs kk) Q)
  | [] => by
    iintro ⟨-, -, Ho⟩ Hk
    unfold sepL
    iapply Hk
    isplitr; · iempintro
    iexact Ho
  | r :: rs => by
    unfold sepL
    iintro ⟨#Hrec, ⟨Hp, Hs⟩, Ho⟩ Hk
    unfold sends
    unfold sendPre
    icases Hp with ⟨⟨HO, HS⟩, ⟨HlO, HlS⟩, ⟨Ht1, Ht2⟩, Ht3, Ht4⟩
    iapply (send_O I K g c _ r (dvO_eq g r c) (l := (fw c r, some ((1, g, r.rev), true)) :: owRS g c rs l)) $$ [HO HlO Ht1 Ht2 Ho]
    · isplitr; · iexact Hrec
      isplitl [HO]; · iexact HO
      isplitl [HlO]; · iexact HlO
      isplitl [Ht1]; · iexact Ht1
      isplitl [Ht2]; · iexact Ht2
      iexact Ho
    iintro ⟨Hc1, Ho⟩
    iapply (send_S I K g c _ r (dvS_eq g r c) (l := owRS g c rs l)) $$ [HS HlS Ht3 Ht4 Ho]
    · isplitr; · iexact Hrec
      isplitl [HS]; · iexact HS
      isplitl [HlS]; · iexact HlS
      isplitl [Ht3]; · iexact Ht3
      isplitl [Ht4]; · iexact Ht4
      iexact Ho
    iintro ⟨Hc2, Ho⟩
    iapply (wp_sends g c l kk rs) $$ [Hs Ho]
    · isplitr; · iexact Hrec
      isplitl [Hs]; · iexact Hs
      iexact Ho
    iintro ⟨Hs, Ho⟩
    iapply Hk
    isplitr [Ho]
    · isplitl [Hc1 Hc2]
      · unfold sendPost; isplitl [Hc1] <;> iassumption
      iexact Hs
    iexact Ho

/-! ## The combination -/

/-- What the waits of group `g` at one distance need, -/
def combPre (g : Fin 2) (c : Dev nD) (r : Fin 7) : sProp (MT nD τ sig Unit (Elt F) ℕ UU ℕ) :=
  iprop((crd (F := F) (c, some ((0, g, r), false)) ∗ pos (F := F) (c, some ((0, g, r), false)))
    ∗ (crd (F := F) (c, some ((0, g, r.rev), true)) ∗ pos (F := F) (c, some ((0, g, r.rev), true)))
    ∗ (crd (F := F) (c, some ((1, g, r), false)) ∗ pos (F := F) (c, some ((1, g, r), false)))
    ∗ (crd (F := F) (c, some ((1, g, r.rev), true)) ∗ pos (F := F) (c, some ((1, g, r.rev), true))))
/-- and leave: the chunks sent are back, the slots hold what landed, the cells are closed. -/
def combPost (g : Fin 2) (c : Dev nD) (r : Fin 7) : sProp (MT nD τ sig Unit (Elt F) ℕ UU ℕ) :=
  iprop((part (c : Thread nD τ) (oM g) (rowsO (fw c r)) fullShare (OW I g c) ∗ zed (F := F) (c, some ((0, g, r), false)))
    ∗ (part (c : Thread nD τ) (roM g) (slO r.rev) fullShare (RO I g c) ∗ zed (F := F) (c, some ((0, g, r.rev), true)))
    ∗ (part (c : Thread nD τ) (sM g) (rowsS (fw c r)) fullShare (SW I g c) ∗ zed (F := F) (c, some ((1, g, r), false)))
    ∗ (part (c : Thread nD τ) (rsM g) (slS r.rev) fullShare (RS I g c) ∗ zed (F := F) (c, some ((1, g, r.rev), true))))

theorem wp_combs (g : Fin 2) (c : Dev nD) (l : List (Dev nD × CI)) (hl : ∀ y ∈ l, 2 < lvl y.2) (kk : Acc F → Pg F) : ∀ (rs : List (Fin 7)) (a : Acc F),
    iprop(rec I K ∗ sepL rs (combPre g c) ∗ ow c l)
      ⊢ iprop(((sepL rs (combPost I g c) ∗ ow c l) -∗ wpc c (kk (accL I g c rs a)) Q) -∗ wpc c (combs g c rs a kk) Q)
  | [], a => by
    iintro ⟨-, -, Ho⟩ Hk
    unfold sepL
    iapply Hk
    isplitr; · iempintro
    iexact Ho
  | r :: rs, a => by
    have h0 : ∀ y ∈ l, 0 < lvl y.2 := fun y hy => lt_trans (by decide) (hl y hy)
    unfold sepL
    iintro ⟨#Hrec, ⟨Hp, Hs⟩, Ho⟩ Hk
    unfold combs
    unfold combPre
    icases Hp with ⟨⟨Hc1, Hp1⟩, ⟨Hc2, Hp2⟩, ⟨Hc3, Hp3⟩, Hc4, Hp4⟩
    iapply (step_wait I K (y := ((0, g, r), false)) (sS := sm 0 g r) rfl (credit_chunkO g c r) (l := l) h0) $$ [Hc1 Hp1 Ho]
    · isplitr; · iexact Hrec
      isplitl [Hc1]; · iexact Hc1
      isplitl [Hp1]; · iexact Hp1
      iexact Ho
    iintro ⟨Hv1, Hz1, Ho⟩
    iapply (step_wait I K (y := ((0, g, r.rev), true)) (sS := sm 1 g r.rev) rfl (credit_slotO g r.rev) (l := l) hl) $$ [Hc2 Hp2 Ho]
    · isplitr; · iexact Hrec
      isplitl [Hc2]; · iexact Hc2
      isplitl [Hp2]; · iexact Hp2
      iexact Ho
    iintro ⟨Hv2, Hz2, Ho⟩
    iapply (step_wait I K (y := ((1, g, r), false)) (sS := sm 2 g r) rfl (credit_chunkS g c r) (l := l) h0) $$ [Hc3 Hp3 Ho]
    · isplitr; · iexact Hrec
      isplitl [Hc3]; · iexact Hc3
      isplitl [Hp3]; · iexact Hp3
      iexact Ho
    iintro ⟨Hv3, Hz3, Ho⟩
    iapply (step_wait I K (y := ((1, g, r.rev), true)) (sS := sm 3 g r.rev) rfl (credit_slotS g r.rev) (l := l) hl) $$ [Hc4 Hp4 Ho]
    · isplitr; · iexact Hrec
      isplitl [Hc4]; · iexact Hc4
      isplitl [Hp4]; · iexact Hp4
      iexact Ho
    iintro ⟨Hv4, Hz4, Ho⟩
    ihave Hv1 := (show pay I c (some ((0, g, r), false)) 0 ⊢ part (c : Thread nD τ) (oM g) (rowsO (fw c r)) fullShare (OW I g c) from Entails.rfl) $$ Hv1
    ihave Hv3 := (show pay I c (some ((1, g, r), false)) 0 ⊢ part (c : Thread nD τ) (sM g) (rowsS (fw c r)) fullShare (SW I g c) from Entails.rfl) $$ Hv3
    ihave Hv2 := (show pay I c (some ((0, g, r.rev), true)) 0 ⊢ part (c : Thread nD τ) (roM g) (slO r.rev) fullShare (RO I g c) from Entails.rfl) $$ Hv2
    ihave Hv4 := (show pay I c (some ((1, g, r.rev), true)) 0 ⊢ part (c : Thread nD τ) (rsM g) (slS r.rev) fullShare (RS I g c) from Entails.rfl) $$ Hv4
    iapply (wp_loadP 𝒱₀ (c : Thread nD τ) none Set.univ (m := roM g)
      (fun y => RO I g c ((Rect.unit (s := S7x2x64x256) ![r.rev.val, (0 : Fin 2).val, 0, 0] S1x1x64x256.size (inb_slotOb r.rev 0)).emb y))
      (sub_slotOb 0 r.rev) (fun _ => rfl)) $$ Hv2
    iintro Hv2
    iapply (wp_loadP 𝒱₀ (c : Thread nD τ) none Set.univ (m := roM g)
      (fun y => RO I g c ((Rect.unit (s := S7x2x64x256) ![r.rev.val, (1 : Fin 2).val, 0, 0] S1x1x64x256.size (inb_slotOb r.rev 1)).emb y))
      (sub_slotOb 1 r.rev) (fun _ => rfl)) $$ Hv2
    iintro Hv2
    iapply (wp_loadP 𝒱₀ (c : Thread nD τ) none Set.univ (m := rsM g)
      (fun y => RS I g c ((Rect.unit (s := S7x64x16) ![r.rev.val, 0, 0] S1x64x16.size (inb_slotS r.rev)).emb y))
      (set_slotS r.rev).subset (fun _ => rfl)) $$ Hv4
    iintro Hv4
    iapply (wp_combs g c l hl kk rs _) $$ [Hs Ho]
    · isplitr; · iexact Hrec
      isplitl [Hs]; · iexact Hs
      iexact Ho
    iintro ⟨Hs, Ho⟩
    iapply Hk
    isplitr [Ho]
    · isplitr [Hs]
      · unfold combPost
        isplitl [Hv1 Hz1]
        · isplitl [Hv1]; · iexact Hv1
          iexact Hz1
        isplitl [Hv2 Hz2]
        · isplitl [Hv2]; · iexact Hv2
          iexact Hz2
        isplitl [Hv3 Hz3]
        · isplitl [Hv3]; · iexact Hv3
          iexact Hz3
        isplitl [Hv4] <;> iassumption
      iexact Hs
    iexact Ho

/-! ## The all-gather's transfers -/

/-- What one of group `g`'s transfers of the own context rows needs. -/
def gathPre (g : Fin 2) (c : Dev nD) (r : Fin 7) : sProp (MT nD τ sig Unit (Elt F) ℕ UU ℕ) :=
  iprop(part (c : Thread nD τ) cM (ctxA g c) (tokSh r) (CTX I) ∗ partAny (Val := Elt F) (fw c r : Thread nD τ) cM (ctxA g c)
    ∗ tok (F := F) (c, some ((2, g, r), false)) 0 ∗ tok (F := F) (fw c r, some ((2, g, r.rev), true)) 0)

theorem wp_gath (g : Fin 2) (c : Dev nD) (l : List (Dev nD × CI)) (kk : Pg F) : ∀ rs : List (Fin 7),
    iprop(rec I K ∗ sepL rs (gathPre I g c) ∗ ow c (owAG g c rs l))
      ⊢ iprop(((sepL rs (fun r => crd (F := F) (c, some ((2, g, r), false))) ∗ ow c l) -∗ wpc c kk Q) -∗ wpc c (gath g c rs kk) Q)
  | [] => by
    iintro ⟨-, -, Ho⟩ Hk
    unfold sepL
    iapply Hk
    isplitr; · iempintro
    iexact Ho
  | r :: rs => by
    unfold sepL
    iintro ⟨#Hrec, ⟨Hp, Hs⟩, Ho⟩ Hk
    unfold gath
    unfold gathPre
    icases Hp with ⟨HO, HlO, Ht1, Ht2⟩
    iapply (send_C I K g c _ r (dvC_eq g r c) (l := owAG g c rs l)) $$ [HO HlO Ht1 Ht2 Ho]
    · isplitr; · iexact Hrec
      isplitl [HO]; · iexact HO
      isplitl [HlO]; · iexact HlO
      isplitl [Ht1]; · iexact Ht1
      isplitl [Ht2]; · iexact Ht2
      iexact Ho
    iintro ⟨Hc1, Ho⟩
    iapply (wp_gath g c l kk rs) $$ [Hs Ho]
    · isplitr; · iexact Hrec
      isplitl [Hs]; · iexact Hs
      iexact Ho
    iintro ⟨Hs, Ho⟩
    iapply Hk
    isplitr [Ho]
    · isplitl [Hc1] <;> iassumption
    iexact Ho

/-! ## The result's rows -/

/-- Where a block of 64 rows read or stored lies. -/
theorem rows_idx {n w : ℕ} {o : Fin 3 → ℕ} {b : Fin 2} {p : Dev nD} {q : ℕ} {inb} (ho : o = ![b.val, 64 * p.val, q])
    (x : (⟨3, ![1, 64, w]⟩ : Shape).Idx) (z : Fin n) (hz : z.val = q + (x 2).val) :
    (Rect.unit (s := ⟨3, ![2, 512, n]⟩) o (⟨3, ![1, 64, w]⟩ : Shape).size inb).emb x = ix3 b (row p (x 1)) z := by
  funext a
  apply Fin.ext
  refine (emb_at ho x a).trans ?_
  match a with
  | ⟨0, _⟩ => show b.val + (x 0).val = b.val; have : (x 0).val < 1 := (x 0).isLt; omega
  | ⟨1, _⟩ => rfl
  | ⟨2, _⟩ => exact hz.symm

theorem ix3_one {m n : ℕ} (x : (⟨3, ![1, m, n]⟩ : Shape).Idx) : ix3 (0 : Fin 1) (x 1) (x 2) = x := by
  funext a
  match a with
  | ⟨0, _⟩ => exact Fin.ext (by have : (x 0).val < 1 := (x 0).isLt; show 0 = (x 0).val; omega)
  | ⟨1, _⟩ => rfl
  | ⟨2, _⟩ => rfl

/-- `A` in batch row `b`, `B` elsewhere. -/
def inRow {n : ℕ} {e : EltTy} (b : Fin 2) (A B : (⟨3, ![2, 512, n]⟩ : Shape).Idx → Elt F e) : (⟨3, ![2, 512, n]⟩ : Shape).Idx → Elt F e :=
  fun y => if (y 0).val = b.val then A y else B y

theorem inRow_both {n : ℕ} {e : EltTy} (A B : (⟨3, ![2, 512, n]⟩ : Shape).Idx → Elt F e) : inRow 1 A (inRow 0 A B) = A := by
  funext y
  unfold inRow
  have h : (y 0).val < 2 := (y 0).isLt
  by_cases h1 : (y 0).val = (1 : Fin 2).val
  · exact if_pos h1
  · rw [if_neg h1]
    refine if_pos ?_
    have : (y 0).val ≠ 1 := h1
    show (y 0).val = 0
    omega

theorem OUT_own' (c : Dev nD) (b : Fin 2) (j : Fin 64) (k : Fin 768) :
    OUT I c (ix3 b (row c j) k) = projV (ownV (ctxR I 0 c b) (ctxR I 1 c b)) (woV (rdWo (I c).wo)) (ix3 (0 : Fin 1) j k) := by
  show (if rowDev (row c j) = c then projV (ownV (ctxR I 0 c b) (ctxR I 1 c b)) (woV (rdWo (I c).wo))
    else projV (rowsV (rdC I b (rowDev (row c j)))) (woV (rdWo (I c).wo))) (ix3 (0 : Fin 1) (rowIn (row c j)) k) = _
  rw [rowDev_row, if_pos rfl, rowIn_row]

theorem OUT_got' (c p : Dev nD) (hp : p ≠ c) (b : Fin 2) (j : Fin 64) (k : Fin 768) :
    OUT I c (ix3 b (row p j) k) = projV (rowsV (rdC I b p)) (woV (rdWo (I c).wo)) (ix3 (0 : Fin 1) j k) := by
  show (if rowDev (row p j) = c then projV (ownV (ctxR I 0 c b) (ctxR I 1 c b)) (woV (rdWo (I c).wo))
    else projV (rowsV (rdC I b (rowDev (row p j)))) (woV (rdWo (I c).wo))) (ix3 (0 : Fin 1) (rowIn (row p j)) k) = _
  rw [rowDev_row, if_neg hp, rowIn_row]

/-- The result's block on the own rows, -/
theorem OUT_own (c : Dev nD) (b : Fin 2) (x : S1x64x768.Idx) :
    OUT I c (ix3 b (row c (x 1)) (x 2)) = projV (ownV (ctxR I 0 c b) (ctxR I 1 c b)) (woV (rdWo (I c).wo)) x :=
  (OUT_own' I c b (x 1) (x 2)).trans (congrArg _ (ix3_one x))

/-- and on another device's. -/
theorem OUT_got (c p : Dev nD) (hp : p ≠ c) (b : Fin 2) (x : S1x64x768.Idx) :
    OUT I c (ix3 b (row p (x 1)) (x 2)) = projV (rowsV (rdC I b p)) (woV (rdWo (I c).wo)) x :=
  (OUT_got' I c p hp b (x 1) (x 2)).trans (congrArg _ (ix3_one x))

/-- One batch row of the own rows stored. -/
theorem wp_stOwn (b : Fin 2) (c : Dev nD) (X : Vec F S2x512x768 .f32) (kk : Pg F) :
    (part (c : Thread nD τ) outM (rowsY c) fullShare X : sProp 𝕄)
      ⊢ iprop((part (c : Thread nD τ) outM (rowsY c) fullShare (inRow b (OUT I c) X) -∗ wpc c kk Q)
        -∗ wpc c (stOwn b c (projV (ownV (ctxR I 0 c b) (ctxR I 1 c b)) (woV (rdWo (I c).wo))) kk) Q) := by
  have hA : (Rect.unit (s := S2x512x768) (outOff b c) S1x64x768.size (outOff_inb b c)).set ⊆ rowsY c := fun y hy => ((mem_outOff b c y).mp hy).1
  iintro H Hk
  unfold stOwn
  iapply (wp_loadP 𝒱₀ (c : Thread nD τ) none Set.univ (m := outM)
    (fun y => X ((Rect.unit (s := S2x512x768) (outOff b c) S1x64x768.size (outOff_inb b c)).emb y)) hA (fun _ => rfl)) $$ H
  iintro H
  iapply (wp_storeP 𝒱₀ (c : Thread nD τ) none Set.univ (m := outM) (inRow b (OUT I c) X) hA
    (fun x => (congrArg (inRow b (OUT I c) X) (rows_idx (outOff_eq b c) x (x 2) (Eq.symm (Nat.zero_add _)))).trans
      ((if_pos rfl).trans (OUT_own I c b x)))
    (fun y hy hn => if_neg fun h => hn ((mem_outOff b c y).mpr ⟨hy, h⟩))) $$ H
  iintro H
  iapply Hk; iexact H

/-- One batch row of another device's rows read back, projected and stored. -/
theorem wp_stGot (b : Fin 2) (c : Dev nD) (r : Fin 7) (X : Vec F S2x512x768 .f32) (kk : Pg F) :
    iprop(part (c : Thread nD τ) cM (ctxA 0 (fw c r.rev) ∪ ctxA 1 (fw c r.rev)) fullShare (CTX I) ∗ part (c : Thread nD τ) outM (rowsY (fw c r.rev)) fullShare X)
      ⊢ iprop(((part (c : Thread nD τ) cM (ctxA 0 (fw c r.rev) ∪ ctxA 1 (fw c r.rev)) fullShare (CTX I)
            ∗ part (c : Thread nD τ) outM (rowsY (fw c r.rev)) fullShare (inRow b (OUT I c) X)) -∗ wpc c kk Q)
        -∗ wpc c (stGot b c r (woV (rdWo (I c).wo)) kk) Q) := by
  have hA : (Rect.unit (s := S2x512x768) (dstOff b c (BitVec.ofNat 32 (1 + r.val))) S1x64x768.size (dstOff_inb b c r)).set ⊆ rowsY (fw c r.rev) :=
    fun y hy => ((mem_dstOff b c r y).mp hy).1
  iintro ⟨HC, H⟩ Hk
  unfold stGot
  iapply (wp_loadP 𝒱₀ (c : Thread nD τ) none Set.univ (m := cM) (rdC I b (fw c r.rev)) (sub_srcOff b c r)
    (fun x => congrArg (CTX I) (rows_idx (srcOff_eq b c r) x (x 2) (Eq.symm (Nat.zero_add _))))) $$ HC
  iintro HC
  iapply (wp_loadP 𝒱₀ (c : Thread nD τ) none Set.univ (m := outM)
    (fun y => X ((Rect.unit (s := S2x512x768) (dstOff b c (BitVec.ofNat 32 (1 + r.val))) S1x64x768.size (dstOff_inb b c r)).emb y)) hA (fun _ => rfl)) $$ H
  iintro H
  iapply (wp_storeP 𝒱₀ (c : Thread nD τ) none Set.univ (m := outM) (inRow b (OUT I c) X) hA
    (fun x => (congrArg (inRow b (OUT I c) X) (rows_idx (dstOff_eq b c r) x (x 2) (Eq.symm (Nat.zero_add _)))).trans
      ((if_pos rfl).trans (OUT_got I c (fw c r.rev) (fw_ne c r.rev) b x)))
    (fun y hy hn => if_neg fun h => hn ((mem_dstOff b c r y).mpr ⟨hy, h⟩))) $$ H
  iintro H
  iapply Hk
  isplitl [HC] <;> iassumption

/-- What the last loop needs at one distance, -/
def outPre (c : Dev nD) (r : Fin 7) : sProp (MT nD τ sig Unit (Elt F) ℕ UU ℕ) :=
  iprop((crd (F := F) (c, some ((2, 0, r), false)) ∗ pos (F := F) (c, some ((2, 0, r), false)))
    ∗ (crd (F := F) (c, some ((2, 0, r.rev), true)) ∗ pos (F := F) (c, some ((2, 0, r.rev), true)))
    ∗ (crd (F := F) (c, some ((2, 1, r), false)) ∗ pos (F := F) (c, some ((2, 1, r), false)))
    ∗ (crd (F := F) (c, some ((2, 1, r.rev), true)) ∗ pos (F := F) (c, some ((2, 1, r.rev), true)))
    ∗ partAny (Val := Elt F) (c : Thread nD τ) outM (rowsY (fw c r.rev)))
/-- and leaves. -/
def outPost (c : Dev nD) (r : Fin 7) : sProp (MT nD τ sig Unit (Elt F) ℕ UU ℕ) :=
  iprop((part (c : Thread nD τ) cM (ctxA 0 c) (tokSh r) (CTX I) ∗ zed (F := F) (c, some ((2, 0, r), false)))
    ∗ zed (F := F) (c, some ((2, 0, r.rev), true))
    ∗ (part (c : Thread nD τ) cM (ctxA 1 c) (tokSh r) (CTX I) ∗ zed (F := F) (c, some ((2, 1, r), false)))
    ∗ zed (F := F) (c, some ((2, 1, r.rev), true))
    ∗ part (c : Thread nD τ) cM (ctxA 0 (fw c r.rev) ∪ ctxA 1 (fw c r.rev)) fullShare (CTX I)
    ∗ part (c : Thread nD τ) outM (rowsY (fw c r.rev)) fullShare (OUT I c))

theorem wp_outs (c : Dev nD) (kk : Pg F) : ∀ rs : List (Fin 7),
    iprop(rec I K ∗ sepL rs (outPre c) ∗ ow c [])
      ⊢ iprop(((sepL rs (outPost I c) ∗ ow c []) -∗ wpc c kk Q) -∗ wpc c (outs c (woV (rdWo (I c).wo)) rs kk) Q)
  | [] => by
    iintro ⟨-, -, Ho⟩ Hk
    unfold sepL
    iapply Hk
    isplitr; · iempintro
    iexact Ho
  | r :: rs => by
    have h0 (n : ℕ) : ∀ y ∈ ([] : List (Dev nD × CI)), n < lvl y.2 := fun y hy => absurd hy List.not_mem_nil
    unfold sepL
    iintro ⟨#Hrec, ⟨Hp, Hs⟩, Ho⟩ Hk
    unfold outs wAG
    unfold outPre partAny
    icases Hp with ⟨⟨Hc1, Hp1⟩, ⟨Hc2, Hp2⟩, ⟨Hc3, Hp3⟩, ⟨Hc4, Hp4⟩, ⟨%X, HY⟩⟩
    iapply (step_wait I K (y := ((2, 0, r), false)) (sS := sm 4 0 r) rfl (credit_ctxC 0 c) (l := []) (h0 _)) $$ [Hc1 Hp1 Ho]
    · isplitr; · iexact Hrec
      isplitl [Hc1]; · iexact Hc1
      isplitl [Hp1]; · iexact Hp1
      iexact Ho
    iintro ⟨Hv1, Hz1, Ho⟩
    iapply (step_wait I K (y := ((2, 0, r.rev), true)) (sS := sm 5 0 r.rev) rfl (credit_ctxC 0 c) (l := []) (h0 _)) $$ [Hc2 Hp2 Ho]
    · isplitr; · iexact Hrec
      isplitl [Hc2]; · iexact Hc2
      isplitl [Hp2]; · iexact Hp2
      iexact Ho
    iintro ⟨Hv2, Hz2, Ho⟩
    iapply (step_wait I K (y := ((2, 1, r), false)) (sS := sm 4 1 r) rfl (credit_ctxC 1 c) (l := []) (h0 _)) $$ [Hc3 Hp3 Ho]
    · isplitr; · iexact Hrec
      isplitl [Hc3]; · iexact Hc3
      isplitl [Hp3]; · iexact Hp3
      iexact Ho
    iintro ⟨Hv3, Hz3, Ho⟩
    iapply (step_wait I K (y := ((2, 1, r.rev), true)) (sS := sm 5 1 r.rev) rfl (credit_ctxC 1 c) (l := []) (h0 _)) $$ [Hc4 Hp4 Ho]
    · isplitr; · iexact Hrec
      isplitl [Hc4]; · iexact Hc4
      isplitl [Hp4]; · iexact Hp4
      iexact Ho
    iintro ⟨Hv4, Hz4, Ho⟩
    ihave Hv1 := (show pay I c (some ((2, 0, r), false)) 0 ⊢ part (c : Thread nD τ) cM (ctxA 0 c) (tokSh r) (CTX I) from Entails.rfl) $$ Hv1
    ihave Hv3 := (show pay I c (some ((2, 1, r), false)) 0 ⊢ part (c : Thread nD τ) cM (ctxA 1 c) (tokSh r) (CTX I) from Entails.rfl) $$ Hv3
    ihave HC := (show iprop(pay I c (some ((2, 0, r.rev), true)) 0 ∗ pay I c (some ((2, 1, r.rev), true)) 0)
      ⊢ part (c : Thread nD τ) cM (ctxA 0 (fw c r.rev) ∪ ctxA 1 (fw c r.rev)) fullShare (CTX I) from part_join (ctx_own_disj _)) $$ [Hv2 Hv4]
    · isplitl [Hv2] <;> iassumption
    iapply (wp_stGot I 0 c r X) $$ [HC HY]
    · isplitl [HC] <;> iassumption
    iintro ⟨HC, HY⟩
    iapply (wp_stGot I 1 c r (inRow 0 (OUT I c) X)) $$ [HC HY]
    · isplitl [HC] <;> iassumption
    iintro ⟨HC, HY⟩
    rw [inRow_both]
    iapply (wp_outs c kk rs) $$ [Hs Ho]
    · isplitr; · iexact Hrec
      isplitl [Hs]; · iexact Hs
      iexact Ho
    iintro ⟨Hs, Ho⟩
    iapply Hk
    isplitr [Ho]
    · isplitr [Hs]
      · unfold outPost
        isplitl [Hv1 Hz1]
        · isplitl [Hv1]; · iexact Hv1
          iexact Hz1
        isplitl [Hz2]; · iexact Hz2
        isplitl [Hv3 Hz3]
        · isplitl [Hv3]; · iexact Hv3
          iexact Hz3
        isplitl [Hz4]; · iexact Hz4
        isplitl [HC] <;> iassumption
      iexact Hs
    iexact Ho

end Cert.Attn

end
-- ==== Proof.Attn.Pieces.lean ====
/-
# The program's straight-line pieces

The loads of the staged blocks, the local attention, one group's combination and the last phase.
-/
module

public import proofs.«01_k».proof.Proof.Attn.Loops

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (I : Dev nD → Ins F) (K : Dev nD × CI → ℕ) {Q : PUnit → sProp (MT nD τ sig Unit (Elt F) ℕ UU ℕ)}

/-- The queries read and projected. -/
theorem wp_ldQ (c : Dev nD) (kk : FVec F S512x512 .f32 → FVec F S512x512 .f32 → Pg F) :
    iprop(part (c : Thread nD τ) xM Finset.univ fullShare (I c).x ∗ part (c : Thread nD τ) wqM Finset.univ fullShare (I c).wq)
      ⊢ iprop(((part (c : Thread nD τ) xM Finset.univ fullShare (I c).x ∗ part (c : Thread nD τ) wqM Finset.univ fullShare (I c).wq)
          -∗ wpc c (kk (qOf I c 0) (qOf I c 1)) Q) -∗ wpc c (ldQ kk) Q) := by
  iintro ⟨Hx, Hw⟩ Hk
  unfold ldQ
  iapply (wp_loadP 𝒱₀ (c : Thread nD τ) none Set.univ (m := xM) (rdX 0 (I c).x) (Finset.subset_univ _) (fun _ => rfl)) $$ Hx
  iintro Hx
  iapply (wp_loadP 𝒱₀ (c : Thread nD τ) none Set.univ (m := wqM) (rdWq (I c).wq) (Finset.subset_univ _) (fun _ => rfl)) $$ Hw
  iintro Hw
  iapply (wp_loadP 𝒱₀ (c : Thread nD τ) none Set.univ (m := xM) (rdX 1 (I c).x) (Finset.subset_univ _) (fun _ => rfl)) $$ Hx
  iintro Hx
  iapply (wp_loadP 𝒱₀ (c : Thread nD τ) none Set.univ (m := wqM) (rdWq (I c).wq) (Finset.subset_univ _) (fun _ => rfl)) $$ Hw
  iintro Hw
  iapply Hk
  isplitl [Hx] <;> iassumption

/-- The staged keys and values. -/
def kvP (c : Dev nD) : sProp (MT nD τ sig Unit (Elt F) ℕ UU ℕ) :=
  iprop(part (c : Thread nD τ) kM Finset.univ fullShare (I c).k ∗ part (c : Thread nD τ) vM Finset.univ fullShare (I c).v)

/-- The keys and values of one head read. -/
theorem wp_ldKVs (c : Dev nD) (b : Fin 2) (h : Fin 8) (kk : Vec F S1x512x1x64 .f32 → Vec F S1x512x1x64 .f32 → Pg F) :
    kvP I c ⊢ iprop((kvP I c -∗ wpc c (kk (rdKV b h (I c).k) (rdKV b h (I c).v)) Q)
      -∗ wpc c (ldKV kM b h fun k => ldKV vM b h fun v => kk k v) Q) := by
  unfold kvP
  iintro ⟨Hx, Hw⟩ Hk
  unfold ldKV
  iapply (wp_loadP 𝒱₀ (c : Thread nD τ) none Set.univ (m := kM) (rdKV b h (I c).k) (Finset.subset_univ _) (fun _ => rfl)) $$ Hx
  iintro Hx
  iapply (wp_loadP 𝒱₀ (c : Thread nD τ) none Set.univ (m := vM) (rdKV b h (I c).v) (Finset.subset_univ _) (fun _ => rfl)) $$ Hw
  iintro Hw
  iapply Hk
  isplitl [Hx] <;> iassumption

/-- Four things as a table. -/
def t4 {α : Type} (a b c d : α) : Fin 4 → α
  | 0 => a
  | 1 => b
  | 2 => c
  | 3 => d

theorem t4_eq {α : Type} (f : Fin 4 → α) : t4 (f 0) (f 1) (f 2) (f 3) = f := by
  funext i
  match i with
  | 0 => rfl
  | 1 => rfl
  | 2 => rfl
  | 3 => rfl

/-- One batch row's local attention after its loads. -/
def attT (g b : Fin 2) (s : Fin 4 → FVec F S512x512 .f32) (v : Fin 4 → Vec F S1x512x1x64 .f32) (kk : (Fin 4 → FVec F S512x512 .f32) → Pg F) : Pg F :=
  op (.load (oM g) (Rect.unit (s := S2x512x256) ![b.val, 0, 0] S1x512x256.size (inb_o b)).toLoadRect (View.loadsAt_vmem h_S1x512x256)) fun _ =>
  op (.store (oM g) (Rect.unit (s := S2x512x256) ![b.val, 0, 0] S1x512x256.size (inb_o b)) (oStore s v)
    Finset.univ (View.stores_vmem h_S1x512x256 ((oM_whole g).storeExact_slice rfl _ (packed_o b)) (fun _ => rfl)) (.inl rfl)) fun _ => kk s

theorem attB_eq (g b : Fin 2) (mk : IVec S512x512 1) (q : FVec F S512x512 .f32) (kk : (Fin 4 → FVec F S512x512 .f32) → Pg F) :
    attB g b mk q kk =
      (ldKV kM b (hd g 0) fun k0 => ldKV vM b (hd g 0) fun v0 =>
       ldKV kM b (hd g 1) fun k1 => ldKV vM b (hd g 1) fun v1 =>
       ldKV kM b (hd g 2) fun k2 => ldKV vM b (hd g 2) fun v2 =>
       ldKV kM b (hd g 3) fun k3 => ldKV vM b (hd g 3) fun v3 =>
       attT g b (fun i => scoreV mk q (hd g i) (t4 k0 k1 k2 k3 i)) (t4 v0 v1 v2 v3) kk) := rfl

/-- Where a batch row of the local attention is stored. -/
theorem mem_o (b : Fin 2) (y : S2x512x256.Idx) :
    y ∈ (Rect.unit (s := S2x512x256) ![b.val, 0, 0] S1x512x256.size (inb_o b)).set ↔ (y 0).val = b.val := by
  rw [mem_rect3 rfl rfl]
  have h1 : (y 1).val < 512 := (y 1).isLt
  have h2 : (y 2).val < 256 := (y 2).isLt
  omega

theorem o_idx (b : Fin 2) (x : S1x512x256.Idx) :
    (Rect.unit (s := S2x512x256) ![b.val, 0, 0] S1x512x256.size (inb_o b)).emb x = ix3 b (x 1) (x 2) := by
  funext a
  apply Fin.ext
  refine (emb_at rfl x a).trans ?_
  match a with
  | ⟨0, _⟩ => show b.val + (x 0).val = b.val; have : (x 0).val < 1 := (x 0).isLt; omega
  | ⟨1, _⟩ => exact Nat.zero_add _
  | ⟨2, _⟩ => exact Nat.zero_add _

/-- One batch row's local attention. -/
theorem wp_attB (g b : Fin 2) (c : Dev nD) (X : Vec F S2x512x256 .bf16) (kk : (Fin 4 → FVec F S512x512 .f32) → Pg F) :
    iprop(kvP I c ∗ part (c : Thread nD τ) (oM g) Finset.univ fullShare X)
      ⊢ iprop(((kvP I c ∗ part (c : Thread nD τ) (oM g) Finset.univ fullShare (inRow b (OW I g c) X)) -∗ wpc c (kk (scoreOf I g c b)) Q)
        -∗ wpc c (attB g b (maskV c) (qOf I c b) kk) Q) := by
  iintro ⟨Hkv, Ho⟩ Hk
  rw [attB_eq]
  iapply (wp_ldKVs I c b (hd g 0) _) $$ Hkv
  iintro Hkv
  iapply (wp_ldKVs I c b (hd g 1) _) $$ Hkv
  iintro Hkv
  iapply (wp_ldKVs I c b (hd g 2) _) $$ Hkv
  iintro Hkv
  iapply (wp_ldKVs I c b (hd g 3) _) $$ Hkv
  iintro Hkv
  rw [t4_eq (fun i => rdKV b (hd g i) (I c).k), t4_eq (fun i => rdKV b (hd g i) (I c).v)]
  rw [show (fun i => scoreV (maskV c) (qOf I c b) (hd g i) (rdKV b (hd g i) (I c).k)) = scoreOf I g c b from rfl]
  unfold attT
  iapply (wp_loadP 𝒱₀ (c : Thread nD τ) none Set.univ (m := oM g)
    (fun y => X ((Rect.unit (s := S2x512x256) ![b.val, 0, 0] S1x512x256.size (inb_o b)).emb y)) (Finset.subset_univ _) (fun _ => rfl)) $$ Ho
  iintro Ho
  iapply (wp_storeP 𝒱₀ (c : Thread nD τ) none Set.univ (m := oM g) (inRow b (OW I g c) X) (Finset.subset_univ _)
    (fun x => (congrArg (inRow b (OW I g c) X) (o_idx b x)).trans ((if_pos rfl).trans (congrArg (oOf I g c b) (ix3_one x))))
    (fun y _ hn => if_neg fun h => hn ((mem_o b y).mpr h))) $$ Ho
  iintro Ho
  iapply Hk
  isplitl [Hkv] <;> iassumption

/-- One group's local attention: its rows and its statistics stored. -/
theorem wp_attG (g : Fin 2) (c : Dev nD) (kk : Pg F) :
    iprop(kvP I c ∗ partAny (Val := Elt F) (c : Thread nD τ) (oM g) Finset.univ ∗ partAny (Val := Elt F) (c : Thread nD τ) (sM g) Finset.univ)
      ⊢ iprop(((kvP I c ∗ part (c : Thread nD τ) (oM g) Finset.univ fullShare (OW I g c) ∗ part (c : Thread nD τ) (sM g) Finset.univ fullShare (SW I g c)) -∗ wpc c kk Q)
        -∗ wpc c (attG g (maskV c) (qOf I c 0) (qOf I c 1) kk) Q) := by
  unfold partAny
  iintro ⟨Hkv, ⟨%X, Ho⟩, ⟨%Y, Hs⟩⟩ Hk
  unfold attG
  iapply (wp_attB I g 0 c X _) $$ [Hkv Ho]
  · isplitl [Hkv] <;> iassumption
  iintro ⟨Hkv, Ho⟩
  iapply (wp_attB I g 1 c _ _) $$ [Hkv Ho]
  · isplitl [Hkv]; · iexact Hkv
    iexact Ho
  iintro ⟨Hkv, Ho⟩
  rw [inRow_both]
  iapply (wp_loadP 𝒱₀ (c : Thread nD τ) none Set.univ (m := sM g)
    (fun y => Y ((Rect.unit (s := S512x16) ![0, 0] S512x16.size inb_S512x16_S512x16_0_0).emb y)) (Finset.subset_univ _) (fun _ => rfl)) $$ Hs
  iintro Hs
  iapply (wp_storeP 𝒱₀ (c : Thread nD τ) none Set.univ (m := sM g) (SW I g c) (Finset.subset_univ _)
    (fun x => congrArg (SW I g c) (funext fun a => Fin.ext ((emb_at rfl x a).trans (by
      match a with
      | ⟨0, _⟩ => exact Nat.zero_add _
      | ⟨1, _⟩ => exact Nat.zero_add _))))
    (fun y _ hn => absurd ((mem_rect2 rfl rfl y).mpr (by
      have h0 : (y 0).val < 512 := (y 0).isLt
      have h1 : (y 1).val < 16 := (y 1).isLt
      omega)) hn)) $$ Hs
  iintro Hs
  iapply Hk
  isplitl [Hkv]; · iexact Hkv
  isplitl [Ho] <;> iassumption

theorem CTX_at' (g : Fin 2) (c : Dev nD) (b : Fin 2) (j : Fin 64) (k : Fin 256) :
    CTX I (ix3 b (row c j) (col g k)) = ctxStore (ctxR I g c b) (ix3 (0 : Fin 1) j k) := by
  show ctxStore (ctxR I (colGrp (col g k)) (rowDev (row c j)) b) (ix3 (0 : Fin 1) (rowIn (row c j)) (colIn (col g k))) = _
  rw [rowDev_row, rowIn_row, colGrp_col, colIn_col]

/-- One batch row of the own context rows stored. -/
theorem wp_stC (g b : Fin 2) (c : Dev nD) (X : Vec F S2x512x512 .bf16) (kk : Pg F) :
    (part (c : Thread nD τ) cM (ctxA g c) fullShare X : sProp 𝕄)
      ⊢ iprop((part (c : Thread nD τ) cM (ctxA g c) fullShare (inRow b (CTX I) X) -∗ wpc c kk Q)
        -∗ wpc c (stC g b c (ctxR I g c b) kk) Q) := by
  have hA : (Rect.unit (s := S2x512x512) (cOff g b c) S1x64x256.size (cOff_inb g b c)).set ⊆ ctxA g c := fun y hy => ((mem_cOff g b c y).mp hy).1
  iintro H Hk
  unfold stC
  iapply (wp_loadP 𝒱₀ (c : Thread nD τ) none Set.univ (m := cM)
    (fun y => X ((Rect.unit (s := S2x512x512) (cOff g b c) S1x64x256.size (cOff_inb g b c)).emb y)) hA (fun _ => rfl)) $$ H
  iintro H
  iapply (wp_storeP 𝒱₀ (c : Thread nD τ) none Set.univ (m := cM) (inRow b (CTX I) X) hA
    (fun x => (congrArg (inRow b (CTX I) X) (rows_idx (cOff_eq g b c) x (col g (x 2)) rfl)).trans
      ((if_pos rfl).trans ((CTX_at' I g c b (x 1) (x 2)).trans (congrArg _ (ix3_one x)))))
    (fun y hy hn => if_neg fun h => hn ((mem_cOff g b c y).mpr ⟨hy, h⟩))) $$ H
  iintro H
  iapply Hk; iexact H

/-- One group's combination: the own chunk is read, the received ones are combined into it in turn, and the own context rows are stored. -/
theorem wp_combG (g : Fin 2) (c : Dev nD) (l : List (Dev nD × CI)) (hl : ∀ y ∈ l, 2 < lvl y.2) (kk : FVec F S64x256 .f32 → FVec F S64x256 .f32 → Pg F) :
    iprop(rec I K ∗ (part (c : Thread nD τ) (oM g) (rowsO c) fullShare (OW I g c) ∗ part (c : Thread nD τ) (sM g) (rowsS c) fullShare (SW I g c))
        ∗ partAny (Val := Elt F) (c : Thread nD τ) cM (ctxA g c) ∗ sepL all7 (combPre g c) ∗ ow c l)
      ⊢ iprop((((part (c : Thread nD τ) (oM g) (rowsO c) fullShare (OW I g c) ∗ part (c : Thread nD τ) (sM g) (rowsS c) fullShare (SW I g c))
          ∗ part (c : Thread nD τ) cM (ctxA g c) fullShare (CTX I) ∗ sepL all7 (combPost I g c) ∗ ow c l) -∗ wpc c (kk (ctxR I g c 0) (ctxR I g c 1)) Q)
        -∗ wpc c (combG g c kk) Q) := by
  unfold partAny
  iintro ⟨#Hrec, ⟨HO, HS⟩, ⟨%X, HC⟩, Hw, Ho⟩ Hk
  unfold combG
  iapply (wp_loadP 𝒱₀ (c : Thread nD τ) none Set.univ (m := oM g)
    (fun y => OW I g c ((Rect.unit (s := S2x512x256) (k0_off3 c) S1x64x256.size (k0_off3_inb c)).emb y)) (sub_off3 c) (fun _ => rfl)) $$ HO
  iintro HO
  iapply (wp_loadP 𝒱₀ (c : Thread nD τ) none Set.univ (m := oM g)
    (fun y => OW I g c ((Rect.unit (s := S2x512x256) (k0_off4 c) S1x64x256.size (k0_off4_inb c)).emb y)) (sub_off4 c) (fun _ => rfl)) $$ HO
  iintro HO
  iapply (wp_loadP 𝒱₀ (c : Thread nD τ) none Set.univ (m := sM g)
    (fun y => SW I g c ((Rect.unit (s := S512x16) (k0_off5 c) S64x16.size (k0_off5_inb c)).emb y)) (sub_off5 c) (fun _ => rfl)) $$ HS
  iintro HS
  iapply (wp_combs I K g c l hl _ all7 (acc0 I g c)) $$ [Hw Ho]
  · isplitr; · iexact Hrec
    isplitl [Hw] <;> iassumption
  iintro ⟨Hw, Ho⟩
  iapply (wp_stC I g 0 c X _) $$ HC
  iintro HC
  iapply (wp_stC I g 1 c _ _) $$ HC
  iintro HC
  rw [inRow_both]
  iapply Hk
  isplitl [HO HS]
  · isplitl [HO] <;> iassumption
  isplitl [HC]; · iexact HC
  isplitl [Hw] <;> iassumption

/-- The last phase: the own rows of the result, then everyone else's. -/
theorem wp_phaseOut (c : Dev nD) (kk : Pg F) :
    iprop(rec I K ∗ part (c : Thread nD τ) woM Finset.univ fullShare (I c).wo ∗ partAny (Val := Elt F) (c : Thread nD τ) outM (rowsY c)
        ∗ sepL all7 (outPre c) ∗ ow c [])
      ⊢ iprop(((part (c : Thread nD τ) woM Finset.univ fullShare (I c).wo ∗ part (c : Thread nD τ) outM (rowsY c) fullShare (OUT I c)
          ∗ sepL all7 (outPost I c) ∗ ow c []) -∗ wpc c kk Q)
        -∗ wpc c (phaseOut c (ctxR I 0 c 0) (ctxR I 0 c 1) (ctxR I 1 c 0) (ctxR I 1 c 1) kk) Q) := by
  unfold partAny
  iintro ⟨#Hrec, HW, ⟨%X, HY⟩, Hw, Ho⟩ Hk
  unfold phaseOut
  iapply (wp_loadP 𝒱₀ (c : Thread nD τ) none Set.univ (m := woM) (rdWo (I c).wo) (Finset.subset_univ _) (fun _ => rfl)) $$ HW
  iintro HW
  iapply (wp_stOwn I 0 c X _) $$ HY
  iintro HY
  iapply (wp_stOwn I 1 c _ _) $$ HY
  iintro HY
  rw [inRow_both]
  iapply (wp_outs I K c kk all7) $$ [Hw Ho]
  · isplitr; · iexact Hrec
    isplitl [Hw] <;> iassumption
  iintro ⟨Hw, Ho⟩
  iapply Hk
  isplitl [HW]; · iexact HW
  isplitl [HY]; · iexact HY
  isplitl [Hw] <;> iassumption

end Cert.Attn

end
-- ==== Proof.Attn.Body.lean ====
/-
# The body

One device's run of the whole body, from its share of the launch to the result and everything it borrowed.
-/
module

public import proofs.«01_k».proof.Proof.Attn.Pieces

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

/-! ## Lists of parts -/

theorem eq_ent {P R : sProp (MT nD τ sig Unit (Elt F) ℕ UU ℕ)} (h : P = R) : P ⊢ R := by rw [h]

theorem sepL_zip {α : Type} {Φ Ψ Θ : α → sProp (MT nD τ sig Unit (Elt F) ℕ UU ℕ)} (h : ∀ x, iprop(Φ x ∗ Ψ x) ⊢ Θ x) (l : List α) :
    iprop(sepL l Φ ∗ sepL l Ψ) ⊢ sepL l Θ := (sepL_sep' l).trans (sepL_mono h l)

theorem sepL_unzip {α : Type} {Φ Ψ Θ : α → sProp (MT nD τ sig Unit (Elt F) ℕ UU ℕ)} (h : ∀ x, Θ x ⊢ iprop(Φ x ∗ Ψ x)) (l : List α) :
    sepL l Θ ⊢ iprop(sepL l Φ ∗ sepL l Ψ) := (sepL_mono h l).trans (sepL_sep l)

/-- Going through the distances backwards. -/
theorem sepL_rev (Φ : Fin 7 → sProp (MT nD τ sig Unit (Elt F) ℕ UU ℕ)) : sepL all7 (fun r => Φ r.rev) = sepL all7 Φ := by
  rw [← sepL_all7, ← sepL_all7, bigSep_univ_equiv Fin.revPerm Φ]; rfl

section Cuts

variable {sp : Space} {s : Shape} {e : EltTy} (c : Dev nD) (m : Memref sig (c : Thread nD τ).2.kind sp s e) {A0 : Finset s.Idx} {A : Fin 7 → Finset s.Idx}

theorem disj_bi (h0 : ∀ r, Disjoint A0 (A r)) : Disjoint A0 (Finset.univ.biUnion A) :=
  (Finset.disjoint_biUnion_right A0 Finset.univ A).mpr fun r _ => h0 r

/-- A buffer cut into a part and seven more. -/
theorem cut (X : s.Idx → Elt F e) (hc : (Finset.univ : Finset s.Idx) = A0 ∪ Finset.univ.biUnion A) (h0 : ∀ r, Disjoint A0 (A r))
    (hd : ∀ r r', r ≠ r' → Disjoint (A r) (A r')) :
    (part (c : Thread nD τ) m Finset.univ fullShare X : sProp 𝕄)
      = iprop(part (c : Thread nD τ) m A0 fullShare X ∗ sepL all7 fun r => part (c : Thread nD τ) m (A r) fullShare X) := by
  rw [hc, part_union (disj_bi h0), part_biUnion _ _ (fun r _ r' _ h => hd r r' h), sepL_all7]

theorem cutAny (hc : (Finset.univ : Finset s.Idx) = A0 ∪ Finset.univ.biUnion A) (h0 : ∀ r, Disjoint A0 (A r))
    (hd : ∀ r r', r ≠ r' → Disjoint (A r) (A r')) :
    (partAny (Val := Elt F) (c : Thread nD τ) m Finset.univ : sProp 𝕄)
      ⊢ iprop(partAny (Val := Elt F) (c : Thread nD τ) m A0 ∗ sepL all7 fun r => partAny (Val := Elt F) (c : Thread nD τ) m (A r)) := by
  rw [hc]
  refine (partAny_split (disj_bi h0)).trans ?_
  rw [partAny_biUnion _ _ (fun r _ r' _ h => hd r r' h), sepL_all7]

theorem cut7 (hc : (Finset.univ : Finset s.Idx) = Finset.univ.biUnion A) (hd : ∀ r r', r ≠ r' → Disjoint (A r) (A r')) :
    (partAny (Val := Elt F) (c : Thread nD τ) m Finset.univ : sProp 𝕄) = sepL all7 fun r => partAny (Val := Elt F) (c : Thread nD τ) m (A r) := by
  rw [hc, partAny_biUnion _ _ (fun r _ r' _ h => hd r r' h), sepL_all7]

end Cuts

theorem rowsY_dj {p p' : Dev nD} (h : p ≠ p') : Disjoint (rowsY p) (rowsY p') :=
  Finset.disjoint_filter.mpr fun y _ h1 h2 => h (Eq.trans (Eq.symm h1) h2)

theorem fw_ne_fw (c : Dev nD) (r r' : Fin 7) (h : r ≠ r') : fw c r ≠ fw c r' := fun h' => h (fw_inj c r r' h')

theorem cutO (g : Fin 2) (c : Dev nD) (X : Vec F S2x512x256 .bf16) : (part (c : Thread nD τ) (oM g) Finset.univ fullShare X : sProp 𝕄)
    = iprop(part (c : Thread nD τ) (oM g) (rowsO c) fullShare X ∗ sepL all7 fun r => part (c : Thread nD τ) (oM g) (rowsO (fw c r)) fullShare X) :=
  cut c (oM g) X (rowsO_cover c) (fun r => rowsO_disj (fw_ne c r).symm) (fun r r' h => rowsO_disj (fw_ne_fw c r r' h))
theorem cutS (g : Fin 2) (c : Dev nD) (X : Vec F S512x16 .bf16) : (part (c : Thread nD τ) (sM g) Finset.univ fullShare X : sProp 𝕄)
    = iprop(part (c : Thread nD τ) (sM g) (rowsS c) fullShare X ∗ sepL all7 fun r => part (c : Thread nD τ) (sM g) (rowsS (fw c r)) fullShare X) :=
  cut c (sM g) X (rowsS_cover c) (fun r => rowsS_disj (fw_ne c r).symm) (fun r r' h => rowsS_disj (fw_ne_fw c r r' h))
theorem cutC (c : Dev nD) (X : Vec F S2x512x512 .bf16) : (part (c : Thread nD τ) cM Finset.univ fullShare X : sProp 𝕄)
    = iprop(part (c : Thread nD τ) cM (ctxA 0 c ∪ ctxA 1 c) fullShare X
      ∗ sepL all7 fun r => part (c : Thread nD τ) cM (ctxA 0 (fw c r) ∪ ctxA 1 (fw c r)) fullShare X) :=
  cut c cM X (ctx_cover c) (fun r => ctx_disj (fw_ne c r).symm) (fun r r' h => ctx_disj (fw_ne_fw c r r' h))
theorem cutCAny (c : Dev nD) : (partAny (Val := Elt F) (c : Thread nD τ) cM Finset.univ : sProp 𝕄)
    ⊢ iprop((partAny (Val := Elt F) (c : Thread nD τ) cM (ctxA 0 c) ∗ partAny (Val := Elt F) (c : Thread nD τ) cM (ctxA 1 c))
      ∗ sepL all7 fun r => iprop(partAny (Val := Elt F) (c : Thread nD τ) cM (ctxA 0 (fw c r)) ∗ partAny (Val := Elt F) (c : Thread nD τ) cM (ctxA 1 (fw c r)))) := by
  refine (cutAny c cM (ctx_cover c) (fun r => ctx_disj (fw_ne c r).symm) (fun r r' h => ctx_disj (fw_ne_fw c r r' h))).trans ?_
  iintro ⟨H0, Hs⟩
  isplitl [H0]
  · iapply (partAny_split (ctx_own_disj c)); iexact H0
  iapply (sepL_mono (fun r => partAny_split (ctx_own_disj (fw c r))) all7); iexact Hs
theorem cutY (c : Dev nD) (X : Vec F S2x512x768 .f32) : (part (c : Thread nD τ) outM Finset.univ fullShare X : sProp 𝕄)
    = iprop(part (c : Thread nD τ) outM (rowsY c) fullShare X ∗ sepL all7 fun r => part (c : Thread nD τ) outM (rowsY (fw c r)) fullShare X) :=
  cut c outM X (rowsY_cover c) (fun r => rowsY_dj (fw_ne c r).symm) (fun r r' h => rowsY_dj (fw_ne_fw c r r' h))
theorem cutYAny (c : Dev nD) : (partAny (Val := Elt F) (c : Thread nD τ) outM Finset.univ : sProp 𝕄)
    ⊢ iprop(partAny (Val := Elt F) (c : Thread nD τ) outM (rowsY c) ∗ sepL all7 fun r => partAny (Val := Elt F) (c : Thread nD τ) outM (rowsY (fw c r))) :=
  cutAny c outM (rowsY_cover c) (fun r => rowsY_dj (fw_ne c r).symm) (fun r r' h => rowsY_dj (fw_ne_fw c r r' h))
theorem cutRO (g : Fin 2) (c : Dev nD) : (partAny (Val := Elt F) (c : Thread nD τ) (roM g) Finset.univ : sProp 𝕄)
    = sepL all7 fun r => partAny (Val := Elt F) (c : Thread nD τ) (roM g) (slO r) := cut7 c (roM g) slO_cover fun _ _ h => slO_disj h
theorem cutRS (g : Fin 2) (c : Dev nD) : (partAny (Val := Elt F) (c : Thread nD τ) (rsM g) Finset.univ : sProp 𝕄)
    = sepL all7 fun r => partAny (Val := Elt F) (c : Thread nD τ) (rsM g) (slS r) := cut7 c (rsM g) slS_cover fun _ _ h => slS_disj h

/-! ## What a device starts from and ends with -/

/-- Something for each kind of transfer and group. -/
def six (Φ : Fin 3 → Fin 2 → sProp (MT nD τ sig Unit (Elt F) ℕ UU ℕ)) : sProp (MT nD τ sig Unit (Elt F) ℕ UU ℕ) :=
  iprop((Φ 0 0 ∗ Φ 0 1) ∗ (Φ 1 0 ∗ Φ 1 1) ∗ (Φ 2 0 ∗ Φ 2 1))

/-- Something for each of the cells a device waits at: the departures with the arrivals they are waited with. -/
def cells (Ψ : K3 × Bool → sProp (MT nD τ sig Unit (Elt F) ℕ UU ℕ)) (k : Fin 3) (g : Fin 2) : sProp (MT nD τ sig Unit (Elt F) ℕ UU ℕ) :=
  sepL all7 fun r => iprop(Ψ ((k, g, r), false) ∗ Ψ ((k, g, r.rev), true))

/-- The tokens of the transfers a device starts, of one kind and group, -/
def tokS (c : Dev nD) (k : Fin 3) (g : Fin 2) : sProp (MT nD τ sig Unit (Elt F) ℕ UU ℕ) :=
  sepL all7 fun r => iprop(tok (F := F) (c, some ((k, g, r), false)) 0 ∗ tok (F := F) (fw c r, some ((k, g, r.rev), true)) 0)
/-- and the credit of those that arrive. -/
def crdS (c : Dev nD) (k : Fin 3) (g : Fin 2) : sProp (MT nD τ sig Unit (Elt F) ℕ UU ℕ) :=
  sepL all7 fun r => crd (F := F) (c, some ((k, g, r.rev), true))

/-- The nine scratch buffers, at any contents. -/
def scrAny (c : Dev nD) : sProp (MT nD τ sig Unit (Elt F) ℕ UU ℕ) :=
  iprop((partAny (Val := Elt F) (c : Thread nD τ) (oM 0) Finset.univ ∗ partAny (Val := Elt F) (c : Thread nD τ) (oM 1) Finset.univ)
    ∗ (partAny (Val := Elt F) (c : Thread nD τ) (sM 0) Finset.univ ∗ partAny (Val := Elt F) (c : Thread nD τ) (sM 1) Finset.univ)
    ∗ (partAny (Val := Elt F) (c : Thread nD τ) (roM 0) Finset.univ ∗ partAny (Val := Elt F) (c : Thread nD τ) (roM 1) Finset.univ)
    ∗ (partAny (Val := Elt F) (c : Thread nD τ) (rsM 0) Finset.univ ∗ partAny (Val := Elt F) (c : Thread nD τ) (rsM 1) Finset.univ)
    ∗ partAny (Val := Elt F) (c : Thread nD τ) cM Finset.univ)

variable (I : Dev nD → Ins F) (K : Dev nD × CI → ℕ) {Q : PUnit → sProp (MT nD τ sig Unit (Elt F) ℕ UU ℕ)}

/-- The staged operands. -/
def insP (c : Dev nD) : sProp (MT nD τ sig Unit (Elt F) ℕ UU ℕ) :=
  iprop((part (c : Thread nD τ) xM Finset.univ fullShare (I c).x ∗ part (c : Thread nD τ) wqM Finset.univ fullShare (I c).wq)
    ∗ kvP I c ∗ part (c : Thread nD τ) woM Finset.univ fullShare (I c).wo)

/-- What the protocol gives device `c` at the launch. -/
def ownG (c : Dev nD) : sProp (MT nD τ sig Unit (Elt F) ℕ UU ℕ) :=
  iprop((sepL all7 fun r => tok (F := F) (fw c r, none) r) ∗ six (tokS c)
    ∗ six (cells fun y => pos (F := F) (c, some y)) ∗ pos (F := F) (c, none))
def ownC (c : Dev nD) : sProp (MT nD τ sig Unit (Elt F) ℕ UU ℕ) :=
  iprop(six (crdS c) ∗ cred (tallyAt (kcell (c, none)) () 7))

/-- What the body starts from, -/
def bodyStart (c : Dev nD) : sProp (MT nD τ sig Unit (Elt F) ℕ UU ℕ) :=
  iprop(rec I K ∗ ownG c ∗ ownC c ∗ ow c (owAll c) ∗ insP I c ∗ partAny (Val := Elt F) (c : Thread nD τ) outM Finset.univ ∗ scrAny c)
/-- and what it ends with. -/
def bodyEnd (c : Dev nD) : sProp (MT nD τ sig Unit (Elt F) ℕ UU ℕ) :=
  iprop(insP I c ∗ part (c : Thread nD τ) outM Finset.univ fullShare (OUT I c) ∗ scrAny c
    ∗ (six (cells fun y => zed (F := F) (c, some y)) ∗ zed (F := F) (c, none)) ∗ ow c [])

/-! ## Regrouping -/

/-- The grants, from the slots and the context rows of the others. -/
theorem grants_of (c : Dev nD) :
    iprop((partAny (Val := Elt F) (c : Thread nD τ) (roM 0) Finset.univ ∗ partAny (Val := Elt F) (c : Thread nD τ) (roM 1) Finset.univ)
      ∗ (partAny (Val := Elt F) (c : Thread nD τ) (rsM 0) Finset.univ ∗ partAny (Val := Elt F) (c : Thread nD τ) (rsM 1) Finset.univ)
      ∗ sepL all7 fun r => iprop(partAny (Val := Elt F) (c : Thread nD τ) cM (ctxA 0 (fw c r)) ∗ partAny (Val := Elt F) (c : Thread nD τ) cM (ctxA 1 (fw c r))))
      ⊢ (sepL all7 (grant (F := F) c) : sProp 𝕄) := by
  have h : ∀ r : Fin 7, iprop(((partAny (Val := Elt F) (c : Thread nD τ) (roM 0) (slO r) ∗ partAny (Val := Elt F) (c : Thread nD τ) (roM 1) (slO r))
      ∗ partAny (Val := Elt F) (c : Thread nD τ) (rsM 0) (slS r) ∗ partAny (Val := Elt F) (c : Thread nD τ) (rsM 1) (slS r))
      ∗ partAny (Val := Elt F) (c : Thread nD τ) cM (ctxA 0 (fw c r)) ∗ partAny (Val := Elt F) (c : Thread nD τ) cM (ctxA 1 (fw c r)))
      ⊢ grant (F := F) c r := by
    intro r
    unfold grant
    iintro ⟨⟨⟨H1, H2⟩, H3, H4⟩, H5, H6⟩
    isplitl [H1 H3 H5]
    · isplitl [H1]; · iexact H1
      isplitl [H3] <;> iassumption
    isplitl [H2]; · iexact H2
    isplitl [H4] <;> iassumption
  rw [cutRO 0, cutRO 1, cutRS 0, cutRS 1]
  iintro ⟨⟨H1, H2⟩, ⟨H3, H4⟩, H5⟩
  ihave H := (sepL_sep' all7) $$ [H1 H2]
  · isplitl [H1] <;> iassumption
  ihave H' := (sepL_sep' all7) $$ [H3 H4]
  · isplitl [H3] <;> iassumption
  ihave H := (sepL_sep' all7) $$ [H H']
  · isplitl [H] <;> iassumption
  ihave H := (sepL_sep' all7) $$ [H H5]
  · isplitl [H] <;> iassumption
  iapply (sepL_mono h all7)
  iexact H

/-- What one group's transfers use of a grant. -/
def slots (g : Fin 2) (c : Dev nD) (r : Fin 7) : sProp (MT nD τ sig Unit (Elt F) ℕ UU ℕ) :=
  iprop(partAny (Val := Elt F) (fw c r : Thread nD τ) (roM g) (slO r.rev) ∗ partAny (Val := Elt F) (fw c r : Thread nD τ) (rsM g) (slS r.rev))

/-- The grants received, as the transfers use them. -/
theorem granted (c : Dev nD) : (bigSep Finset.univ fun d => grant (F := F) (fw c d.rev) d : sProp 𝕄)
    ⊢ iprop((sepL all7 (slots 0 c) ∗ sepL all7 (slots 1 c))
      ∗ (sepL all7 fun r => partAny (Val := Elt F) (fw c r : Thread nD τ) cM (ctxA 0 c)) ∗ sepL all7 fun r => partAny (Val := Elt F) (fw c r : Thread nD τ) cM (ctxA 1 c)) := by
  rw [bigSep_univ_equiv Fin.revPerm, sepL_all7]
  have h : ∀ r : Fin 7, grant (F := F) (fw c (Fin.revPerm r).rev) (Fin.revPerm r)
      ⊢ iprop((slots 0 c r ∗ slots 1 c r) ∗ partAny (Val := Elt F) (fw c r : Thread nD τ) cM (ctxA 0 c) ∗ partAny (Val := Elt F) (fw c r : Thread nD τ) cM (ctxA 1 c)) := by
    intro r
    rw [Fin.revPerm_apply, Fin.rev_rev]
    unfold grant slots
    rw [fw_fw_rev]
    iintro ⟨⟨H1, H3, H5⟩, H2, H4, H6⟩
    isplitr [H5 H6]
    · isplitl [H1 H3]; · isplitl [H1] <;> iassumption
      isplitl [H2] <;> iassumption
    isplitl [H5] <;> iassumption
  iintro H
  ihave H := (sepL_unzip h all7) $$ H
  icases H with ⟨H1, H2⟩
  isplitl [H1]
  · iapply (sepL_sep all7); iexact H1
  iapply (sepL_sep all7); iexact H2

/-- What one group's reduce-scatter transfers need. -/
theorem sendPre_of (g : Fin 2) (c : Dev nD) :
    iprop((sepL all7 fun r => part (c : Thread nD τ) (oM g) (rowsO (fw c r)) fullShare (OW I g c))
      ∗ (sepL all7 fun r => part (c : Thread nD τ) (sM g) (rowsS (fw c r)) fullShare (SW I g c))
      ∗ sepL all7 (slots g c) ∗ tokS c 0 g ∗ tokS c 1 g) ⊢ sepL all7 (sendPre I g c) := by
  have h : ∀ r : Fin 7, iprop(((part (c : Thread nD τ) (oM g) (rowsO (fw c r)) fullShare (OW I g c) ∗ part (c : Thread nD τ) (sM g) (rowsS (fw c r)) fullShare (SW I g c))
      ∗ slots g c r)
      ∗ (tok (F := F) (c, some ((0, g, r), false)) 0 ∗ tok (F := F) (fw c r, some ((0, g, r.rev), true)) 0)
      ∗ (tok (F := F) (c, some ((1, g, r), false)) 0 ∗ tok (F := F) (fw c r, some ((1, g, r.rev), true)) 0)) ⊢ sendPre I g c r := by
    intro r
    unfold sendPre slots
    iintro ⟨⟨H1, H2⟩, H3, H4⟩
    isplitl [H1]; · iexact H1
    isplitl [H2]; · iexact H2
    isplitl [H3] <;> iassumption
  unfold tokS
  iintro ⟨H1, H2, H3, H4, H5⟩
  ihave H := (sepL_sep' all7) $$ [H1 H2]
  · isplitl [H1] <;> iassumption
  ihave H := (sepL_sep' all7) $$ [H H3]
  · isplitl [H] <;> iassumption
  ihave H' := (sepL_sep' all7) $$ [H4 H5]
  · isplitl [H4] <;> iassumption
  ihave H := (sepL_sep' all7) $$ [H H']
  · isplitl [H] <;> iassumption
  iapply (sepL_mono h all7)
  iexact H

/-- What one group's waits need. -/
theorem combPre_of (g : Fin 2) (c : Dev nD) :
    iprop(sepL all7 (sendPost (F := F) g c) ∗ (crdS c 0 g ∗ crdS c 1 g)
      ∗ cells (fun y => pos (F := F) (c, some y)) 0 g ∗ cells (fun y => pos (F := F) (c, some y)) 1 g) ⊢ sepL all7 (combPre (F := F) g c) := by
  have h : ∀ r : Fin 7, iprop((sendPost (F := F) g c r ∗ crd (F := F) (c, some ((0, g, r.rev), true)) ∗ crd (F := F) (c, some ((1, g, r.rev), true)))
      ∗ (pos (F := F) (c, some ((0, g, r), false)) ∗ pos (F := F) (c, some ((0, g, r.rev), true)))
      ∗ (pos (F := F) (c, some ((1, g, r), false)) ∗ pos (F := F) (c, some ((1, g, r.rev), true)))) ⊢ combPre (F := F) g c r := by
    intro r
    unfold combPre sendPost
    iintro ⟨⟨⟨H1, H2⟩, H3, H4⟩, ⟨H5, H6⟩, H7, H8⟩
    isplitl [H1 H5]; · isplitl [H1] <;> iassumption
    isplitl [H3 H6]; · isplitl [H3] <;> iassumption
    isplitl [H2 H7]; · isplitl [H2] <;> iassumption
    isplitl [H4] <;> iassumption
  unfold crdS cells
  iintro ⟨H1, ⟨H2, H3⟩, H4, H5⟩
  ihave H := (sepL_sep' all7) $$ [H2 H3]
  · isplitl [H2] <;> iassumption
  ihave H := (sepL_sep' all7) $$ [H1 H]
  · isplitl [H1] <;> iassumption
  ihave H' := (sepL_sep' all7) $$ [H4 H5]
  · isplitl [H4] <;> iassumption
  ihave H := (sepL_sep' all7) $$ [H H']
  · isplitl [H] <;> iassumption
  iapply (sepL_mono h all7)
  iexact H

/-- What one group's combination returns, sorted. -/
theorem combPost_to (g : Fin 2) (c : Dev nD) : (sepL all7 (combPost I g c) : sProp 𝕄)
    ⊢ iprop(((sepL all7 fun r => part (c : Thread nD τ) (oM g) (rowsO (fw c r)) fullShare (OW I g c))
        ∗ (sepL all7 fun r => part (c : Thread nD τ) (sM g) (rowsS (fw c r)) fullShare (SW I g c)))
      ∗ (partAny (Val := Elt F) (c : Thread nD τ) (roM g) Finset.univ ∗ partAny (Val := Elt F) (c : Thread nD τ) (rsM g) Finset.univ)
      ∗ cells (fun y => zed (F := F) (c, some y)) 0 g ∗ cells (fun y => zed (F := F) (c, some y)) 1 g) := by
  rw [cutRO, cutRS, ← sepL_rev (fun r => partAny (Val := Elt F) (c : Thread nD τ) (roM g) (slO r)), ← sepL_rev (fun r => partAny (Val := Elt F) (c : Thread nD τ) (rsM g) (slS r))]
  unfold cells
  have h : ∀ r : Fin 7, combPost I g c r
      ⊢ iprop(((part (c : Thread nD τ) (oM g) (rowsO (fw c r)) fullShare (OW I g c) ∗ part (c : Thread nD τ) (sM g) (rowsS (fw c r)) fullShare (SW I g c))
        ∗ partAny (Val := Elt F) (c : Thread nD τ) (roM g) (slO r.rev) ∗ partAny (Val := Elt F) (c : Thread nD τ) (rsM g) (slS r.rev))
        ∗ (zed (F := F) (c, some ((0, g, r), false)) ∗ zed (F := F) (c, some ((0, g, r.rev), true)))
        ∗ zed (F := F) (c, some ((1, g, r), false)) ∗ zed (F := F) (c, some ((1, g, r.rev), true))) := by
    intro r
    unfold combPost
    iintro ⟨⟨H1, Z1⟩, ⟨H2, Z2⟩, ⟨H3, Z3⟩, H4, Z4⟩
    isplitl [H1 H2 H3 H4]
    · isplitl [H1 H3]; · isplitl [H1] <;> iassumption
      isplitl [H2]; · iapply partAny_intro; iexact H2
      iapply partAny_intro; iexact H4
    isplitl [Z1 Z2]; · isplitl [Z1] <;> iassumption
    isplitl [Z3] <;> iassumption
  iintro H
  ihave H := (sepL_unzip h all7) $$ H
  icases H with ⟨H1, H2⟩
  ihave H1 := (sepL_sep all7) $$ H1
  icases H1 with ⟨H1, H1'⟩
  isplitl [H1]
  · iapply (sepL_sep all7); iexact H1
  isplitl [H1']
  · iapply (sepL_sep all7); iexact H1'
  iapply (sepL_sep all7); iexact H2

/-- What one group's all-gather transfers need, and the share of the own rows kept. -/
theorem gathPre_of (g : Fin 2) (c : Dev nD) :
    iprop(part (c : Thread nD τ) cM (ctxA g c) fullShare (CTX I) ∗ (sepL all7 fun r => partAny (Val := Elt F) (fw c r : Thread nD τ) cM (ctxA g c)) ∗ tokS c 2 g)
      ⊢ iprop(part (c : Thread nD τ) cM (ctxA g c) (Transfers.shareDrop fullShare 7) (CTX I) ∗ sepL all7 (gathPre I g c)) := by
  have h : ∀ r : Fin 7, iprop(part (c : Thread nD τ) cM (ctxA g c) (tokSh r) (CTX I) ∗ partAny (Val := Elt F) (fw c r : Thread nD τ) cM (ctxA g c)
      ∗ tok (F := F) (c, some ((2, g, r), false)) 0 ∗ tok (F := F) (fw c r, some ((2, g, r.rev), true)) 0) ⊢ gathPre I g c r := by
    intro r
    unfold gathPre
    iintro ⟨H1, H2, H3, H4⟩
    isplitl [H1]; · iexact H1
    isplitl [H2]; · iexact H2
    isplitl [H3] <;> iassumption
  unfold tokS
  iintro ⟨H1, H2, H3⟩
  ihave H1 := (part_toks 7).1 $$ H1
  icases H1 with ⟨H0, H1⟩
  isplitl [H0]; · iexact H0
  ihave H1 := (eq_ent (sepL_all7 (fun r => part (c : Thread nD τ) cM (ctxA g c) (tokSh r) (CTX I)))) $$ H1
  ihave H := (sepL_sep' all7) $$ [H2 H3]
  · isplitl [H2] <;> iassumption
  iapply (sepL_zip h all7) $$ [H1 H]
  isplitl [H1] <;> iassumption

/-- What the last loop needs. -/
theorem outPre_of (c : Dev nD) :
    iprop(((sepL all7 fun r => crd (F := F) (c, some ((2, 0, r), false))) ∗ sepL all7 fun r => crd (F := F) (c, some ((2, 1, r), false)))
      ∗ (crdS c 2 0 ∗ crdS c 2 1)
      ∗ (cells (fun y => pos (F := F) (c, some y)) 2 0 ∗ cells (fun y => pos (F := F) (c, some y)) 2 1)
      ∗ sepL all7 fun r => partAny (Val := Elt F) (c : Thread nD τ) outM (rowsY (fw c r))) ⊢ sepL all7 (outPre (F := F) c) := by
  rw [← sepL_rev (fun r => partAny (Val := Elt F) (c : Thread nD τ) outM (rowsY (fw c r)))]
  have h : ∀ r : Fin 7, iprop((((crd (F := F) (c, some ((2, 0, r), false)) ∗ crd (F := F) (c, some ((2, 1, r), false)))
      ∗ crd (F := F) (c, some ((2, 0, r.rev), true)) ∗ crd (F := F) (c, some ((2, 1, r.rev), true)))
      ∗ (pos (F := F) (c, some ((2, 0, r), false)) ∗ pos (F := F) (c, some ((2, 0, r.rev), true)))
      ∗ (pos (F := F) (c, some ((2, 1, r), false)) ∗ pos (F := F) (c, some ((2, 1, r.rev), true))))
      ∗ partAny (Val := Elt F) (c : Thread nD τ) outM (rowsY (fw c r.rev))) ⊢ outPre (F := F) c r := by
    intro r
    unfold outPre
    iintro ⟨⟨⟨⟨H1, H2⟩, H3, H4⟩, ⟨H5, H6⟩, H7, H8⟩, H9⟩
    isplitl [H1 H5]; · isplitl [H1] <;> iassumption
    isplitl [H3 H6]; · isplitl [H3] <;> iassumption
    isplitl [H2 H7]; · isplitl [H2] <;> iassumption
    isplitl [H4 H8]; · isplitl [H4] <;> iassumption
    iexact H9
  unfold crdS cells
  iintro ⟨⟨H1, H2⟩, ⟨H3, H4⟩, ⟨H5, H6⟩, H7⟩
  ihave H := (sepL_sep' all7) $$ [H1 H2]
  · isplitl [H1] <;> iassumption
  ihave H' := (sepL_sep' all7) $$ [H3 H4]
  · isplitl [H3] <;> iassumption
  ihave H := (sepL_sep' all7) $$ [H H']
  · isplitl [H] <;> iassumption
  ihave H' := (sepL_sep' all7) $$ [H5 H6]
  · isplitl [H5] <;> iassumption
  ihave H := (sepL_sep' all7) $$ [H H']
  · isplitl [H] <;> iassumption
  iapply (sepL_zip h all7) $$ [H H7]
  isplitl [H] <;> iassumption

/-- What the last loop returns, sorted. -/
theorem outPost_to (c : Dev nD) : (sepL all7 (outPost I c) : sProp 𝕄)
    ⊢ iprop(((sepL all7 fun r => part (c : Thread nD τ) cM (ctxA 0 c) (tokSh r) (CTX I)) ∗ (sepL all7 fun r => part (c : Thread nD τ) cM (ctxA 1 c) (tokSh r) (CTX I)))
      ∗ ((sepL all7 fun r => part (c : Thread nD τ) cM (ctxA 0 (fw c r) ∪ ctxA 1 (fw c r)) fullShare (CTX I))
        ∗ sepL all7 fun r => part (c : Thread nD τ) outM (rowsY (fw c r)) fullShare (OUT I c))
      ∗ cells (fun y => zed (F := F) (c, some y)) 2 0 ∗ cells (fun y => zed (F := F) (c, some y)) 2 1) := by
  rw [← sepL_rev (fun r => part (c : Thread nD τ) cM (ctxA 0 (fw c r) ∪ ctxA 1 (fw c r)) fullShare (CTX I)), ← sepL_rev (fun r => part (c : Thread nD τ) outM (rowsY (fw c r)) fullShare (OUT I c))]
  unfold cells
  have h : ∀ r : Fin 7, outPost I c r
      ⊢ iprop(((part (c : Thread nD τ) cM (ctxA 0 c) (tokSh r) (CTX I) ∗ part (c : Thread nD τ) cM (ctxA 1 c) (tokSh r) (CTX I))
        ∗ part (c : Thread nD τ) cM (ctxA 0 (fw c r.rev) ∪ ctxA 1 (fw c r.rev)) fullShare (CTX I) ∗ part (c : Thread nD τ) outM (rowsY (fw c r.rev)) fullShare (OUT I c))
        ∗ (zed (F := F) (c, some ((2, 0, r), false)) ∗ zed (F := F) (c, some ((2, 0, r.rev), true)))
        ∗ zed (F := F) (c, some ((2, 1, r), false)) ∗ zed (F := F) (c, some ((2, 1, r.rev), true))) := by
    intro r
    unfold outPost
    iintro ⟨⟨H1, Z1⟩, Z2, ⟨H3, Z3⟩, Z4, H5, H6⟩
    isplitl [H1 H3 H5 H6]
    · isplitl [H1 H3]; · isplitl [H1] <;> iassumption
      isplitl [H5] <;> iassumption
    isplitl [Z1 Z2]; · isplitl [Z1] <;> iassumption
    isplitl [Z3] <;> iassumption
  iintro H
  ihave H := (sepL_unzip h all7) $$ H
  icases H with ⟨H1, H2⟩
  ihave H1 := (sepL_sep all7) $$ H1
  icases H1 with ⟨H1, H1'⟩
  isplitl [H1]
  · iapply (sepL_sep all7); iexact H1
  isplitl [H1']
  · iapply (sepL_sep all7); iexact H1'
  iapply (sepL_sep all7); iexact H2

/-- The context rows kept and lent, back together. -/
theorem ctx_back (g : Fin 2) (c : Dev nD) :
    iprop(part (c : Thread nD τ) cM (ctxA g c) (Transfers.shareDrop fullShare 7) (CTX I) ∗ sepL all7 fun r => part (c : Thread nD τ) cM (ctxA g c) (tokSh r) (CTX I))
      ⊢ (part (c : Thread nD τ) cM (ctxA g c) fullShare (CTX I) : sProp 𝕄) := by
  rw [← sepL_all7]
  exact (part_toks 7).2

/-! ## The run -/

theorem wp_body (c : Dev nD) :
    bodyStart I K c ⊢ iprop((bodyEnd I c -∗ Q ⟨⟩) -∗ wpc c bodyP Q) := by
  unfold bodyStart ownG ownC insP scrAny six
  iintro ⟨#Hrec, ⟨Hts, ⟨⟨T00, T01⟩, ⟨T10, T11⟩, T20, T21⟩, ⟨⟨P00, P01⟩, ⟨P10, P11⟩, P20, P21⟩, Hpb⟩,
    ⟨⟨⟨C00, C01⟩, ⟨C10, C11⟩, C20, C21⟩, Hcb⟩, Ho, ⟨Hxq, Hkv, Hwo⟩, HY, ⟨HO0, HO1⟩, ⟨HS0, HS1⟩, HRO, HRS, HC⟩ Hk
  unfold bodyP
  simp only [wpc, op, wp_deviceId]
  ihave HC := (cutCAny c) $$ HC
  icases HC with ⟨⟨HC0, HC1⟩, HC⟩
  ihave Hg := (grants_of c) $$ [HRO HRS HC]
  · isplitl [HRO]; · iexact HRO
    isplitl [HRS] <;> iassumption
  -- the entry signals and the barrier
  ihave Hts := (sepL_sep' all7) $$ [Hts Hg]
  · isplitl [Hts] <;> iassumption
  iapply (wp_sigs I K c (owRS 0 c all7 (owRS 1 c all7 (owAG 0 c all7 (owAG 1 c all7 [])))) _ all7) $$ [Hts Ho]
  · isplitr; · iexact Hrec
    isplitl [Hts]; · iexact Hts
    iexact Ho
  iintro Ho
  iapply (step_bar I K (lvl_bar c)) $$ [Hcb Hpb Ho]
  · isplitr; · iexact Hrec
    isplitl [Hcb]; · iexact Hcb
    isplitl [Hpb] <;> iassumption
  iintro ⟨Hg, Zb, Ho⟩
  ihave Hg := (granted c) $$ Hg
  icases Hg with ⟨⟨L0, L1⟩, M0, M1⟩
  -- the queries
  iapply (wp_ldQ I c _) $$ Hxq
  iintro Hxq
  -- group 0: attention, transfers
  iapply (wp_attG I 0 c _) $$ [Hkv HO0 HS0]
  · isplitl [Hkv]; · iexact Hkv
    isplitl [HO0] <;> iassumption
  iintro ⟨Hkv, HO0, HS0⟩
  ihave HO0 := (eq_ent (cutO 0 c (OW I 0 c))) $$ HO0
  ihave HS0 := (eq_ent (cutS 0 c (SW I 0 c))) $$ HS0
  icases HO0 with ⟨HO0, RO0⟩
  icases HS0 with ⟨HS0, RS0⟩
  ihave Hp := (sendPre_of I 0 c) $$ [RO0 RS0 L0 T00 T10]
  · isplitl [RO0]; · iexact RO0
    isplitl [RS0]; · iexact RS0
    isplitl [L0]; · iexact L0
    isplitl [T00] <;> iassumption
  iapply (wp_sends I K 0 c (owRS 1 c all7 (owAG 0 c all7 (owAG 1 c all7 []))) _ all7) $$ [Hp Ho]
  · isplitr; · iexact Hrec
    isplitl [Hp] <;> iassumption
  iintro ⟨D0, Ho⟩
  -- group 1
  iapply (wp_attG I 1 c _) $$ [Hkv HO1 HS1]
  · isplitl [Hkv]; · iexact Hkv
    isplitl [HO1] <;> iassumption
  iintro ⟨Hkv, HO1, HS1⟩
  ihave HO1 := (eq_ent (cutO 1 c (OW I 1 c))) $$ HO1
  ihave HS1 := (eq_ent (cutS 1 c (SW I 1 c))) $$ HS1
  icases HO1 with ⟨HO1, RO1⟩
  icases HS1 with ⟨HS1, RS1⟩
  ihave Hp := (sendPre_of I 1 c) $$ [RO1 RS1 L1 T01 T11]
  · isplitl [RO1]; · iexact RO1
    isplitl [RS1]; · iexact RS1
    isplitl [L1]; · iexact L1
    isplitl [T01] <;> iassumption
  iapply (wp_sends I K 1 c (owAG 0 c all7 (owAG 1 c all7 [])) _ all7) $$ [Hp Ho]
  · isplitr; · iexact Hrec
    isplitl [Hp] <;> iassumption
  iintro ⟨D1, Ho⟩
  -- the combinations and the all-gather
  ihave Hp := (combPre_of 0 c) $$ [D0 C00 C10 P00 P10]
  · isplitl [D0]; · iexact D0
    isplitl [C00 C10]; · isplitl [C00] <;> iassumption
    isplitl [P00] <;> iassumption
  iapply (wp_combG I K 0 c (owAG 0 c all7 (owAG 1 c all7 [])) (lvl_ag c) _) $$ [HO0 HS0 HC0 Hp Ho]
  · isplitr; · iexact Hrec
    isplitl [HO0 HS0]; · isplitl [HO0] <;> iassumption
    isplitl [HC0]; · iexact HC0
    isplitl [Hp] <;> iassumption
  iintro ⟨⟨HO0, HS0⟩, HC0, B0, Ho⟩
  ihave Hp := (gathPre_of I 0 c) $$ [HC0 M0 T20]
  · isplitl [HC0]; · iexact HC0
    isplitl [M0] <;> iassumption
  icases Hp with ⟨HC0, Hp⟩
  iapply (wp_gath I K 0 c (owAG 1 c all7 []) _ all7) $$ [Hp Ho]
  · isplitr; · iexact Hrec
    isplitl [Hp] <;> iassumption
  iintro ⟨G0, Ho⟩
  ihave Hp := (combPre_of 1 c) $$ [D1 C01 C11 P01 P11]
  · isplitl [D1]; · iexact D1
    isplitl [C01 C11]; · isplitl [C01] <;> iassumption
    isplitl [P01] <;> iassumption
  iapply (wp_combG I K 1 c (owAG 1 c all7 []) (lvl_ag1 c) _) $$ [HO1 HS1 HC1 Hp Ho]
  · isplitr; · iexact Hrec
    isplitl [HO1 HS1]; · isplitl [HO1] <;> iassumption
    isplitl [HC1]; · iexact HC1
    isplitl [Hp] <;> iassumption
  iintro ⟨⟨HO1, HS1⟩, HC1, B1, Ho⟩
  ihave Hp := (gathPre_of I 1 c) $$ [HC1 M1 T21]
  · isplitl [HC1]; · iexact HC1
    isplitl [M1] <;> iassumption
  icases Hp with ⟨HC1, Hp⟩
  iapply (wp_gath I K 1 c [] _ all7) $$ [Hp Ho]
  · isplitr; · iexact Hrec
    isplitl [Hp] <;> iassumption
  iintro ⟨G1, Ho⟩
  -- the result
  ihave HY := (cutYAny c) $$ HY
  icases HY with ⟨HY, HYs⟩
  ihave Hp := (outPre_of c) $$ [G0 G1 C20 C21 P20 P21 HYs]
  · isplitl [G0 G1]; · isplitl [G0] <;> iassumption
    isplitl [C20 C21]; · isplitl [C20] <;> iassumption
    isplitl [P20 P21]; · isplitl [P20] <;> iassumption
    iexact HYs
  iapply (wp_phaseOut I K c _) $$ [Hwo HY Hp Ho]
  · isplitr; · iexact Hrec
    isplitl [Hwo]; · iexact Hwo
    isplitl [HY]; · iexact HY
    isplitl [Hp] <;> iassumption
  iintro ⟨Hwo, HY, Hp, Ho⟩
  simp only [wpc]
  rw [wp_ret]
  imodintro
  iapply Hk
  -- everything back
  ihave B0 := (combPost_to I 0 c) $$ B0
  icases B0 with ⟨⟨RO0, RS0⟩, ⟨HRO0, HRS0⟩, Z00, Z10⟩
  ihave B1 := (combPost_to I 1 c) $$ B1
  icases B1 with ⟨⟨RO1, RS1⟩, ⟨HRO1, HRS1⟩, Z01, Z11⟩
  ihave Hp := (outPost_to I c) $$ Hp
  icases Hp with ⟨⟨S0, S1⟩, ⟨HCs, HYs⟩, Z20, Z21⟩
  ihave HC0 := (ctx_back I 0 c) $$ [HC0 S0]
  · isplitl [HC0] <;> iassumption
  ihave HC1 := (ctx_back I 1 c) $$ [HC1 S1]
  · isplitl [HC1] <;> iassumption
  unfold bodyEnd insP scrAny six
  rw [cutY c]
  isplitl [Hxq Hkv Hwo]
  · isplitl [Hxq]; · iexact Hxq
    isplitl [Hkv] <;> iassumption
  isplitl [HY HYs]; · isplitl [HY] <;> iassumption
  isplitr [Z00 Z01 Z10 Z11 Z20 Z21 Zb Ho]
  · isplitl [HO0 RO0 HO1 RO1]
    · isplitl [HO0 RO0]
      · iapply (partAny_intro (X := OW I 0 c)); rw [cutO 0 c]; isplitl [HO0] <;> iassumption
      iapply (partAny_intro (X := OW I 1 c)); rw [cutO 1 c]; isplitl [HO1] <;> iassumption
    isplitl [HS0 RS0 HS1 RS1]
    · isplitl [HS0 RS0]
      · iapply (partAny_intro (X := SW I 0 c)); rw [cutS 0 c]; isplitl [HS0] <;> iassumption
      iapply (partAny_intro (X := SW I 1 c)); rw [cutS 1 c]; isplitl [HS1] <;> iassumption
    isplitl [HRO0 HRO1]; · isplitl [HRO0] <;> iassumption
    isplitl [HRS0 HRS1]; · isplitl [HRS0] <;> iassumption
    iapply (partAny_intro (X := CTX I)); rw [cutC c]
    isplitr [HCs]
    · iapply (part_join (ctx_own_disj c)); isplitl [HC0] <;> iassumption
    iexact HCs
  isplitr [Ho]
  · isplitr [Zb]
    · isplitl [Z00 Z01]; · isplitl [Z00] <;> iassumption
      isplitl [Z10 Z11]; · isplitl [Z10] <;> iassumption
      isplitl [Z20] <;> iassumption
    iexact Zb
  iexact Ho

end Cert.Attn

end
-- ==== Proof.Attn.Mint.lean ====
/-
# Setting up the protocol

Before the body runs, every cell's invariant is allocated for all devices under one update, the duty tokens are dealt to
the devices that pay the duties, and each device's credit is read off what the others owe its cells.
-/
module

public import proofs.«01_k».proof.Proof.Attn.Body

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

/-! ## Products over the cells -/

theorem sepL_sep_eq {α : Type} [DecidableEq α] {Φ Ψ : α → sProp (MT nD τ sig Unit (Elt F) ℕ UU ℕ)} (l : List α) :
    sepL l (fun x => iprop(Φ x ∗ Ψ x)) = iprop(sepL l Φ ∗ sepL l Ψ) := equiv_iff.mp ⟨sepL_sep l, sepL_sep' l⟩

theorem cells_eq (Ψ : K3 × Bool → sProp (MT nD τ sig Unit (Elt F) ℕ UU ℕ)) (k : Fin 3) (g : Fin 2) :
    (bigSep Finset.univ fun r : Fin 7 => bigSep Finset.univ fun b : Bool => Ψ ((k, g, r), b)) = cells Ψ k g := by
  unfold cells
  rw [sepL_sep_eq, sepL_rev (fun r => Ψ ((k, g, r), true)), ← sepL_sep_eq, ← sepL_all7]
  exact bigSep_congr fun r _ => bigSep_univ_eq_bigSepL [false, true] (by decide) (by decide) _

/-- Over all transfers' cells. -/
theorem six_cells (Ψ : K3 × Bool → sProp (MT nD τ sig Unit (Elt F) ℕ UU ℕ)) : bigSep Finset.univ Ψ = six (cells Ψ) := by
  have h2 (Φ : Fin 2 → sProp (MT nD τ sig Unit (Elt F) ℕ UU ℕ)) : bigSep Finset.univ Φ = iprop(Φ 0 ∗ Φ 1) :=
    bigSep_univ_eq_bigSepL [0, 1] (by decide) (by decide) Φ
  have h3 (Φ : Fin 3 → sProp (MT nD τ sig Unit (Elt F) ℕ UU ℕ)) : bigSep Finset.univ Φ = iprop(Φ 0 ∗ Φ 1 ∗ Φ 2) :=
    bigSep_univ_eq_bigSepL [0, 1, 2] (by decide) (by decide) Φ
  rw [bigSep_univ_prod, bigSep_univ_prod]
  simp only [bigSep_univ_prod (α := Fin 2) (β := Fin 7), cells_eq]
  rw [h3, h2, h2, h2]; rfl

/-- Over all cells of a device. -/
theorem ci_cells (Φ : CI → sProp (MT nD τ sig Unit (Elt F) ℕ UU ℕ)) :
    bigSep Finset.univ Φ = iprop(six (cells fun y => Φ (some y)) ∗ Φ none) := by
  rw [bigSep_univ_equiv (Equiv.optionEquivSumPUnit.{0} (K3 × Bool)).symm Φ, bigSep_univ_sum, ← six_cells]
  congr 1
  exact bigSep_univ_eq_bigSepL [PUnit.unit] (by decide) (by decide) _

theorem six_mono {Φ Ψ : Fin 3 → Fin 2 → sProp (MT nD τ sig Unit (Elt F) ℕ UU ℕ)} (h : ∀ k g, Φ k g ⊢ Ψ k g) : six Φ ⊢ six Ψ := by
  unfold six
  exact BI.sep_mono (BI.sep_mono (h 0 0) (h 0 1)) (BI.sep_mono (BI.sep_mono (h 1 0) (h 1 1)) (BI.sep_mono (h 2 0) (h 2 1)))

theorem six_devs (Φ : Dev nD → Fin 3 → Fin 2 → sProp (MT nD τ sig Unit (Elt F) ℕ UU ℕ)) :
    (bigSep Finset.univ fun c => six (Φ c)) = six fun k g => bigSep Finset.univ fun c => Φ c k g := by
  unfold six
  simp only [bigSep_sep']

/-! ## The tokens, dealt around -/

/-- The tokens of a device's own cells. -/
def toks (c : Dev nD) : sProp (MT nD τ sig Unit (Elt F) ℕ UU ℕ) :=
  iprop(six (cells fun y => tok (c, some y) 0) ∗ sepL all7 fun r => tok (c, none) r)
/-- The tokens of the duties a device pays. -/
def payToks (c : Dev nD) : sProp (MT nD τ sig Unit (Elt F) ℕ UU ℕ) :=
  iprop((sepL all7 fun r => tok (fw c r, none) r) ∗ six (tokS c))

/-- Products over two indices, either one outside. -/
theorem swap_prod {A B : Type} [Fintype A] [Fintype B] (Φ : A → B → sProp (MT nD τ sig Unit (Elt F) ℕ UU ℕ)) :
    (bigSep Finset.univ fun a => bigSep Finset.univ fun b => Φ a b) = bigSep Finset.univ fun b => bigSep Finset.univ fun a => Φ a b :=
  (bigSep_univ_prod fun x : A × B => Φ x.1 x.2).symm.trans
    ((bigSep_univ_equiv (Equiv.prodComm B A) fun x : A × B => Φ x.1 x.2).trans (bigSep_univ_prod fun x : B × A => Φ x.2 x.1))

/-- Over all devices and distances, the device at that distance instead. -/
theorem around (Φ : Dev nD → Fin 7 → sProp (MT nD τ sig Unit (Elt F) ℕ UU ℕ)) :
    (bigSep Finset.univ fun c => sepL all7 (Φ c)) = bigSep Finset.univ fun c => sepL all7 fun r => Φ (fw c r) r := by
  simp only [← sepL_all7]
  rw [swap_prod, swap_prod fun (c : Dev nD) r => Φ (fw c r) r]
  exact bigSep_congr fun r _ => bigSep_univ_equiv (fwE r) _

theorem toks_around : (bigSep Finset.univ (toks (F := F))) ⊢ bigSep Finset.univ (payToks (F := F)) := by
  unfold toks payToks
  rw [bigSep_sep', bigSep_sep', six_devs, six_devs, around fun c r => tok (F := F) (c, none) r]
  have h : ∀ k g, (bigSep Finset.univ fun c => cells (fun y => tok (F := F) (c, some y) 0) k g) ⊢ bigSep Finset.univ fun c => tokS (F := F) c k g := by
    intro k g
    unfold cells tokS
    simp only [sepL_sep_eq, bigSep_sep']
    rw [around fun c r => tok (F := F) (c, some ((k, g, r.rev), true)) 0]
  iintro ⟨H1, H2⟩
  isplitl [H2]; · iexact H2
  iapply (six_mono h)
  iexact H1

/-! ## Allocation -/

variable (I : Dev nD → Ins F)

def theCells : Finset (GSem nD τ sig) := Finset.univ.map ⟨kcell, kcell_inj⟩
def tokOf (xd : (Dev nD × CI) × Fin 7) : GSem nD τ sig × ℕ × Fin 7 := (kcell xd.1, 0, xd.2)
theorem tokOf_inj : Function.Injective tokOf := fun a b h =>
  Prod.ext (kcell_inj (congrArg Prod.fst h)) (congrArg (fun x : GSem nD τ sig × ℕ × Fin 7 => x.2.2) h)
def theToks : Finset (GSem nD τ sig × ℕ × Fin 7) := Finset.univ.map ⟨tokOf, tokOf_inj⟩

def u₀ : UU := (initOf (Pipeline.cells cfgs cellOf_inj) (Pipeline.launchToks cfgs cellOf_inj), initOf theCells theToks)

/-- What the launch element deals device `c`. -/
def G (c : Dev nD) : sProp (MT nD τ sig Unit (Elt F) ℕ UU ℕ) :=
  iprop((bigSep Finset.univ fun k : CI => roundState ER (sched I) (kcell (c, k)) 0)
    ∗ (bigSep Finset.univ fun k : CI => pos (c, k)) ∗ (bigSep Finset.univ fun k : CI => reached ER (kcell (c, k)) 0) ∗ toks c)

/-- What is known of the cells. -/
def recs (K : Dev nD × CI → ℕ) : sProp (MT nD τ sig Unit (Elt F) ℕ UU ℕ) :=
  bigSep Finset.univ fun x : Dev nD × CI => iprop(cellInv ER (sched I) (K x) (kcell x) ∗ reached ER (kcell x) 0)
instance recs_persistent (K : Dev nD × CI → ℕ) : BI.Persistent (recs I K) := by unfold recs; infer_instance

/-- What the set-up makes of it. -/
def G' (c : Dev nD) : sProp (MT nD τ sig Unit (Elt F) ℕ UU ℕ) := iprop(∃ K, recs I K ∗ ownG c)

theorem toks_of (c : Dev nD) : (bigSep Finset.univ fun k : CI => bigSep Finset.univ fun d : Fin 7 => tok (F := F) (c, k) d) ⊢ toks c := by
  rw [ci_cells]
  unfold toks
  refine BI.sep_mono ?_ (eq_ent (sepL_all7 _))
  rw [← six_cells, ← six_cells]
  exact bigSep_mono fun y _ => bigSep_elim (Finset.mem_univ (0 : Fin 7))

theorem fund : BI.own (ER (F := F) (initOf theCells theToks)) ⊢ (|==> bigSep Finset.univ (G I) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) ⊢ bigSep Finset.univ fun c : Dev nD => toks c := by
    unfold theToks; rw [bigSep_map, bigSep_univ_prod, bigSep_univ_prod]
    exact bigSep_mono fun c _ => toks_of c
  iintro HX
  imod (Rounds.fund ER (sched I) theCells theToks) $$ HX with ⟨Hst, Hr, Hat, Htok⟩
  imodintro
  ihave Hst := (eq_ent (hX fun g => roundState ER (sched I) g 0)) $$ Hst
  ihave Hat := (eq_ent (hX fun g => atPos ER g 0 ∅ 0)) $$ Hat
  ihave Hr := (eq_ent (hX fun g => reached ER g 0)) $$ Hr
  ihave Htok := hT $$ Htok
  unfold G; simp only [bigSep_sep']
  isplitl [Hst]; · iexact Hst
  isplitl [Hat]; · iexact Hat
  isplitl [Hr] <;> iassumption

/-- A transfer's semaphores. -/
def osem (y : K3 × Bool) : SemLoc sig := csem (some y)

theorem ownSems0_eq (c : Dev nD) : (Pipeline.ownSems0 (Ix := Unit) (Name := ℕ) (U := UU) (Lvl := ℕ) (Val := Elt F) (τ := τ) osem c : sProp 𝕄)
    = six (cells fun y => zed (c, some y)) := by
  rw [← six_cells]; rfl

/-- The barrier semaphore is the launch's one unscoped semaphore. -/
theorem unscopedSems0_eq (c : Dev nD) : (unscopedSems0 c : sProp 𝕄) = zed (c, none) := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (sched I) κ (kcell (c, k))))
          ∗ (bigSep Finset.univ fun k : CI => pos (c, k)) ∗ (bigSep Finset.univ fun k : CI => reached ER (kcell (c, k)) 0) ∗ toks c) := by
  have h : iprop((bigSep Finset.univ fun k : CI => zed (F := F) (c, k)) ∗ bigSep Finset.univ fun k : CI => roundState ER (sched I) (kcell (c, k)) 0)
      ⊢ (|={Set.univ}=> bigSep Finset.univ fun k => iprop(∃ κ : ℕ, cellInv ER (sched I) κ (kcell (c, k))) : sProp 𝕄) := by
    rw [← bigSep_sep']
    exact (bigSep_mono fun k _ => (Rounds.body_intro ER (sched I) (kcell (c, k))).trans inv_alloc).trans (bigSep_fupd _ _)
  rw [ownSems0_eq, unscopedSems0_eq]
  unfold G
  iintro ⟨Hos, Hus, Hst, Hrest⟩
  imod h $$ [Hos Hus Hst] with Hinv
  · isplitr [Hst]
    · iapply (eq_ent (ci_cells fun k => zed (F := F) (c, k)).symm)
      isplitl [Hos] <;> iassumption
    iexact Hst
  imodintro
  isplitl [Hinv] <;> iassumption

theorem own_intro (K : Dev nD × CI → ℕ) (c : Dev nD) :
    iprop(recs I K ∗ (bigSep Finset.univ fun k : CI => pos (F := F) (c, k)) ∗ payToks c) ⊢ G' I c := by
  unfold G' ownG payToks
  iintro ⟨HR, Hp, H1, H2⟩
  ihave Hp := (eq_ent (ci_cells fun k => pos (F := F) (c, k))) $$ Hp
  icases Hp with ⟨Hp, Hb⟩
  iexists K
  isplitl [HR]; · iexact HR
  isplitl [H1]; · iexact H1
  isplitl [H2]; · iexact H2
  isplitl [Hp] <;> iassumption

theorem with_persistent {A : Type} [DecidableEq A] {S : Finset A} {R : sProp (MT nD τ sig Unit (Elt F) ℕ UU ℕ)} [BI.Persistent R]
    {Φ Ψ : A → sProp (MT nD τ sig Unit (Elt F) ℕ UU ℕ)} (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k => iprop(∃ κ : ℕ, cellInv ER (sched I) κ (kcell (c, k))))
          ∗ (bigSep Finset.univ fun k : CI => pos (c, k)) ∗ (bigSep Finset.univ fun k : CI => reached ER (kcell (c, k)) 0) ∗ toks c) : sProp 𝕄)
      ⊢ bigSep Finset.univ (G' I) := by
  rw [bigSep_sep', bigSep_sep', bigSep_sep', ← bigSep_univ_prod (fun x : Dev nD × CI => iprop(∃ κ : ℕ, cellInv ER (sched I) κ (kcell x))),
    ← bigSep_univ_prod (fun x : Dev nD × CI => (reached ER (kcell x) 0 : sProp 𝕄))]
  iintro ⟨HI, Hat, #HR, Htok⟩
  ihave HK := (BI.bigSep_exists_pi Finset.univ (fun (x : Dev nD × CI) (κ : ℕ) => (cellInv ER (sched I) κ (kcell x) : sProp 𝕄))) $$ HI
  icases HK with ⟨%K, #HI⟩
  ihave Htk := (toks_around (F := F)) $$ Htok
  iapply (with_persistent (R := recs I K) fun c => own_intro I K c)
  isplitr
  · unfold recs
    iapply (eq_ent (bigSep_sep' Finset.univ (fun x : Dev nD × CI => (cellInv ER (sched I) (K x) (kcell x) : sProp 𝕄)) fun x => reached ER (kcell x) 0).symm)
    isplitl; · iexact HI
    iexact HR
  · iapply (eq_ent (bigSep_sep' Finset.univ (fun c : Dev nD => bigSep Finset.univ fun k : CI => pos (F := F) (c, k)) payToks).symm)
    isplitl [Hat] <;> iassumption

/-- The set-up: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem tl_count (x : Dev nD × CI) : ∀ l : List (Dev nD × CI), tl l (kcell x) () = amt x.2 * l.count x
  | [] => rfl
  | y :: ys => by
    unfold tl
    rw [Pi.add_apply, Finsupp.add_apply, tl_count x ys, tallyAt_apply, List.count_cons, Nat.mul_add]
    by_cases h : x = y
    · subst h; rw [if_pos ⟨rfl, rfl⟩, if_pos (beq_self_eq_true x), Nat.mul_one]
    · rw [if_neg fun h' => h (kcell_inj h'.1), if_neg fun h' => h (eq_of_beq h').symm, Nat.mul_zero]

theorem count_bar : ∀ c : Dev nD, ∑ d : Dev nD, (owAll d).count (c, none) = 7 := by decide +kernel
theorem count_rcv : ∀ (c : Dev nD) (k : Fin 3) (g : Fin 2) (r : Fin 7), ∑ d : Dev nD, (owAll d).count (c, some ((k, g, r), true)) = 1 := by decide +kernel

theorem launch_at (x : Dev nD × CI) (n : ℕ) (h : ∑ d : Dev nD, (owAll d).count x = n) :
    tallyOn (kcell x) (launchCredit (Pipeline.owing fun d => tl (owAll d)) 0 (kcell x)) = (tallyAt (kcell x) () (amt x.2 * n) : CellTallies nD τ sig Unit) := by
  unfold tallyAt; refine congrArg _ (Finsupp.ext fun u => ?_); cases u
  rw [Pipeline.launchCredit_owing, Finsupp.single_eq_same, Finset.sum_congr rfl fun d _ => tl_count x (owAll d), ← Finset.mul_sum, h]

theorem creds (c : Dev nD) : (Pipeline.launchCred (fun d => tl (owAll d)) c : sProp 𝕄) ⊢ ownC c := by
  unfold Pipeline.launchCred
  have hsub : Finset.univ.map ⟨csem, fun x y => csem_inj⟩ ⊆ (Finset.univ : Finset (SemLoc sig)) := Finset.subset_univ _
  refine (bigSep_subset hsub).trans ?_
  rw [bigSep_map]
  refine (eq_ent (ci_cells _)).trans ?_
  unfold ownC
  refine BI.sep_mono (six_mono fun k g => ?_) (eq_ent (congrArg cred (launch_at (c, none) 7 (count_bar c))))
  unfold cells crdS
  refine sepL_mono (fun r => ?_) all7
  iintro ⟨-, H⟩
  iapply (eq_ent (congrArg cred ((launch_at (c, some ((k, g, r.rev), true)) 1 (count_rcv c k g r.rev)).trans (by rw [Nat.mul_one]))))
  iexact H

end Cert.Attn

end
-- ==== Proof.Attn.ProgEq.lean ====
/- # The printed body is the program of `Prog.lean` -/
module

public import proofs.«01_k».proof.Proof.Attn.Prog

@[expose] public section

noncomputable section

namespace Cert.Attn

open Cert.KernelIdeal Cert.KernelIdeal.Gen
open Idealize.ShloMosaic Idealize.ShloMosaic.TcCoe
open Idealize.SL Idealize.SL.Sem

variable {F : FTy → Type} [FloatOps F]

set_option maxRecDepth 100000 in
set_option maxHeartbeats 0 in
/-- The printed body, as the pipeline calls it, is `bodyP`. -/
theorem body_eq (t : Fin cfg0.N) : bodyAt0 (F := F) t = bodyP (F := F) := by
  chain_rfl

end Cert.Attn

end
-- ==== Proof.Attn.Launch.lean ====
/-
# The launch

The whole run on eight devices: from any memory with every counter at zero, the kernel ends with every argument as it was,
every counter at zero, and each device's result holding `OUT` of all the devices' arguments.
-/
module

public import proofs.«01_k».proof.Proof.Attn.Mint
public import proofs.«01_k».proof.Proof.Attn.ProgEq
public import Idealize.ShloMosaic.Lib.Pipeline.Quiescent

@[expose] public section

noncomputable section

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def st₀ : MemSt nD τ sig (Elt F) := ⟨m, fun _ => 0, ρ⟩

/-- Each device's arguments. -/
def insOf (c : Dev nD) : Ins F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

/-- What the body starts from, beside the windows. -/
def start (c : Dev nD) : sProp (MT nD τ sig Unit (Elt F) ℕ UU ℕ) :=
  iprop((∃ K, rec (insOf m) K ∗ ownG c) ∗ ownC c)
def Φ₀ (c : Dev nD) : sProp (MT nD τ sig Unit (Elt F) ℕ UU ℕ) := iprop(start m c ∗ scrAny c)
/-- What it ends with, beside the windows. -/
def Φ₁ (c : Dev nD) : sProp (MT nD τ sig Unit (Elt F) ℕ UU ℕ) :=
  iprop(scrAny c ∗ six (cells fun y => zed (c, some y)) ∗ zed (c, none))

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (insOf m c).x
    | ⟨1, _⟩ => (insOf m c).wq
    | ⟨2, _⟩ => (insOf m c).k
    | ⟨3, _⟩ => (insOf m c).v
    | ⟨4, _⟩ => (insOf m c).wo
    | ⟨5, _⟩ => OUT (insOf m) c
  Φ t := match t with
    | ⟨0, _⟩ => Φ₀ m c
    | ⟨_ + 1, _⟩ => Φ₁ c
  q _ := fullShare
  owed t := match t with
    | ⟨0, _⟩ => tl (owAll c)
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

theorem stg_part (c : Dev nD) (b : Ref sig .tc) (X : b.ty.Contents (Elt F)) :
    stg c b X ⊢ part (c : Thread nD τ) (Memref.whole b) Finset.univ fullShare X := by
  iintro ⟨%f, %hf, H⟩
  subst hf
  iapply (part_whole f)
  iexact H
theorem part_stg (c : Dev nD) (b : Ref sig .tc) (X : b.ty.Contents (Elt F)) :
    part (c : Thread nD τ) (Memref.whole b) Finset.univ fullShare X ⊢ stg c b X := by
  iintro H
  iexists X
  isplitr; · ipureintro; rfl
  iapply (whole_part X)
  iexact H

/-! ## The windows' blocks are the whole arrays -/

theorem emb_win0 (y : (win0_0.xblock (grid0.coords t0_0)).Idx) : (win0_0.blk t0_0).view.emb y = y := by
  show (win0_0.rect t0_0).emb y = y
  refine funext fun a => Fin.ext ?_
  rw [Pipeline.Window.rect_emb_val_off]
  show 0 * _ + (y a : Nat) = y a
  rw [Nat.zero_mul, Nat.zero_add]
theorem read_win0 (f : (main_arg0 : Ref sig .tc).ty.Contents (Elt F)) : (win0_0.blk t0_0).view.read (Elt F) f = f :=
  funext fun y => (View.read_apply _ _).trans (congrArg f (emb_win0 y))
theorem emb_win1 (y : (win0_1.xblock (grid0.coords t0_0)).Idx) : (win0_1.blk t0_0).view.emb y = y := by
  show (win0_1.rect t0_0).emb y = y
  refine funext fun a => Fin.ext ?_
  rw [Pipeline.Window.rect_emb_val_off]
  show 0 * _ + (y a : Nat) = y a
  rw [Nat.zero_mul, Nat.zero_add]
theorem read_win1 (f : (main_arg1 : Ref sig .tc).ty.Contents (Elt F)) : (win0_1.blk t0_0).view.read (Elt F) f = f :=
  funext fun y => (View.read_apply _ _).trans (congrArg f (emb_win1 y))
theorem emb_win2 (y : (win0_2.xblock (grid0.coords t0_0)).Idx) : (win0_2.blk t0_0).view.emb y = y := by
  show (win0_2.rect t0_0).emb y = y
  refine funext fun a => Fin.ext ?_
  rw [Pipeline.Window.rect_emb_val_off]
  show 0 * _ + (y a : Nat) = y a
  rw [Nat.zero_mul, Nat.zero_add]
theorem read_win2 (f : (main_arg2 : Ref sig .tc).ty.Contents (Elt F)) : (win0_2.blk t0_0).view.read (Elt F) f = f :=
  funext fun y => (View.read_apply _ _).trans (congrArg f (emb_win2 y))
theorem emb_win3 (y : (win0_3.xblock (grid0.coords t0_0)).Idx) : (win0_3.blk t0_0).view.emb y = y := by
  show (win0_3.rect t0_0).emb y = y
  refine funext fun a => Fin.ext ?_
  rw [Pipeline.Window.rect_emb_val_off]
  show 0 * _ + (y a : Nat) = y a
  rw [Nat.zero_mul, Nat.zero_add]
theorem read_win3 (f : (main_arg3 : Ref sig .tc).ty.Contents (Elt F)) : (win0_3.blk t0_0).view.read (Elt F) f = f :=
  funext fun y => (View.read_apply _ _).trans (congrArg f (emb_win3 y))
theorem emb_win4 (y : (win0_4.xblock (grid0.coords t0_0)).Idx) : (win0_4.blk t0_0).view.emb y = y := by
  show (win0_4.rect t0_0).emb y = y
  refine funext fun a => Fin.ext ?_
  rw [Pipeline.Window.rect_emb_val_off]
  show 0 * _ + (y a : Nat) = y a
  rw [Nat.zero_mul, Nat.zero_add]
theorem read_win4 (f : (main_arg4 : Ref sig .tc).ty.Contents (Elt F)) : (win0_4.blk t0_0).view.read (Elt F) f = f :=
  funext fun y => (View.read_apply _ _).trans (congrArg f (emb_win4 y))
theorem emb_win5 (y : (win0_5.xblock (grid0.coords t0_0)).Idx) : (win0_5.blk t0_0).view.emb y = y := by
  show (win0_5.rect t0_0).emb y = y
  refine funext fun a => Fin.ext ?_
  rw [Pipeline.Window.rect_emb_val_off]
  show 0 * _ + (y a : Nat) = y a
  rw [Nat.zero_mul, Nat.zero_add]
theorem read_win5 (f : (main_v1 : Ref sig .tc).ty.Contents (Elt F)) : (win0_5.blk t0_0).view.read (Elt F) f = f :=
  funext fun y => (View.read_apply _ _).trans (congrArg f (emb_win5 y))

/-! ## The body's obligation -/

theorem before_win0 (c : Dev nD) (d) : (dats m ρ 0 c).before (0 : Fin 6) t0_0 d = (insOf m c).x := by
  unfold Dat.before; rw [if_pos (fetch0_0 _)]; exact read_win0 (F := F) _
theorem before_win1 (c : Dev nD) (d) : (dats m ρ 0 c).before (1 : Fin 6) t0_0 d = (insOf m c).wq := by
  unfold Dat.before; rw [if_pos (fetch0_1 _)]; exact read_win1 (F := F) _
theorem before_win2 (c : Dev nD) (d) : (dats m ρ 0 c).before (2 : Fin 6) t0_0 d = (insOf m c).k := by
  unfold Dat.before; rw [if_pos (fetch0_2 _)]; exact read_win2 (F := F) _
theorem before_win3 (c : Dev nD) (d) : (dats m ρ 0 c).before (3 : Fin 6) t0_0 d = (insOf m c).v := by
  unfold Dat.before; rw [if_pos (fetch0_3 _)]; exact read_win3 (F := F) _
theorem before_win4 (c : Dev nD) (d) : (dats m ρ 0 c).before (4 : Fin 6) t0_0 d = (insOf m c).wo := by
  unfold Dat.before; rw [if_pos (fetch0_4 _)]; exact read_win4 (F := F) _

set_option maxRecDepth 4000 in
/-- The windows and what is beside them before the body. -/
def bodyPre (c : Dev nD) : sProp (MT nD τ sig Unit (Elt F) ℕ UU ℕ) :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- And after it. -/
def bodyPost (c : Dev nD) : sProp (MT nD τ sig Unit (Elt F) ℕ UU ℕ) :=
  iprop(Φ₁ c ∗ (dats m ρ 0 c).owesAt () t0_0.succ
    ∗ stg c cc0_stg0_0 (insOf m c).x ∗ stg c cc0_stg1_0 (insOf m c).wq ∗ stg c cc0_stg2_0 (insOf m c).k
    ∗ stg c cc0_stg3_0 (insOf m c).v ∗ stg c cc0_stg4_0 (insOf m c).wo ∗ stg c cc0_stg5_0 (OUT (insOf m) c))

theorem sound_body (c : Dev nD) : bodyPre m ρ c ⊢ wpc c (bodyP (F := F)) fun _ => bodyPost m ρ c := by
  unfold bodyPre Φ₀ start
  simp only [before_win0, before_win1, before_win2, before_win3, before_win4]
  iintro ⟨⟨⟨⟨%K, Hrec, Hown⟩, Hcrd⟩, Hscr⟩, Ho, ⟨%d0, H0⟩, ⟨%d1, H1⟩, ⟨%d2, H2⟩, ⟨%d3, H3⟩, ⟨%d4, H4⟩, ⟨%d5, H5⟩⟩
  ihave H0 := (stg_part c _ _) $$ H0
  ihave H1 := (stg_part c _ _) $$ H1
  ihave H2 := (stg_part c _ _) $$ H2
  ihave H3 := (stg_part c _ _) $$ H3
  ihave H4 := (stg_part c _ _) $$ H4
  ihave H5 := (stg_part c _ _) $$ H5
  unfold Dat.owesAt Pipeline.owesWithin
  icases Ho with ⟨%W, -, Ho⟩
  iapply (wp_body (insOf m) K c) $$ [Hrec Hown Hcrd Hscr Ho H0 H1 H2 H3 H4 H5]
  · unfold bodyStart insP kvP ow
    isplitl [Hrec]; · iexact Hrec
    isplitl [Hown]; · iexact Hown
    isplitl [Hcrd]; · iexact Hcrd
    isplitl [Ho]; · iexists W; iexact Ho
    isplitl [H0 H1 H2 H3 H4]
    · isplitl [H0 H1]; · isplitl [H0] <;> iassumption
      isplitl [H2 H3]; · isplitl [H2] <;> iassumption
      iexact H4
    isplitl [H5]; · iapply partAny_intro; iexact H5
    iexact Hscr
  iintro H
  unfold bodyEnd insP kvP ow bodyPost Φ₁
  icases H with ⟨⟨⟨H0, H1⟩, ⟨H2, H3⟩, H4⟩, H5, Hscr, Hz, ⟨%W', Ho⟩⟩
  isplitl [Hscr Hz]; · isplitl [Hscr] <;> iassumption
  isplitl [Ho]
  · unfold Dat.owesAt Pipeline.owesWithin
    iexists W'
    isplitr; · ipureintro; exact fun _ _ => Or.inl trivial
    iexact Ho
  isplitl [H0]; · iapply (part_stg c); iexact H0
  isplitl [H1]; · iapply (part_stg c); iexact H1
  isplitl [H2]; · iapply (part_stg c); iexact H2
  isplitl [H3]; · iapply (part_stg c); iexact H3
  isplitl [H4]; · iapply (part_stg c); iexact H4
  iapply (part_stg c); iexact H5

set_option maxRecDepth 100000 in
theorem body_obligation (c : Dev nD) : BodyObligation (dats (F := F) m ρ 0 c) (defs₀ (F := F)) 𝒱₀ () Set.univ := fun t => by
  rw [fin_N0 t]
  have hW (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ
  rw [hW, hW]
  simp only [owns_whole_eq]
  show bodyPre m ρ c ⊢ wpc c (bodyAt0 t0_0) (fun _ => bodyPost m ρ c)
  rw [body_eq]
  exact sound_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => tl (owAll d)) c ∗ prngReg c (ρ c) ∗ G' (insOf m) c)
      ⊢ |={Set.univ}=> iprop(start m c ∗ emp) := by
  unfold start G' rec recs
  iintro ⟨-, Hlev, Hcr, -, ⟨%K, HR, HG⟩⟩
  ihave Hc := (creds (F := F) c) $$ Hcr
  imodintro
  isplitl
  · isplitr [Hc]
    · iexists K
      isplitr [HG]; · isplitl [Hlev] <;> iassumption
      iexact HG
    iexact Hc
  · iempintro

theorem ex_part (c : Dev nD) (b : Ref sig .tc) : iprop(∃ f : Buf (Elt F) ((c : Thread nD τ).loc b), ((c : Thread nD τ).loc b) ↦{fullShare} f)
    ⊢ (partAny (Val := Elt F) (c : Thread nD τ) (Memref.whole b) Finset.univ : sProp 𝕄) := by
  iintro ⟨%f, H⟩
  iapply partAny_intro
  iapply (part_whole f)
  iexact H
theorem part_ex (c : Dev nD) (b : Ref sig .tc) : (partAny (Val := Elt F) (c : Thread nD τ) (Memref.whole b) Finset.univ : sProp 𝕄)
    ⊢ iprop(∃ f : Buf (Elt F) ((c : Thread nD τ).loc b), ((c : Thread nD τ).loc b) ↦{fullShare} f) := by
  unfold partAny
  iintro ⟨%X, H⟩
  iexists X
  iapply (whole_part X)
  iexact H

theorem scr_in (c : Dev nD) : (Pipeline.scopedRest (Ix := Unit) (Name := ℕ) (U := UU) (Lvl := ℕ) (Val := Elt F) cfg0.spec c : sProp 𝕄) ⊢ scrAny c := by
  rw [show (Pipeline.scopedRest (Ix := Unit) (Name := ℕ) (U := UU) (Lvl := ℕ) (Val := Elt F) cfg0.spec c : sProp 𝕄) = _ from scopedRest0_eq c]
  unfold scrAny
  iintro ⟨H0, H1, H2, H3, H4, H5, H6, H7, H8⟩
  isplitl [H0 H1]
  · isplitl [H0]; · iapply (ex_part c); iexact H0
    iapply (ex_part c); iexact H1
  isplitl [H2 H3]
  · isplitl [H2]; · iapply (ex_part c); iexact H2
    iapply (ex_part c); iexact H3
  isplitl [H4 H5]
  · isplitl [H4]; · iapply (ex_part c); iexact H4
    iapply (ex_part c); iexact H5
  isplitl [H6 H7]
  · isplitl [H6]; · iapply (ex_part c); iexact H6
    iapply (ex_part c); iexact H7
  iapply (ex_part c); iexact H8
theorem scr_out (c : Dev nD) : scrAny c ⊢ (Pipeline.scopedRest (Ix := Unit) (Name := ℕ) (U := UU) (Lvl := ℕ) (Val := Elt F) cfg0.spec c : sProp 𝕄) := by
  rw [show (Pipeline.scopedRest (Ix := Unit) (Name := ℕ) (U := UU) (Lvl := ℕ) (Val := Elt F) cfg0.spec c : sProp 𝕄) = _ from scopedRest0_eq c]
  unfold scrAny
  iintro ⟨⟨H0, H1⟩, ⟨H2, H3⟩, ⟨H4, H5⟩, ⟨H6, H7⟩, H8⟩
  isplitl [H0]; · iapply (part_ex c); iexact H0
  isplitl [H1]; · iapply (part_ex c); iexact H1
  isplitl [H2]; · iapply (part_ex c); iexact H2
  isplitl [H3]; · iapply (part_ex c); iexact H3
  isplitl [H4]; · iapply (part_ex c); iexact H4
  isplitl [H5]; · iapply (part_ex c); iexact H5
  isplitl [H6]; · iapply (part_ex c); iexact H6
  isplitl [H7]; · iapply (part_ex c); iexact H7
  iapply (part_ex c); iexact H8

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_in c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  iintro ⟨Hr, HzD, HzB⟩
  isplitl [HzB]; · iexact HzB
  isplitl [HzD]; · iexact HzD
  iapply (scr_out c); iexact Hr

/-- A staging transfer's semaphore is no cell's. -/
theorem stage_val : ∀ (w : Fin 6) (s : Fin (spec0 w).nbuf), ((spec0 w).sem s).val < 6 := by decide +kernel
theorem stage_lv (c : Dev nD) (d : DmaSem sig) (h : d.val < 6) : lv ((c : Thread nD τ), SemLoc.dma d) () = 0 := by
  have hne : ∀ x : Dev nD × CI, kcell x ≠ ((c : Thread nD τ), SemLoc.dma d) := by
    rintro ⟨c', _ | ⟨⟨k, g, r⟩, b⟩⟩ hx
    · cases congrArg Prod.snd hx
    · have h1 := SemLoc.dma.inj (congrArg Prod.snd hx)
      have h2 := congrArg Fin.val h1
      rw [sm_val] at h2
      omega
  unfold lv cellAt
  rw [dif_neg fun ⟨x, hx⟩ => hne x hx]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of (n := 0) (l := owAll c) (Nat.le_of_eq (stage_lv c _ (stage_val w s))) (lvl_all c)
    · exact mayWait_of (n := 0) (l := []) (Nat.le_of_eq (stage_lv c _ (stage_val w s))) fun y h => absurd h List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution of the eight kernels ends, each array as the windows leave it and every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => tl (owAll d)) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

/-! ## What the arrays hold after the run -/

theorem finalA_out (c : Dev nD) : finalA m ρ c (5 : Fin 6) = OUT (insOf m) c := by
  refine (dats m ρ 0 c).arrAt_eq_of_cover (5 : Fin 6) (OUT (insOf m) c) (fun t _ => ?_) fun i => ⟨t0_0, flush0_5 _, ?_⟩
  · obtain rfl := fin_N0 t
    exact (read_win5 (OUT (insOf m) c)).symm
  · show i ∈ (win0_5.blk t0_0).view.set
    exact Finset.mem_map.mpr ⟨i, Finset.mem_univ _, emb_win5 i⟩

/-- THE RUN: every argument as it was, each device's result `OUT`, every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v1) = OUT (insOf m) c)
    ∧ r.2.sem = fun _ => 0) :=
  (θ_run defs _ _).mono (fun _ h => ⟨fun c => ⟨
      (h.1 c (0 : Fin 6)).trans ((dats m ρ 0 c).arrAt_in (0 : Fin 6) rfl _),
      (h.1 c (1 : Fin 6)).trans ((dats m ρ 0 c).arrAt_in (1 : Fin 6) rfl _),
      (h.1 c (2 : Fin 6)).trans ((dats m ρ 0 c).arrAt_in (2 : Fin 6) rfl _),
      (h.1 c (3 : Fin 6)).trans ((dats m ρ 0 c).arrAt_in (3 : Fin 6) rfl _),
      (h.1 c (4 : Fin 6)).trans ((dats m ρ 0 c).arrAt_in (4 : Fin 6) rfl _),
      (h.1 c (5 : Fin 6)).trans (finalA_out m ρ c)⟩, h.2⟩) (run_main m ρ)

end Cert.Attn

end
-- ==== Proof.Attn.Frames.lean ====
/-
# The frames

Each program ends with its arguments as they were and every counter at zero.
-/
module

public import proofs.«01_k».proof.Defs
public import proofs.«01_k».proof.Proof.Gen.Kernel
public import proofs.«01_k».proof.Proof.Gen.ReferenceIdeal.Run
public import proofs.«01_k».proof.Proof.Attn.Launch

@[expose] public section

noncomputable section

set_option maxRecDepth 100000

namespace Cert.Attn

open Idealize Idealize.ShloMosaic

/-- The kernel over either element reading: its arguments end as they were and every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run m ρ)

/-- The kernel on exact values: its arguments end as they were and every counter at zero. -/
theorem frame_kernelIdeal : Cert.quiescent_KernelIdeal := fun m ρ _ => frame_any (F := Ideal) m ρ

/-- The printed kernel's body table, on bits, is the idealized one's. -/
theorem defs₀_eq : Cert.Kernel.defs₀ (F := Bits) = Cert.KernelIdeal.defs₀ (F := Bits) := by
  unfold Cert.Kernel.defs₀ Cert.KernelIdeal.defs₀
  refine congrArg (Defs.onTc) ?_
  funext l a
  match l, a with
  | 0, (t, s) => rfl

/-- So are the whole tables. -/
theorem defs_eq : Cert.Kernel.defs (F := Bits) = Cert.KernelIdeal.defs (F := Bits) :=
  congrArg (Pipeline.defs (Cert.KernelIdeal.pcfgs (F := Bits))) defs₀_eq

/-- The kernel on bits: its arguments end as they were and every counter at zero. -/
theorem frame_kernel : Cert.quiescent_Kernel := fun m ρ _ =>
  (congrArg (fun d => θ_run d (onTc (τ := Cert.Kernel.τ) (Cert.Kernel.main (F := Bits))) ⟨m, fun _ => 0, ρ⟩ _)
    defs_eq).mpr (frame_any (F := Bits) m ρ)

/-- The reference on exact values: its arguments end as they were; it has no counter. -/
theorem frame_referenceIdeal : Cert.quiescent_ReferenceIdeal := fun m ρ _ =>
  (θ_run Cert.ReferenceIdeal.defs _ _).mono
    (fun r h => ⟨fun c => ⟨(h c).2.1, (h c).2.2.1, (h c).2.2.2.1, (h c).2.2.2.2.1, (h c).2.2.2.2.2⟩,
      sem_eq_zero_of_no_sems (by decide) r.2⟩)
    (Cert.ReferenceIdeal.Value.run (F := Ideal) m ρ)

end Cert.Attn
-- ==== Proof.Attn.Online.lean ====
/-
# Softmax in parts, over the extended reals

A softmax-weighted sum over keys that are spread over several devices can be formed from partial results: a shift `m`,
the sum of the weights `exp (s - m)` and the sum of the weights times the values. This file says what a partial result
over a set of devices is (`Part`), that two of them over disjoint sets combine by rescaling to a common shift
(`Part.comb`), and that the quotient at the end does not depend on the shift (`Part.norm`). The scores are real; the
values are any extended reals.
-/
module

public import Idealize.ShloMosaic.PureOps.Ideal.Laws

@[expose] public section

noncomputable section

namespace Cert.Attn

open Idealize.ShloMosaic

/-! ## Real numbers among the extended reals -/

/-- The extended real is a real number. -/
def IsReal (x : EReal) : Prop := ∃ r : ℝ, x = (r : EReal)

theorem isReal_coe (r : ℝ) : IsReal (r : EReal) := ⟨r, rfl⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sum {ι : Type} (S : Finset ι) (f : ι → EReal) (h : ∀ i, IsReal (f i)) : IsReal (∑ i ∈ S, f i) := by
  classical
  refine Finset.sum_induction f IsReal (fun _ _ => IsReal.add) ⟨0, rfl⟩ fun i _ => h i
/-- An extended real whose absolute value is below infinity is real. -/
theorem isReal_of_abs_lt {x : EReal} (h : max x (-x) < ⊤) : IsReal x := by
  induction x using EReal.rec with
  | bot => simp at h
  | coe r => exact ⟨r, rfl⟩
  | top => simp at h

/-- A finite real number times a sum of extended reals, when the number is not negative. -/
theorem coe_mul_sum {ι : Type} (S : Finset ι) {c : ℝ} (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (EReal.coe_nonneg.mpr hc) (EReal.coe_ne_top c) _ _

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A maximum of reals, folded from the least extended real over a nonempty finite type, is real. -/
theorem isReal_fold_max {ι : Type} (S : Finset ι) (hS : S.Nonempty) (f : ι → EReal) (h : ∀ i, IsReal (f i)) :
    IsReal (S.fold max ⊥ f) := by
  classical
  have key : ∀ T : Finset ι, T.fold max ⊥ f = ⊥ ∧ T = ∅ ∨ IsReal (T.fold max ⊥ f) := by
    intro T
    induction T using Finset.induction_on with
    | empty => exact .inl ⟨rfl, rfl⟩
    | insert a T ha ih =>
      refine .inr ?_
      rw [Finset.fold_insert ha]
      obtain ⟨r, hr⟩ := h a
      rcases ih with ⟨e, _⟩ | ⟨q, e⟩
      · rw [e, hr]; exact ⟨r, max_eq_left bot_le⟩
      · rw [e, hr]; exact ⟨max r q, (EReal.coe_strictMono.monotone.map_max).symm⟩
  rcases key S with ⟨_, e⟩ | h
  · exact absurd e hS.ne_empty
  · exact h

/-! ## Partial results -/

variable {δ κ : Type} [Fintype κ]

/-- `m`, `l` and `o` are a shift, the weights' sum and the weighted sum of the values, over the keys of the devices in `D`. -/
def Part (s : δ → κ → ℝ) (V : δ → κ → EReal) (D : Finset δ) (m l o : EReal) : Prop :=
  ∃ M : ℝ, m = (M : EReal) ∧ l = ((∑ p ∈ D, ∑ j, Real.exp (s p j - M) : ℝ) : EReal)
    ∧ o = ∑ p ∈ D, ∑ j, ((Real.exp (s p j - M) : ℝ) : EReal) * V p j

/-- The partial result of one device: weights `exp (s - m)`, summed. -/
theorem Part.single (s : δ → κ → ℝ) (V : δ → κ → EReal) (p : δ) {m : EReal} (hm : IsReal m) :
    Part s V {p} m (∑ j, Ideal.exp ((s p j : EReal) - m)) (∑ j, Ideal.exp ((s p j : EReal) - m) * V p j) := by
  obtain ⟨M, rfl⟩ := hm
  refine ⟨M, rfl, ?_, ?_⟩
  · rw [Finset.sum_singleton, coe_sum]
    refine Finset.sum_congr rfl fun j _ => ?_
    rw [← EReal.coe_sub, Ideal.exp_coe]
  · rw [Finset.sum_singleton]
    refine Finset.sum_congr rfl fun j _ => ?_
    rw [← EReal.coe_sub, Ideal.exp_coe]

/-- A partial result rescaled to another shift. -/
theorem Part.shift {s : δ → κ → ℝ} {V : δ → κ → EReal} {D : Finset δ} {m l o : EReal} (h : Part s V D m l o) (M' : ℝ) :
    l * Ideal.exp (m - M') = ((∑ p ∈ D, ∑ j, Real.exp (s p j - M') : ℝ) : EReal)
    ∧ o * Ideal.exp (m - M') = ∑ p ∈ D, ∑ j, ((Real.exp (s p j - M') : ℝ) : EReal) * V p j := by
  obtain ⟨M, rfl, rfl, rfl⟩ := h
  have e : ∀ p j, Real.exp (M - M') * Real.exp (s p j - M) = Real.exp (s p j - M') := fun p j => by
    rw [← Real.exp_add]; congr 1; ring
  rw [← EReal.coe_sub, Ideal.exp_coe]
  constructor
  · rw [← EReal.coe_mul, mul_comm, Finset.mul_sum]
    simp only [Finset.mul_sum, e]
  · rw [mul_comm, coe_mul_sum _ (Real.exp_nonneg _)]
    refine Finset.sum_congr rfl fun p _ => ?_
    rw [coe_mul_sum _ (Real.exp_nonneg _)]
    refine Finset.sum_congr rfl fun j _ => ?_
    rw [← mul_assoc, ← EReal.coe_mul, e]

/-- Two partial results over disjoint sets of devices, brought to the larger shift and added. -/
theorem Part.comb [DecidableEq δ] {s : δ → κ → ℝ} {V : δ → κ → EReal} {D E : Finset δ} {m l o m' l' o' : EReal}
    (h : Part s V D m l o) (h' : Part s V E m' l' o') (hd : Disjoint D E) :
    Part s V (D ∪ E) (max m m') (l * Ideal.exp (m - max m m') + l' * Ideal.exp (m' - max m m'))
      (o * Ideal.exp (m - max m m') + o' * Ideal.exp (m' - max m m')) := by
  obtain ⟨M, hM⟩ : ∃ M : ℝ, max m m' = (M : EReal) := by
    obtain ⟨a, rfl, _⟩ := h
    obtain ⟨b, rfl, _⟩ := h'
    exact ⟨max a b, (EReal.coe_strictMono.monotone.map_max).symm⟩
  rw [hM]
  refine ⟨M, rfl, ?_, ?_⟩
  · rw [(h.shift M).1, (h'.shift M).1, Finset.sum_union hd, EReal.coe_add]
  · rw [(h.shift M).2, (h'.shift M).2, Finset.sum_union hd]

/-- The quotient of a partial result is the softmax-weighted sum, whatever the shift the softmax is written with. -/
theorem Part.norm {s : δ → κ → ℝ} {V : δ → κ → EReal} {D : Finset δ} {m l o : EReal} (h : Part s V D m l o)
    (hD : D.Nonempty) [Nonempty κ] (M' : ℝ) :
    Ideal.div o l = ∑ p ∈ D, ∑ j,
      Ideal.div ((Real.exp (s p j - M') : ℝ) : EReal) ((∑ p ∈ D, ∑ j, Real.exp (s p j - M') : ℝ) : EReal) * V p j := by
  have pos : ∀ N : ℝ, 0 < ∑ p ∈ D, ∑ j, Real.exp (s p j - N) := fun N =>
    Finset.sum_pos (fun p _ => Finset.sum_pos (fun j _ => Real.exp_pos _) Finset.univ_nonempty) hD
  obtain ⟨M, rfl, rfl, rfl⟩ := h
  have e : ∀ p j, Real.exp (s p j - M) = Real.exp (M' - M) * Real.exp (s p j - M') := fun p j => by
    rw [← Real.exp_add]; congr 1; ring
  have eS : ∑ p ∈ D, ∑ j, Real.exp (s p j - M) = Real.exp (M' - M) * ∑ p ∈ D, ∑ j, Real.exp (s p j - M') := by
    simp only [Finset.mul_sum, e]
  rw [Ideal.div_coe (pos M).ne', mul_comm, coe_mul_sum _ (one_div_pos.mpr (pos M)).le]
  refine Finset.sum_congr rfl fun p _ => ?_
  rw [coe_mul_sum _ (one_div_pos.mpr (pos M)).le]
  refine Finset.sum_congr rfl fun j _ => ?_
  rw [Ideal.div_coe (pos M').ne', ← mul_assoc, ← EReal.coe_mul, ← EReal.coe_mul]
  congr 2
  rw [eS, e p j]
  have h1 := (pos M').ne'
  have h2 := (Real.exp_pos (M' - M)).ne'
  field_simp

end Cert.Attn

end
-- ==== Proof.Attn.Mask.lean ====
/-
# The mask

Query row `i` attends to key `j` when their blocks of 64 are the same, when the key's block is the first, or when the
two block numbers add up to a multiple of three (`keep`). The kernel computes this for its own 512 keys and the reference
for all 4096, each by a floor division of 32-bit words; both are shown to be `keep` of the block numbers.
-/
module

public import proofs.«01_k».proof.Proof.Attn.Cont
public import proofs.«01_k».proof.Proof.Gen.ReferenceIdeal.Read

@[expose] public section

noncomputable section

namespace Cert.Attn

open Idealize.ShloMosaic Idealize.ShloMosaic.ValueIdx

/-- Whether a query of block `a` attends to a key of block `b`. -/
def keep (a b : ℕ) : Bool := a == b || b == 0 || (a + b) % 3 == 0

section Ref
open Cert.ReferenceIdeal Cert.ReferenceIdeal.Gen Cert.ReferenceIdeal.Read

theorem ref_qb : ∀ n : Fin 512, val_main_v3 (F := Ideal) (ix1 n) = BitVec.ofNat 32 (n.val / 64) := by decide +kernel
theorem ref_kb : ∀ n : Fin 4096, val_main_v6 (F := Ideal) (ix1 n) = BitVec.ofNat 32 (n.val / 64) := by decide +kernel

theorem ref_qb4 (i : S512x1.Idx) : val_main_v4 (F := Ideal) i = BitVec.ofNat 32 ((i 0).val / 64) := by
  rw [val_main_v4_apply]
  exact (congrArg _ (funext fun a => by match a with | ⟨0, _⟩ => rfl)).trans (ref_qb ⟨(i 0).val, (i 0).isLt⟩)
theorem ref_kb7 (i : S1x4096.Idx) : val_main_v7 (F := Ideal) i = BitVec.ofNat 32 ((i 1).val / 64) := by
  rw [val_main_v7_apply]
  exact (congrArg _ (funext fun a => by match a with | ⟨0, _⟩ => rfl)).trans (ref_kb ⟨(i 1).val, (i 1).isLt⟩)

/-- The reference's mask. -/
theorem mask_ref (i : S512x4096.Idx) :
    val_main_v21 (F := Ideal) i = BitVec.ofBool (keep ((i 0).val / 64) ((i 1).val / 64)) := by
  have h0 : (i 0).val < 512 := (i 0).isLt
  have h1 : (i 1).val < 4096 := (i 1).isLt
  obtain ⟨a, ha⟩ : ∃ a : Fin 8, a.val = (i 0).val / 64 := ⟨⟨_, by omega⟩, rfl⟩
  obtain ⟨b, hb⟩ : ∃ b : Fin 64, b.val = (i 1).val / 64 := ⟨⟨_, by omega⟩, rfl⟩
  have h8 : val_main_v8 (F := Ideal) i = BitVec.ofNat 32 a.val := by rw [val_main_v8_apply, ref_qb4, ha]
  have h9 : val_main_v9 (F := Ideal) i = BitVec.ofNat 32 b.val := by rw [val_main_v9_apply, ref_kb7, hb]
  have h13 : val_main_v13 (F := Ideal) i = IntOp.cmpi .eq (BitVec.ofNat 32 b.val) 0#32 := by
    rw [val_main_v13_apply, val_main_v12_apply, ref_kb7, val_main_v11_apply, val_main_c_1_apply, hb]
  have h15 : val_main_v15 (F := Ideal) i = BitVec.ofNat 32 a.val := by rw [val_main_v15_apply, ref_qb4, ha]
  have h16 : val_main_v16 (F := Ideal) i = BitVec.ofNat 32 b.val := by rw [val_main_v16_apply, ref_kb7, hb]
  rw [← ha, ← hb]
  simp only [val_main_v21_apply, val_main_v14_apply, val_main_v10_apply, val_main_v20_apply, val_main_v18_apply, val_main_v19_apply,
    val_main_call2_v12_apply, val_main_call2_v11_apply, val_main_call2_v14_apply, val_main_call2_v4_apply, val_main_v17_apply,
    val_main_call2_v8_apply, val_main_call2_v6_apply, val_main_call2_v10_apply, val_main_call2_v13_apply, val_main_call2_v3_apply,
    val_main_call2_v7_apply, val_main_call2_v5_apply, val_main_call2_v9_apply, val_main_call2_v2_apply, val_main_call2_v1_apply,
    val_main_call2_v0_apply, val_main_c_2_apply, val_main_c_3_apply, val_main_call2_c_apply, val_main_call2_c_0_apply,
    val_main_call2_c_1_apply, val_main_call2_c_2_apply, val_main_call2_c_3_apply, h8, h9, h13, h15, h16]
  clear h8 h9 h13 h15 h16 ha hb h0 h1 i
  revert a b
  decide +kernel

end Ref

section Kern
open Cert.KernelIdeal Cert.KernelIdeal.Gen

theorem kern_qb : ∀ n m : Fin 512, k0_pay2 (ix2 n m) = BitVec.ofNat 32 (n.val / 64) := by
  intro n m
  have : k0_pay2 (ix2 n m) = k0_pay2 (ix2 n 0) := rfl
  rw [this]; clear this m; revert n; decide +kernel
theorem kern_dev : ∀ d : Dev nD, Scalar.remsi (Scalar.divsi (Dev.word d) 1#32) 8#32 = BitVec.ofNat 32 d.val := by decide +kernel
theorem kern_key (d : Dev nD) (n m : Fin 512) : k0_pay3 (BitVec.ofNat 32 d.val) (ix2 n m) = BitVec.ofNat 32 (512 * d.val + m.val) := by
  have : k0_pay3 (BitVec.ofNat 32 d.val) (ix2 n m) = BitVec.ofNat 32 d.val * 512#32 + BitVec.ofNat 32 (0 * 512 + m.val) := rfl
  rw [this, Nat.zero_mul, Nat.zero_add, ← BitVec.ofNat_mul, ← BitVec.ofNat_add, Nat.mul_comm]

/-- The kernel's comparison of a query block's number and a key's, at constant vectors. -/
theorem kern_pay5 : ∀ (a : Fin 8) (n : Fin 4096), k0_pay5 (broadcast S512x512 (BitVec.ofNat 32 a.val)) (broadcast S512x512 (BitVec.ofNat 32 n.val)) 64#32
    (divsi (broadcast S512x512 (BitVec.ofNat 32 n.val)) (broadcast S512x512 64#32)) (ix2 0 0) = BitVec.ofBool (keep a.val (n.val / 64)) := by
  decide +kernel

/-- The kernel's mask: device `d`'s key `j` is key `512 d + j` of all. -/
theorem mask_kern (d : Dev nD) (i j : Fin 512) :
    maskV d (ix2 i j) = BitVec.ofBool (keep (i.val / 64) ((512 * d.val + j.val) / 64)) := by
  have hd : d.val < 8 := d.isLt
  have e := kern_pay5 ⟨i.val / 64, by omega⟩ ⟨512 * d.val + j.val, by omega⟩
  refine Eq.trans ?_ e
  show k0_pay5 k0_pay2 (k0_pay3 (Scalar.remsi (Scalar.divsi (Dev.word d) 1#32) 8#32)) 64#32
    (k0_pay4 (Scalar.remsi (Scalar.divsi (Dev.word d) 1#32) 8#32)) (ix2 i j) = _
  rw [kern_dev]
  have hA : ∀ (A B A' B' : IVec S512x512 32) (y y' : S512x512.Idx), A y = A' y' → B y = B' y' →
      k0_pay5 A B 64#32 (divsi B (broadcast S512x512 64#32)) y = k0_pay5 A' B' 64#32 (divsi B' (broadcast S512x512 64#32)) y' := by
    intro A B A' B' y y' h h'
    simp only [k0_pay5, divsi, remsi, cmpi, select, andi, ori, xori, addi, subi, extui, broadcast, broadcastTo, h, h']
  exact hA _ _ _ _ _ _ (kern_qb i j) (kern_key d i j)

end Kern

end Cert.Attn

end
-- ==== Proof.Attn.KVals.lean ====
/-
# The kernel's values at an index

Over the extended reals each of the kernel's intermediate arrays, read at an index: the masked scores, a row's maximum,
its weights, their sum and the weighted values; the places where they lie in the stored and received arrays; and one
combination step. The last section states that what a device has after its seven combinations is the partial softmax
(`Part`) over all devices' keys.
-/
module

public import proofs.«01_k».proof.Proof.Attn.Cont
public import proofs.«01_k».proof.Proof.Attn.Online
public import proofs.«01_k».proof.Proof.Attn.Mask
public import Idealize.ShloMosaic.Lib.MatmulPlain
public import Idealize.ShloMosaic.Lib.Pipeline.Value
public import Idealize.ShloMosaic.Lib.ValueLayoutCasts
public import Idealize.ShloMosaic.Lib.ValueIdx

@[expose] public section

noncomputable section

namespace Cert.Attn

open Cert.KernelIdeal Cert.KernelIdeal.Gen
open Idealize.ShloMosaic Idealize.ShloMosaic.TcCoe Idealize.ShloMosaic.ValueIdx
open scoped BigOperators

/-- A coordinate of a unit-stride rectangle's element: the offset plus the coordinate inside. -/
theorem emb_coord {s : Shape} {o o' n : Fin s.rank → ℕ} {inb} (ho : o = o') (y : (Rect.unit (s := s) o n inb).shape.Idx) (a : Fin s.rank) :
    ((Rect.unit (s := s) o n inb).emb y a).val = o' a + (y a).val := by
  subst ho
  show o a + 1 * (y a).val = _
  rw [Nat.one_mul]

/-! ## Lanes -/

/-- Where head `i` of batch row `b` has its maximum and its sum among the sixteen statistics, and lane `d` of head `i`
among a group's 256. -/
abbrev mIx (b : Fin 2) (i : Fin 4) : Fin 16 := ⟨8 * b.val + i.val, by omega⟩
abbrev lIx (b : Fin 2) (i : Fin 4) : Fin 16 := ⟨8 * b.val + 4 + i.val, by omega⟩
abbrev dIx (i : Fin 4) (d : Fin 64) : Fin 256 := ⟨64 * i.val + d.val, by omega⟩

/-! ## One head -/

theorem ofBits_zero' : (FloatOps.ofBits .f32 0x00000000#32 : Ideal .f32) = 0 := Ideal.ofBits_zero_f32

/-- A query: the row of `x` times the column of `Wq`. -/
theorem qV_at (x : Vec Ideal S1x512x768 .f32) (wq : Vec Ideal S768x512 .f32) (r : Fin 512) (c : Fin 512) :
    qV x wq (ix2 r c) = ∑ k : Fin 768, x (ix3 (0 : Fin 1) r k) * wq (ix2 k c) := by
  unfold qV
  refine (Ideal.matmul_plain_apply (M := 512) (K := 768) (N := 512) none _ _ _ r c).trans ?_
  rw [show (constant S512x512 .f32 0x00000000#32 : FVec Ideal S512x512 .f32) (ix2 r c) = (0 : EReal) from ofBits_zero', zero_add]
  refine Finset.sum_congr rfl fun k _ => ?_
  rw [shapeCast_1ab_ab_apply]
  congr 1
  exact shapeCast_apply _ _ _ _ rfl

theorem shapeCast_kv (k : Vec Ideal S1x512x1x64 .f32) (j : Fin 512) (d : Fin 64) :
    shapeCast S512x64 k shapeCasts_S1x512x1x64_S512x64 (ix2 j d) = k (ix4 (0 : Fin 1) j (0 : Fin 1) d) :=
  shapeCast_apply _ _ _ _ (by
    rw [Shape.rowMajor_val_four, Shape.rowMajor_val_two]
    show ((0 * 512 + j.val) * 1 + 0) * 64 + d.val = j.val * 64 + d.val
    omega)

/-- A masked score. -/
theorem scoreV_at (mk : IVec S512x512 1) (q : FVec Ideal S512x512 .f32) (h : Fin 8) (k : Vec Ideal S1x512x1x64 .f32) (r j : Fin 512) :
    scoreV mk q h k (ix2 r j) = Scalar.select (mk (ix2 r j))
      ((∑ d : Fin 64, q (ix2 r ⟨64 * h.val + d.val, by omega⟩) * k (ix4 (0 : Fin 1) j (0 : Fin 1) d)) * FloatOps.ofBits (F := Ideal) .f32 0x3E000000#32)
      (FloatOps.ofBits (F := Ideal) .f32 0xCE6E6B28#32) := by
  unfold scoreV
  rw [select_apply, mulf_apply]
  refine congrArg (fun z : EReal => Scalar.select (mk (ix2 r j)) (z * FloatOps.ofBits (F := Ideal) .f32 0x3E000000#32)
    (FloatOps.ofBits (F := Ideal) .f32 0xCE6E6B28#32)) ?_
  refine (Ideal.matmul_transposedRhs_apply (M := 512) (K := 64) (N := 512) none _ _ _ r j).trans ?_
  rw [show (constant S512x512 .f32 0x00000000#32 : FVec Ideal S512x512 .f32) (ix2 r j) = (0 : EReal) from ofBits_zero', zero_add]
  refine Finset.sum_congr rfl fun d _ => ?_
  rw [shapeCast_kv, slice2_axis1_apply (64 * h.val) q (slices_q h) r d ⟨64 * h.val + d.val, by omega⟩ rfl]

/-- A row's maximum. -/
theorem maxV_at (s : FVec Ideal S512x512 .f32) (r : Fin 512) (u : Fin 1) :
    maxV s (ix2 r u) = (Finset.univ : Finset (Fin 512)).fold max ⊥ fun j => s (ix2 r j) := by
  unfold maxV
  rw [shapeCast_a_a1_apply]
  refine (Ideal.multiReduction_maximumf_single (a := 1) s _ reduces_S512x512_S512 _ _ (ix1 r)).trans ?_
  rw [show (FloatOps.ofBits .f32 0xFF800000#32 : Ideal .f32) = (⊥ : EReal) by simp [Ideal.ofBits, Ideal.ieee]]
  refine congrArg (fun f => (Finset.univ : Finset (Fin 512)).fold max (⊥ : EReal) f) (funext fun j => congrArg s (funext fun a => ?_))
  match a with
  | ⟨0, _⟩ => rfl
  | ⟨1, _⟩ => rfl

/-- A weight. -/
theorem expV_at (s : FVec Ideal S512x512 .f32) (r j : Fin 512) :
    expV s (ix2 r j) = Ideal.exp (s (ix2 r j) - maxV s (ix2 r (0 : Fin 1))) := by
  unfold expV
  show Ideal.exp (s (ix2 r j) - broadcastTo S512x512 (maxV s) broadcasts_S512x1_S512x512 (ix2 r j)) = _
  rw [broadcastTo_apply (maxV s) broadcasts_S512x1_S512x512 (ix2 r j) (ix2 r (0 : Fin 1)) (fun a => by
    match a with
    | ⟨0, _⟩ => rfl
    | ⟨1, _⟩ => rfl)]

/-- The sum of a row's weights. -/
theorem sumV_at (s : FVec Ideal S512x512 .f32) (r : Fin 512) (u : Fin 1) :
    sumV s (ix2 r u) = ∑ j : Fin 512, Ideal.exp (s (ix2 r j) - maxV s (ix2 r (0 : Fin 1))) := by
  unfold sumV
  rw [shapeCast_a_a1_apply]
  refine (Ideal.multiReduction_add_single (a := 1) (expV s) _ reduces_S512x512_S512 _ _ (ix1 r)).trans ?_
  refine Finset.sum_congr rfl fun j _ => Eq.trans (congrArg (expV s) (funext fun a => ?_)) (expV_at s r j)
  match a with
  | ⟨0, _⟩ => rfl
  | ⟨1, _⟩ => rfl

/-- The weighted values. -/
theorem accV_at (s : FVec Ideal S512x512 .f32) (v : Vec Ideal S1x512x1x64 .f32) (r : Fin 512) (d : Fin 64) :
    accV s v (ix2 r d) = ∑ j : Fin 512, Ideal.exp (s (ix2 r j) - maxV s (ix2 r (0 : Fin 1))) * v (ix4 (0 : Fin 1) j (0 : Fin 1) d) := by
  unfold accV
  refine (Ideal.matmul_plain_apply (M := 512) (K := 512) (N := 64) none _ _ _ r d).trans ?_
  rw [show (constant S512x64 .f32 0x00000000#32 : FVec Ideal S512x64 .f32) (ix2 r d) = (0 : EReal) from ofBits_zero', zero_add]
  exact Finset.sum_congr rfl fun j _ => by rw [shapeCast_kv, expV_at]

/-! ## What is stored -/

theorem oStore_at (s : Fin 4 → FVec Ideal S512x512 .f32) (v : Fin 4 → Vec Ideal S1x512x1x64 .f32) (u : Fin 1) (r : Fin 512) (i : Fin 4) (d : Fin 64) :
    oStore s v (ix3 u r (dIx i d)) = accV (s i) (v i) (ix2 r d) := by
  unfold oStore
  rw [shapeCast_ab_1ab_apply]
  exact concatenate_ofFn_apply (s₁ := S512x64) (t := S512x256) (1 : Fin 2) (N := 4) (fun i => accV (s i) (v i))
    concatenates_S512x64_S512x64_S512x64_S512x64_S512x256_d1 rfl 64 rfl (ix2 r (dIx i d)) i
    (by show (64 * i.val + d.val) / 64 = i.val; omega) (ix2 r d) (by show d.val = (64 * i.val + d.val) % 64; omega)
    (fun b hb => by
      match b with
      | ⟨0, _⟩ => rfl
      | ⟨1, _⟩ => exact absurd rfl hb)

/-- Sixteen columns side by side, read at a lane. -/
theorem cols16_at {α : Type} (f : Fin 16 → S512x1.Idx → α) (r : Fin 512) (n : Fin 16) :
    concatenate S512x16 1 [⟨S512x1, f 0⟩, ⟨S512x1, f 1⟩, ⟨S512x1, f 2⟩, ⟨S512x1, f 3⟩, ⟨S512x1, f 4⟩, ⟨S512x1, f 5⟩, ⟨S512x1, f 6⟩, ⟨S512x1, f 7⟩,
      ⟨S512x1, f 8⟩, ⟨S512x1, f 9⟩, ⟨S512x1, f 10⟩, ⟨S512x1, f 11⟩, ⟨S512x1, f 12⟩, ⟨S512x1, f 13⟩, ⟨S512x1, f 14⟩, ⟨S512x1, f 15⟩]
      concatenates_S512x1_S512x1_S512x1_S512x1_S512x1_S512x1_S512x1_S512x1_S512x1_S512x1_S512x1_S512x1_S512x1_S512x1_S512x1_S512x1_S512x16_d1 (ix2 r n)
      = f n (ix2 r (0 : Fin 1)) :=
  concatenate_ofFn_unit_apply (s₁ := S512x1) (t := S512x16) (1 : Fin 2) (N := 16) f
    concatenates_S512x1_S512x1_S512x1_S512x1_S512x1_S512x1_S512x1_S512x1_S512x1_S512x1_S512x1_S512x1_S512x1_S512x1_S512x1_S512x1_S512x16_d1 rfl rfl (ix2 r n) n rfl (ix2 r (0 : Fin 1))
    (fun b hb => by
      match b with
      | ⟨0, _⟩ => rfl
      | ⟨1, _⟩ => exact absurd rfl hb)

/-- The sixteen columns of the stored statistics. -/
def sCols (s0 s1 : Fin 4 → FVec Ideal S512x512 .f32) : Fin 16 → FVec Ideal S512x1 .f32 := fun
  | 0 => maxV (s0 0) | 1 => maxV (s0 1) | 2 => maxV (s0 2) | 3 => maxV (s0 3) | 4 => sumV (s0 0) | 5 => sumV (s0 1) | 6 => sumV (s0 2) | 7 => sumV (s0 3)
  | 8 => maxV (s1 0) | 9 => maxV (s1 1) | 10 => maxV (s1 2) | 11 => maxV (s1 3) | 12 => sumV (s1 0) | 13 => sumV (s1 1) | 14 => sumV (s1 2) | _ => sumV (s1 3)

theorem sStore_at (s0 s1 : Fin 4 → FVec Ideal S512x512 .f32) (r : Fin 512) (n : Fin 16) :
    sStore s0 s1 (ix2 r n) = sCols s0 s1 n (ix2 r (0 : Fin 1)) := by
  refine Eq.trans ?_ (cols16_at (sCols s0 s1) r n)
  unfold sStore
  refine (shapeCast_apply (s := S512x16) (t := S512x16) _ shapeCasts_S512x16_S512x16 (ix2 r n) (ix2 r n) rfl).trans ?_
  rfl

theorem mCols : ∀ (s : Fin 2 → Fin 4 → FVec Ideal S512x512 .f32) (b : Fin 2) (i : Fin 4), sCols (s 0) (s 1) (mIx b i) = maxV (s b i)
  | s, 0, 0 => rfl | s, 0, 1 => rfl | s, 0, 2 => rfl | s, 0, 3 => rfl | s, 1, 0 => rfl | s, 1, 1 => rfl | s, 1, 2 => rfl | s, 1, 3 => rfl
theorem lCols : ∀ (s : Fin 2 → Fin 4 → FVec Ideal S512x512 .f32) (b : Fin 2) (i : Fin 4), sCols (s 0) (s 1) (lIx b i) = sumV (s b i)
  | s, 0, 0 => rfl | s, 0, 1 => rfl | s, 0, 2 => rfl | s, 0, 3 => rfl | s, 1, 0 => rfl | s, 1, 1 => rfl | s, 1, 2 => rfl | s, 1, 3 => rfl

theorem sStore_max (s : Fin 2 → Fin 4 → FVec Ideal S512x512 .f32) (r : Fin 512) (b : Fin 2) (i : Fin 4) :
    sStore (s 0) (s 1) (ix2 r (mIx b i)) = maxV (s b i) (ix2 r (0 : Fin 1)) := by
  rw [sStore_at, mCols]
theorem sStore_sum (s : Fin 2 → Fin 4 → FVec Ideal S512x512 .f32) (r : Fin 512) (b : Fin 2) (i : Fin 4) :
    sStore (s 0) (s 1) (ix2 r (lIx b i)) = sumV (s b i) (ix2 r (0 : Fin 1)) := by
  rw [sStore_at, lCols]

/-! ## One combination -/

theorem colM_at (b : Fin 2) (s : FVec Ideal S64x16 .f32) (y : Fin 64) (i : Fin 4) : colM b s (ix2 y i) = s (ix2 y (mIx b i)) :=
  slice2_axis1_apply (8 * b.val) s (slices_s b) y i (mIx b i) rfl
theorem colL_at (b : Fin 2) (s : FVec Ideal S64x16 .f32) (y : Fin 64) (i : Fin 4) : colL b s (ix2 y i) = s (ix2 y (lIx b i)) :=
  slice2_axis1_apply (8 * b.val + 4) s (slices_l b) y i (lIx b i) rfl

theorem spread_at (e : FVec Ideal S64x4 .f32) (y : Fin 64) (i : Fin 4) (d : Fin 64) : spread e (ix2 y (dIx i d)) = e (ix2 y i) := by
  unfold spread
  refine (concatenate_ofFn_apply (s₁ := S64x64) (t := S64x256) (1 : Fin 2) (N := 4)
    (fun i => broadcastTo S64x64 (shapeCast S64x1 (extractStridedSlice S64x1 ![0, i.val] e (slices_e i)) shapeCasts_S64x1_S64x1) broadcasts_S64x1_S64x64)
    concatenates_S64x64_S64x64_S64x64_S64x64_S64x256_d1 rfl 64 rfl (ix2 y (dIx i d)) i
    (by show (64 * i.val + d.val) / 64 = i.val; omega) (ix2 y d) (by show d.val = (64 * i.val + d.val) % 64; omega)
    (fun b hb => by
      match b with
      | ⟨0, _⟩ => rfl
      | ⟨1, _⟩ => exact absurd rfl hb)).trans ?_
  rw [broadcastTo_apply _ broadcasts_S64x1_S64x64 (ix2 y d) (ix2 y (0 : Fin 1)) (fun a => by
    match a with
    | ⟨0, _⟩ => rfl
    | ⟨1, _⟩ => rfl), shapeCast_apply _ _ _ (ix2 y (0 : Fin 1)) rfl]
  exact slice2_axis1_apply i.val e (slices_e i) y (0 : Fin 1) i rfl

/-- The accumulators of batch row `b`. -/
def Acc.o (a : Acc Ideal) : Fin 2 → FVec Ideal S64x256 .f32 := fun | 0 => a.o0 | 1 => a.o1

/-- Batch row `b`'s shift and factors at one row and head. -/
theorem newM_at (b : Fin 2) (s t : FVec Ideal S64x16 .f32) (y : Fin 64) (i : Fin 4) :
    newM b s t (ix2 y i) = max (s (ix2 y (mIx b i))) (t (ix2 y (mIx b i))) := by
  unfold newM; rw [maximumf_apply, colM_at, colM_at]
theorem facA_at (b : Fin 2) (s t : FVec Ideal S64x16 .f32) (y : Fin 64) (i : Fin 4) :
    facA b s t (ix2 y i) = Ideal.exp (s (ix2 y (mIx b i)) - max (s (ix2 y (mIx b i))) (t (ix2 y (mIx b i)))) := by
  rw [← newM_at, ← colM_at b s]; rfl
theorem facB_at (b : Fin 2) (s t : FVec Ideal S64x16 .f32) (y : Fin 64) (i : Fin 4) :
    facB b s t (ix2 y i) = Ideal.exp (t (ix2 y (mIx b i)) - max (s (ix2 y (mIx b i))) (t (ix2 y (mIx b i)))) := by
  rw [← newM_at, ← colM_at b t]; rfl

/-- The four blocks of the combined statistics. -/
def cCols (s t : FVec Ideal S64x16 .f32) : Fin 4 → FVec Ideal S64x4 .f32 := ![newM 0 s t, newL 0 s t, newM 1 s t, newL 1 s t]

theorem comb_at (a : Acc Ideal) (t : FVec Ideal S64x16 .f32) (r0 r1 : FVec Ideal S64x256 .f32) (y : Fin 64) (n i : Fin 4) :
    (comb a t r0 r1).s (ix2 y ⟨4 * n.val + i.val, by omega⟩) = cCols a.s t n (ix2 y i) := by
  unfold comb
  exact concatenate_ofFn_apply (s₁ := S64x4) (t := S64x16) (1 : Fin 2) (N := 4) (cCols a.s t)
    concatenates_S64x4_S64x4_S64x4_S64x4_S64x16_d1 rfl 4 rfl (ix2 y ⟨4 * n.val + i.val, by omega⟩) n
    (by show (4 * n.val + i.val) / 4 = n.val; omega) (ix2 y i) (by show i.val = (4 * n.val + i.val) % 4; omega)
    (fun b hb => by
      match b with
      | ⟨0, _⟩ => rfl
      | ⟨1, _⟩ => exact absurd rfl hb)

theorem comb_m (a : Acc Ideal) (t : FVec Ideal S64x16 .f32) (r0 r1 : FVec Ideal S64x256 .f32) (y : Fin 64) (b : Fin 2) (i : Fin 4) :
    (comb a t r0 r1).s (ix2 y (mIx b i)) = max (a.s (ix2 y (mIx b i))) (t (ix2 y (mIx b i))) := by
  rw [← newM_at]
  fin_cases b
  · have h := comb_at a t r0 r1 y 0 i
    refine Eq.trans (congrArg (fun z => (comb a t r0 r1).s (ix2 y z)) (Fin.ext ?_)) h
    show 8 * 0 + i.val = 4 * 0 + i.val; omega
  · have h := comb_at a t r0 r1 y 2 i
    refine Eq.trans (congrArg (fun z => (comb a t r0 r1).s (ix2 y z)) (Fin.ext ?_)) h
    show 8 * 1 + i.val = 4 * 2 + i.val; omega

theorem newL_at (b : Fin 2) (s t : FVec Ideal S64x16 .f32) (y : Fin 64) (i : Fin 4) :
    newL b s t (ix2 y i) = s (ix2 y (lIx b i)) * facA b s t (ix2 y i) + t (ix2 y (lIx b i)) * facB b s t (ix2 y i) := by
  rw [← colL_at b s, ← colL_at b t]; rfl

theorem comb_l (a : Acc Ideal) (t : FVec Ideal S64x16 .f32) (r0 r1 : FVec Ideal S64x256 .f32) (y : Fin 64) (b : Fin 2) (i : Fin 4) :
    (comb a t r0 r1).s (ix2 y (lIx b i)) = newL b a.s t (ix2 y i) := by
  fin_cases b
  · have h := comb_at a t r0 r1 y 1 i
    refine Eq.trans (congrArg (fun z => (comb a t r0 r1).s (ix2 y z)) (Fin.ext ?_)) h
    show 8 * 0 + 4 + i.val = 4 * 1 + i.val; omega
  · have h := comb_at a t r0 r1 y 3 i
    refine Eq.trans (congrArg (fun z => (comb a t r0 r1).s (ix2 y z)) (Fin.ext ?_)) h
    show 8 * 1 + 4 + i.val = 4 * 3 + i.val; omega

theorem newO_at (b : Fin 2) (s t : FVec Ideal S64x16 .f32) (o r : FVec Ideal S64x256 .f32) (y : Fin 64) (i : Fin 4) (d : Fin 64) :
    newO b s t o r (ix2 y (dIx i d)) = o (ix2 y (dIx i d)) * facA b s t (ix2 y i) + r (ix2 y (dIx i d)) * facB b s t (ix2 y i) := by
  rw [← spread_at (facA b s t) y i d, ← spread_at (facB b s t) y i d]; rfl

theorem comb_o (a : Acc Ideal) (t : FVec Ideal S64x16 .f32) (r : Fin 2 → FVec Ideal S64x256 .f32) (b : Fin 2) :
    (comb a t (r 0) (r 1)).o b = newO b a.s t (a.o b) (r b) := by
  fin_cases b <;> rfl

/-- If an accumulator and a received part are partial softmaxes over disjoint sets of devices, at one row, head and lane, the
combination is the partial softmax over both. -/
theorem comb_part {κ : Type} [Fintype κ] (s : Dev nD → κ → ℝ) (V : Dev nD → κ → EReal) {D E : Finset (Dev nD)} (hd : Disjoint D E)
    (a : Acc Ideal) (t : FVec Ideal S64x16 .f32) (r : Fin 2 → FVec Ideal S64x256 .f32) (y : Fin 64) (b : Fin 2) (i : Fin 4) (d : Fin 64)
    (h : Part s V D (a.s (ix2 y (mIx b i))) (a.s (ix2 y (lIx b i))) (a.o b (ix2 y (dIx i d))))
    (h' : Part s V E (t (ix2 y (mIx b i))) (t (ix2 y (lIx b i))) (r b (ix2 y (dIx i d)))) :
    Part s V (D ∪ E) ((comb a t (r 0) (r 1)).s (ix2 y (mIx b i))) ((comb a t (r 0) (r 1)).s (ix2 y (lIx b i)))
      ((comb a t (r 0) (r 1)).o b (ix2 y (dIx i d))) := by
  rw [comb_m, comb_l, comb_o, newL_at, newO_at, facA_at, facB_at]
  exact Part.comb h h' hd

end Cert.Attn

end
-- ==== Proof.Attn.KCtx.lean ====
/-
# The kernel's context and result at an index

What a device stores of a query row, head and lane is the partial softmax over its own keys; after the seven combinations
the device has the partial softmax over all devices' keys, and the normalised row is the softmax-weighted sum of all
values, with any real shift. The result is those rows times `Wo`. The scores are taken to be real numbers here; that they
are follows from the inputs being finite (`score_real`).
-/
module

public import proofs.«01_k».proof.Proof.Attn.KVals

@[expose] public section

noncomputable section

namespace Cert.Attn

open Cert.KernelIdeal Cert.KernelIdeal.Gen
open Idealize.ShloMosaic Idealize.ShloMosaic.TcCoe Idealize.ShloMosaic.ValueIdx
open scoped BigOperators

/-! ## Scores -/

theorem rdKV_at (b : Fin 2) (h : Fin 8) (k : Vec Ideal S2x512x8x64 .f32) (j : Fin 512) (d : Fin 64) :
    rdKV b h k (ix4 (0 : Fin 1) j (0 : Fin 1) d) = k (ix4 b j h d) := by
  refine congrArg k (funext fun a => Fin.ext ((emb_coord rfl _ a).trans ?_))
  match a with
  | ⟨0, _⟩ => exact Nat.add_zero _
  | ⟨1, _⟩ => exact Nat.zero_add _
  | ⟨2, _⟩ => exact Nat.add_zero _
  | ⟨3, _⟩ => exact Nat.zero_add _

theorem rdX_at (b : Fin 2) (x : Vec Ideal S2x512x768 .f32) (r : Fin 512) (k : Fin 768) : rdX b x (ix3 (0 : Fin 1) r k) = x (ix3 b r k) := by
  refine congrArg x (funext fun a => Fin.ext ((emb_coord rfl _ a).trans ?_))
  match a with
  | ⟨0, _⟩ => exact Nat.add_zero _
  | ⟨1, _⟩ => exact Nat.zero_add _
  | ⟨2, _⟩ => exact Nat.zero_add _

theorem rdWq_eq (w : Vec Ideal S768x512 .f32) : rdWq w = w := by
  funext y
  refine congrArg w (funext fun a => Fin.ext ((emb_coord rfl _ a).trans ?_))
  match a with
  | ⟨0, _⟩ => exact Nat.zero_add _
  | ⟨1, _⟩ => exact Nat.zero_add _
theorem rdWo_eq (w : Vec Ideal S512x768 .f32) : rdWo w = w := by
  funext y
  refine congrArg w (funext fun a => Fin.ext ((emb_coord rfl _ a).trans ?_))
  match a with
  | ⟨0, _⟩ => exact Nat.zero_add _
  | ⟨1, _⟩ => exact Nat.zero_add _

section
variable (I : Dev nD → Ins Ideal)

/-- A masked score: the scaled product of a query row with one of the device's keys where the mask lets it, minus a billion where not. -/
theorem scoreOf_at (g b : Fin 2) (p : Dev nD) (i : Fin 4) (r j : Fin 512) :
    scoreOf I g p b i (ix2 r j) = Scalar.select (BitVec.ofBool (keep (r.val / 64) ((512 * p.val + j.val) / 64)))
      ((∑ d : Fin 64, (∑ k : Fin 768, (I p).x (ix3 b r k) * (I p).wq (ix2 k ⟨64 * (hd g i).val + d.val, by have := (hd g i).isLt; omega⟩)) * (I p).k (ix4 b j (hd g i) d))
        * FloatOps.ofBits (F := Ideal) .f32 0x3E000000#32)
      (FloatOps.ofBits (F := Ideal) .f32 0xCE6E6B28#32) := by
  unfold scoreOf qOf
  rw [scoreV_at, mask_kern]
  refine congrArg (fun z : EReal => Scalar.select (BitVec.ofBool (keep (r.val / 64) ((512 * p.val + j.val) / 64)))
    (z * FloatOps.ofBits (F := Ideal) .f32 0x3E000000#32) (FloatOps.ofBits (F := Ideal) .f32 0xCE6E6B28#32)) (Finset.sum_congr rfl fun d _ => ?_)
  rw [rdKV_at, qV_at, rdWq_eq]
  refine congrArg (fun z : EReal => z * (I p).k (ix4 b j (hd g i) d)) (Finset.sum_congr rfl fun k _ => ?_)
  rw [rdX_at]

theorem real_scale : IsReal (FloatOps.ofBits (F := Ideal) .f32 0x3E000000#32) := by
  simp only [Ideal.ofBits_def]
  exact ⟨_, by simp [Ideal.ofBits, Ideal.ieee]; rfl⟩
theorem real_masked : IsReal (FloatOps.ofBits (F := Ideal) .f32 0xCE6E6B28#32) := by
  simp only [Ideal.ofBits_def]
  exact ⟨_, by simp [Ideal.ofBits, Ideal.ieee]; rfl⟩

/-- With real `x`, `Wq` and keys every masked score is real. -/
theorem score_real (hx : ∀ p y, IsReal ((I p).x y)) (hw : ∀ p y, IsReal ((I p).wq y)) (hk : ∀ p y, IsReal ((I p).k y))
    (g b : Fin 2) (p : Dev nD) (i : Fin 4) (r j : Fin 512) : IsReal (scoreOf I g p b i (ix2 r j)) := by
  rw [scoreOf_at]
  have h1 : IsReal ((∑ d : Fin 64, (∑ k : Fin 768, (I p).x (ix3 b r k) * (I p).wq (ix2 k ⟨64 * (hd g i).val + d.val, by have := (hd g i).isLt; omega⟩)) * (I p).k (ix4 b j (hd g i) d))
      * FloatOps.ofBits (F := Ideal) .f32 0x3E000000#32) :=
    (IsReal.sum _ _ fun d => (IsReal.sum _ _ fun k => (hx p _).mul (hw p _)).mul (hk p _)).mul real_scale
  cases keep (r.val / 64) ((512 * p.val + j.val) / 64)
  · exact real_masked
  · exact h1

/-- The real score, and the value it weighs. -/
def sR (g b : Fin 2) (i : Fin 4) (r : Fin 512) : Dev nD → Fin 512 → ℝ := fun p j => (scoreOf I g p b i (ix2 r j)).toReal
def vE (g b : Fin 2) (i : Fin 4) (d : Fin 64) : Dev nD → Fin 512 → EReal := fun p j => (I p).v (ix4 b j (hd g i) d)

variable (hs : ∀ (g b : Fin 2) (p : Dev nD) (i : Fin 4) (r j : Fin 512), IsReal (scoreOf I g p b i (ix2 r j)))
include hs

theorem sR_coe (g b : Fin 2) (i : Fin 4) (r : Fin 512) (p : Dev nD) (j : Fin 512) : ((sR I g b i r p j : ℝ) : EReal) = scoreOf I g p b i (ix2 r j) := by
  obtain ⟨x, hx⟩ := hs g b p i r j
  unfold sR; rw [hx, EReal.toReal_coe]

/-! ## One device's part -/

theorem stored_part (g b : Fin 2) (p : Dev nD) (i : Fin 4) (r : Fin 512) (d : Fin 64) :
    Part (sR I g b i r) (vE I g b i d) {p} (SW I g p (ix2 r (mIx b i))) (SW I g p (ix2 r (lIx b i))) (OW I g p (ix3 b r (dIx i d))) := by
  have hm : SW I g p (ix2 r (mIx b i)) = maxV (scoreOf I g p b i) (ix2 r (0 : Fin 1)) := sStore_max (scoreOf I g p) r b i
  have hl : SW I g p (ix2 r (lIx b i)) = sumV (scoreOf I g p b i) (ix2 r (0 : Fin 1)) := sStore_sum (scoreOf I g p) r b i
  have ho : OW I g p (ix3 b r (dIx i d)) = accV (scoreOf I g p b i) (rdKV b (hd g i) (I p).v) (ix2 r d) :=
    oStore_at (scoreOf I g p b) (fun i => rdKV b (hd g i) (I p).v) 0 r i d
  have hreal : IsReal (maxV (scoreOf I g p b i) (ix2 r (0 : Fin 1))) := by
    rw [maxV_at]
    exact isReal_fold_max _ ⟨0, Finset.mem_univ _⟩ _ fun j => hs g b p i r j
  rw [hm, hl, ho, sumV_at, accV_at]
  have h := Part.single (sR I g b i r) (vE I g b i d) p hreal
  simp only [sR_coe I hs] at h
  simp only [rdKV_at]
  exact h

/-! ## The combinations -/

/-- An accumulator holds, at every row, head and lane, the partial softmax over the devices `D` of device `c`'s rows. -/
def AccPart (g : Fin 2) (c : Dev nD) (D : Finset (Dev nD)) (a : Acc Ideal) : Prop :=
  ∀ (y : Fin 64) (b : Fin 2) (i : Fin 4) (d : Fin 64), Part (sR I g b i (row c y)) (vE I g b i d) D
    (a.s (ix2 y (mIx b i))) (a.s (ix2 y (lIx b i))) (a.o b (ix2 y (dIx i d)))

omit hs in
theorem acc0_s (g : Fin 2) (c : Dev nD) (y : Fin 64) (n : Fin 16) : (acc0 I g c).s (ix2 y n) = SW I g c (ix2 (row c y) n) := by
  refine congrArg (SW I g c) (funext fun a => Fin.ext ((emb_coord (k0_off5_eq c) (ix2 y n) a).trans ?_))
  match a with
  | ⟨0, _⟩ => rfl
  | ⟨1, _⟩ => exact Nat.zero_add _

omit hs in
theorem acc0_o (g : Fin 2) (c : Dev nD) (b : Fin 2) (y : Fin 64) (n : Fin 256) : (acc0 I g c).o b (ix2 y n) = OW I g c (ix3 b (row c y) n) := by
  match b with
  | 0 =>
    refine (shapeCast_1ab_ab_apply (fun y => OW I g c ((Rect.unit (s := S2x512x256) (k0_off3 c) S1x64x256.size (k0_off3_inb c)).emb y)) shapeCasts_S1x64x256_S64x256 y n).trans ?_
    refine congrArg (OW I g c) (funext fun a => Fin.ext ((emb_coord (k0_off3_eq c) (ix3 (0 : Fin 1) y n) a).trans ?_))
    match a with
    | ⟨0, _⟩ => rfl
    | ⟨1, _⟩ => rfl
    | ⟨2, _⟩ => exact Nat.zero_add _
  | 1 =>
    refine (shapeCast_1ab_ab_apply (fun y => OW I g c ((Rect.unit (s := S2x512x256) (k0_off4 c) S1x64x256.size (k0_off4_inb c)).emb y)) shapeCasts_S1x64x256_S64x256 y n).trans ?_
    refine congrArg (OW I g c) (funext fun a => Fin.ext ((emb_coord (k0_off4_eq c) (ix3 (0 : Fin 1) y n) a).trans ?_))
    match a with
    | ⟨0, _⟩ => rfl
    | ⟨1, _⟩ => rfl
    | ⟨2, _⟩ => exact Nat.zero_add _

theorem acc0_part (g : Fin 2) (c : Dev nD) : AccPart I g c {c} (acc0 I g c) := by
  intro y b i d
  rw [acc0_s, acc0_s, acc0_o]
  exact stored_part I hs g b c i (row c y) d

/-- What is read of the landing slots: the statistics, and the accumulators of batch row `b`. -/
def recvS (g : Fin 2) (c : Dev nD) (r : Fin 7) : FVec Ideal S64x16 .f32 :=
  upRS fun y => RS I g c ((Rect.unit (s := S7x64x16) ![r.val, 0, 0] S1x64x16.size (inb_slotS r)).emb y)
def recvO (g : Fin 2) (c : Dev nD) (r : Fin 7) (b : Fin 2) : FVec Ideal S64x256 .f32 :=
  upRO fun y => RO I g c ((Rect.unit (s := S7x2x64x256) ![r.val, b.val, 0, 0] S1x1x64x256.size (inb_slotOb r b)).emb y)

omit hs in
theorem recvS_at (g : Fin 2) (c : Dev nD) (r : Fin 7) (y : Fin 64) (n : Fin 16) : recvS I g c r (ix2 y n) = SW I g (fw c r) (ix2 (row c y) n) := by
  refine (shapeCast_1ab_ab_apply (fun y => RS I g c ((Rect.unit (s := S7x64x16) ![r.val, 0, 0] S1x64x16.size (inb_slotS r)).emb y)) shapeCasts_S1x64x16_S64x16 y n).trans ?_
  have e : (Rect.unit (s := S7x64x16) ![r.val, 0, 0] S1x64x16.size (inb_slotS r)).emb (ix3 (0 : Fin 1) y n) = ix3 r y n := by
    refine funext fun a => Fin.ext ((emb_coord rfl _ a).trans ?_)
    match a with
    | ⟨0, _⟩ => rfl
    | ⟨1, _⟩ => exact Nat.zero_add _
    | ⟨2, _⟩ => exact Nat.zero_add _
  rw [e]; rfl

omit hs in
theorem recvO_at (g : Fin 2) (c : Dev nD) (r : Fin 7) (b : Fin 2) (y : Fin 64) (n : Fin 256) :
    recvO I g c r b (ix2 y n) = OW I g (fw c r) (ix3 b (row c y) n) := by
  refine (shapeCast_apply (fun y => RO I g c ((Rect.unit (s := S7x2x64x256) ![r.val, b.val, 0, 0] S1x1x64x256.size (inb_slotOb r b)).emb y))
    shapeCasts_S1x1x64x256_S64x256 (ix2 y n) (ix4 (0 : Fin 1) (0 : Fin 1) y n) (by
    rw [Shape.rowMajor_val_four, Shape.rowMajor_val_two]
    show ((0 * 1 + 0) * 64 + y.val) * 256 + n.val = y.val * 256 + n.val
    omega)).trans ?_
  have e : (Rect.unit (s := S7x2x64x256) ![r.val, b.val, 0, 0] S1x1x64x256.size (inb_slotOb r b)).emb (ix4 (0 : Fin 1) (0 : Fin 1) y n) = ix4 r b y n := by
    refine funext fun a => Fin.ext ((emb_coord rfl _ a).trans ?_)
    match a with
    | ⟨0, _⟩ => rfl
    | ⟨1, _⟩ => rfl
    | ⟨2, _⟩ => exact Nat.zero_add _
    | ⟨3, _⟩ => exact Nat.zero_add _
  rw [e]; rfl

/-- The devices combined after the listed distances, and that each of them is a new one. -/
def accD (c : Dev nD) : List (Fin 7) → Finset (Dev nD) → Finset (Dev nD)
  | [], D => D
  | r :: rs, D => accD c rs (D ∪ {fw c r.rev})
def accNew (c : Dev nD) : List (Fin 7) → Finset (Dev nD) → Bool
  | [], _ => true
  | r :: rs, D => decide (fw c r.rev ∉ D) && accNew c rs (D ∪ {fw c r.rev})

omit hs in
theorem accD_all : ∀ c : Dev nD, accD c all7 {c} = Finset.univ := by decide +kernel
omit hs in
theorem accNew_all : ∀ c : Dev nD, accNew c all7 {c} = true := by decide +kernel

theorem accL_part (g : Fin 2) (c : Dev nD) : ∀ (rs : List (Fin 7)) (D : Finset (Dev nD)) (a : Acc Ideal), accNew c rs D = true → AccPart I g c D a →
    AccPart I g c (accD c rs D) (accL I g c rs a)
  | [], _, _, _, h => h
  | r :: rs, D, a, hn, h => by
    simp only [accNew, Bool.and_eq_true, decide_eq_true_eq] at hn
    refine accL_part g c rs (D ∪ {fw c r.rev}) _ hn.2 fun y b i d => ?_
    refine comb_part _ _ (Finset.disjoint_singleton_right.mpr hn.1) a (recvS I g c r.rev) (recvO I g c r.rev) y b i d (h y b i d) ?_
    rw [recvS_at, recvS_at, recvO_at]
    exact stored_part I hs g b (fw c r.rev) i (row c y) d

theorem accOf_part (g : Fin 2) (c : Dev nD) : AccPart I g c Finset.univ (accOf I g c) := by
  have h := accL_part I hs g c all7 {c} (acc0 I g c) (accNew_all c) (acc0_part I hs g c)
  rwa [accD_all] at h

/-- The normalised row: the softmax over all devices' keys, with any real shift, times the values. -/
theorem ctxR_at (g b : Fin 2) (c : Dev nD) (y : Fin 64) (i : Fin 4) (d : Fin 64) (M : ℝ) :
    ctxR I g c b (ix2 y (dIx i d)) = ∑ p : Dev nD, ∑ j : Fin 512,
      Ideal.div ((Real.exp (sR I g b i (row c y) p j - M) : ℝ) : EReal) ((∑ p : Dev nD, ∑ j : Fin 512, Real.exp (sR I g b i (row c y) p j - M) : ℝ) : EReal)
        * vE I g b i d p j := by
  have h := (accOf_part I hs g c y b i d).norm ⟨c, Finset.mem_univ _⟩ M
  refine Eq.trans ?_ h
  have e : ∀ b : Fin 2, ctxR I g c b = normV b (accOf I g c).s ((accOf I g c).o b) := fun | 0 => rfl | 1 => rfl
  rw [e]; unfold normV
  rw [divf_apply, spread_at, colL_at]

omit hs in
/-- The result: the rows of the context, of all heads, times `Wo`. -/
theorem OUT_at (c : Dev nD) (b : Fin 2) (r : Fin 512) (n : Fin 768) :
    OUT I c (ix3 b r n) = ∑ k : Fin 512, ctxR I (colGrp k) (rowDev r) b (ix2 (rowIn r) (colIn k)) * (I c).wo (ix2 k n) := by
  have hw : ∀ k : Fin 512, woV (rdWo (I c).wo) (ix2 k n) = (I c).wo (ix2 k n) := fun k => by
    rw [rdWo_eq]; exact shapeCast_apply (I c).wo shapeCasts_S512x768_S512x768 (ix2 k n) (ix2 k n) rfl
  have hp : ∀ C : FVec Ideal S64x512 .bf16, projV C (woV (rdWo (I c).wo)) (ix3 (0 : Fin 1) (rowIn r) n) = ∑ k : Fin 512, C (ix2 (rowIn r) k) * (I c).wo (ix2 k n) := by
    intro C
    unfold projV
    rw [shapeCast_ab_1ab_apply]
    refine (Ideal.matmul_plain_apply (M := 64) (K := 512) (N := 768) none _ _ _ (rowIn r) n).trans ?_
    rw [show (constant S64x768 .f32 0x00000000#32 : FVec Ideal S64x768 .f32) (ix2 (rowIn r) n) = (0 : EReal) from ofBits_zero', zero_add]
    exact Finset.sum_congr rfl fun k _ => by rw [hw]
  show (if rowDev r = c then projV (ownV (ctxR I 0 c b) (ctxR I 1 c b)) (woV (rdWo (I c).wo))
    else projV (rowsV (rdC I b (rowDev r))) (woV (rdWo (I c).wo))) (ix3 (0 : Fin 1) (rowIn r) n) = _
  by_cases h : rowDev r = c
  · rw [if_pos h, hp]
    refine Finset.sum_congr rfl fun k _ => congrArg (fun z : EReal => z * (I c).wo (ix2 k n)) ?_
    rw [h]
    exact concatenate_ofFn_apply (s₁ := S64x256) (t := S64x512) (1 : Fin 2) (N := 2) (fun g => ctxR I g c b) concatenates_S64x256_S64x256_S64x512_d1
      rfl 256 rfl (ix2 (rowIn r) k) (colGrp k) rfl (ix2 (rowIn r) (colIn k)) rfl
      (fun b hb => by
        match b with
        | ⟨0, _⟩ => rfl
        | ⟨1, _⟩ => exact absurd rfl hb)
  · rw [if_neg h, hp]
    refine Finset.sum_congr rfl fun k _ => congrArg (fun z : EReal => z * (I c).wo (ix2 k n)) ?_
    refine (shapeCast_1ab_ab_apply (rdC I b (rowDev r)) shapeCasts_S1x64x512_S64x512 (rowIn r) k).trans ?_
    show CTX I (ix3 b (row (rowDev r) (rowIn r)) k) = _
    rw [row_rowDev]
    exact shapeCast_ab_1ab_apply _ shapeCasts_S64x256_S1x64x256 0 (rowIn r) (colIn k)

end

end Cert.Attn

end
-- ==== Proof.Attn.RVals.lean ====
/-
# The reference's values at an index

The reference over the extended reals, read at an index: its masked scores; every query attends to some key, so that its
guards against an empty row choose the softmax; and, for real scores, the context as the softmax-weighted sum of the values
with the row's maximum as the shift.
-/
module

public import proofs.«01_k».proof.Proof.Attn.Online
public import proofs.«01_k».proof.Proof.Attn.Mask
public import Idealize.ShloMosaic.PureOps.Reduce
public import Idealize.ShloMosaic.Lib.ValueIdx

@[expose] public section

noncomputable section

namespace Cert.Attn

open Cert.ReferenceIdeal Cert.ReferenceIdeal.Gen Cert.ReferenceIdeal.Read
open Idealize.ShloMosaic Idealize.ShloMosaic.ValueIdx
open scoped BigOperators

section
variable (x0 : FVec Ideal S2x512x768 .f32) (x1 : FVec Ideal S768x512 .f32) (x2 x3 : FVec Ideal S2x4096x8x64 .f32) (x4 : FVec Ideal S512x768 .f32)

/-- A head's query. -/
theorem ref_q (b : Fin 2) (r : Fin 512) (h : Fin 8) (d : Fin 64) :
    val_main_v1 (F := Ideal) x0 x1 (ix4 b r h d) = ∑ k : Fin 768, x0 (ix3 b r k) * x1 (ix2 k (⟨64 * h.val + d.val, by omega⟩ : Fin 512)) := by
  rw [val_main_v1_apply, val_main_v0_apply]
  refine Finset.sum_congr rfl fun k _ => ?_
  refine congrArg₂ (fun u v : EReal => u * v) (congrArg x0 (funext fun a => Fin.ext ?_)) (congrArg x1 (funext fun a => Fin.ext ?_))
  · match a with
    | ⟨0, _⟩ => show (((b.val * 512 + r.val) * 8 + h.val) * 64 + d.val) / 262144 = b.val; omega
    | ⟨1, _⟩ => show (((b.val * 512 + r.val) * 8 + h.val) * 64 + d.val) / 512 % 512 = r.val; omega
    | ⟨2, _⟩ => rfl
  · match a with
    | ⟨0, _⟩ => rfl
    | ⟨1, _⟩ => show (((b.val * 512 + r.val) * 8 + h.val) * 64 + d.val) % 512 = 64 * h.val + d.val; omega

/-- A masked score. -/
theorem ref_score (b : Fin 2) (h : Fin 8) (r : Fin 512) (k : Fin 4096) :
    val_main_v26 (F := Ideal) x0 x1 x2 (ix4 b h r k) = Scalar.select (BitVec.ofBool (keep (r.val / 64) (k.val / 64)))
      ((∑ d : Fin 64, (∑ e : Fin 768, x0 (ix3 b r e) * x1 (ix2 e (⟨64 * h.val + d.val, by omega⟩ : Fin 512))) * x2 (ix4 b k h d))
        * FloatOps.ofBits (F := Ideal) .f32 0x3E000000#32)
      (FloatOps.ofBits (F := Ideal) .f32 0xCE6E6B28#32) := by
  have hm : val_main_call3_v1 (F := Ideal) (ix4 b h r k) = BitVec.ofBool (keep (r.val / 64) (k.val / 64)) := by
    rw [val_main_call3_v1_apply, val_main_v25_apply, mask_ref]
  have hv : val_main_v22 (F := Ideal) x0 x1 x2 (ix4 b h r k)
      = ∑ d : Fin 64, (∑ e : Fin 768, x0 (ix3 b r e) * x1 (ix2 e (⟨64 * h.val + d.val, by omega⟩ : Fin 512))) * x2 (ix4 b k h d) := by
    rw [val_main_v22_apply]
    refine Finset.sum_congr rfl fun d _ => ?_
    rw [← ref_q]
    refine congrArg₂ (fun u v : EReal => u * v) (congrArg _ (funext fun a => ?_)) (congrArg x2 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  rw [val_main_v26_apply, hm, val_main_v24_apply, hv, val_main_v23_apply, val_main_call3_v2_apply]
  rfl

/-- A disjunction whose first term holds, holds. -/
theorem fold_ori_one {n : ℕ} (z : BitVec 1) (f : Fin (n + 1) → BitVec 1) (h : f 0 = 1#1) : (Finset.univ : Finset (Fin (n + 1))).fold IntOp.ori z f = 1#1 := by
  have hz : ∀ z : BitVec 1, IntOp.ori 1#1 z = 1#1 := by decide
  rw [← Finset.insert_erase (Finset.mem_univ (0 : Fin (n + 1))), Finset.fold_insert (Finset.notMem_erase _ _), h, hz]

/-- Every query attends to some key: to those of the first block. -/
theorem ref_row (r : S512.Idx) : val_main_v32 (F := Ideal) r = 1#1 := by
  unfold val_main_v32
  rw [Host.reduce_eq_fold_single IntOp.ori _ _ reducesTo_S512x4096_S512_d1 (by decide) h_S_ r]
  refine fold_ori_one (n := 4095) _ _ ?_
  show val_main_v21 (F := Ideal) _ = 1#1
  rw [mask_ref]
  have h1 : ∀ a b : ℕ, b = 0 → BitVec.ofBool (keep a (b / 64)) = 1#1 := by
    intro a b h; subst h; simp [keep]
  exact h1 _ _ rfl

theorem ref_row3 (i : S1x1x512x1.Idx) : val_main_v33 (F := Ideal) i = 1#1 := by rw [val_main_v33_apply, ref_row]
theorem ref_row9 (i : S1x1x512x1.Idx) : val_main_v39 (F := Ideal) i = 1#1 := by rw [val_main_v39_apply, ref_row]

/-- The row's maximum. -/
theorem ref_max (b : Fin 2) (h : Fin 8) (r : Fin 512) :
    val_main_v27 (F := Ideal) x0 x1 x2 (ix3 b h r) = (Finset.univ : Finset (Fin 4096)).fold max ⊥ fun k => val_main_v26 (F := Ideal) x0 x1 x2 (ix4 b h r k) := by
  unfold val_main_v27
  generalize val_main_v26 (F := Ideal) x0 x1 x2 = y
  rw [Host.reduce_eq_fold_single FloatOps.maximumf _ _ reducesTo_S2x8x512x4096_S2x8x512_d3 (by decide) h_S_ (ix3 b h r)]
  rw [show val_main_cst_5 (F := Ideal) (Shape.Idx.first h_S_) = (⊥ : EReal) from by
    show (FloatOps.ofBits .f32 0xFF800000#32 : Ideal .f32) = (⊥ : EReal)
    simp [Ideal.ofBits, Ideal.ieee]]
  refine congrArg (fun f => (Finset.univ : Finset (Fin 4096)).fold max (⊥ : EReal) f) (funext fun k => congrArg y (funext fun a => Fin.ext ?_))
  match a with
  | ⟨0, _⟩ => rfl
  | ⟨1, _⟩ => rfl
  | ⟨2, _⟩ => rfl
  | ⟨3, _⟩ => rfl

variable {x0 x1 x2} in
/-- For real scores the softmax weight, with the row's maximum `M`. -/
theorem ref_weight {b : Fin 2} {h : Fin 8} {r : Fin 512} {S : Fin 4096 → ℝ} (hS : ∀ k, val_main_v26 (F := Ideal) x0 x1 x2 (ix4 b h r k) = (S k : EReal)) :
    ∃ M : ℝ, ∀ k, val_main_v40 (F := Ideal) x0 x1 x2 (ix4 b h r k)
      = Ideal.div ((Real.exp (S k - M) : ℝ) : EReal) ((∑ k, Real.exp (S k - M) : ℝ) : EReal) := by
  obtain ⟨M, hM⟩ : IsReal (val_main_v27 (F := Ideal) x0 x1 x2 (ix3 b h r)) := by
    rw [ref_max]
    exact isReal_fold_max _ ⟨0, Finset.mem_univ _⟩ _ fun k => ⟨S k, hS k⟩
  have h31 : ∀ k, val_main_v31 (F := Ideal) x0 x1 x2 (ix4 b h r k) = ((Real.exp (S k - M) : ℝ) : EReal) := by
    intro k
    rw [val_main_v31_apply, val_main_v30_apply, hS, val_main_v29_apply, val_main_v28_apply]
    rw [show idx_main_v28 (idx_main_v29 (ix4 b h r k)) = ix3 b h r from funext fun a => by
      match a with
      | ⟨0, _⟩ => rfl
      | ⟨1, _⟩ => rfl
      | ⟨2, _⟩ => rfl, hM]
    show Ideal.exp ((S k : EReal) - (M : EReal)) = _
    rw [← EReal.coe_sub, Ideal.exp_coe]
  have h34 : val_main_v34 (F := Ideal) x0 x1 x2 (ix3 b h r) = ((∑ k, Real.exp (S k - M) : ℝ) : EReal) := by
    rw [val_main_v34_apply]
    rw [show val_main_cst_7 (F := Ideal) (Shape.Idx.first h_S_) = (0 : EReal) from Ideal.ofBits_zero_f32, zero_add, coe_sum]
    refine Finset.sum_congr rfl fun k _ => Eq.trans (congrArg _ (funext fun a => ?_)) (h31 k)
    match a with
    | ⟨0, _⟩ => rfl
    | ⟨1, _⟩ => rfl
    | ⟨2, _⟩ => rfl
    | ⟨3, _⟩ => rfl
  refine ⟨M, fun k => ?_⟩
  rw [val_main_v40_apply, val_main_call5_v1_apply, ref_row9, select_one, val_main_v38_apply, h31, val_main_v37_apply, val_main_v36_apply,
    val_main_call4_v1_apply, ref_row3, select_one, val_main_v35_apply]
  rw [show idx_main_v35 (idx_main_v37 (ix4 b h r k)) = ix3 b h r from funext fun a => by
    match a with
    | ⟨0, _⟩ => rfl
    | ⟨1, _⟩ => rfl
    | ⟨2, _⟩ => rfl, h34]
  rfl

/-- The context: the weights times the values. -/
theorem ref_ctx (b : Fin 2) (r n : Fin 512) :
    val_main_v43 (F := Ideal) x0 x1 x2 x3 (ix3 b r n) = ∑ k : Fin 4096,
      x3 (ix4 b k (⟨n.val / 64, by omega⟩ : Fin 8) (⟨n.val % 64, by omega⟩ : Fin 64)) * val_main_v40 (F := Ideal) x0 x1 x2 (ix4 b (⟨n.val / 64, by omega⟩ : Fin 8) r k) := by
  rw [val_main_v43_apply, val_main_v42_apply, val_main_v41_apply]
  have e0 : ((b.val * 512 + r.val) * 512 + n.val) / 262144 = b.val := by omega
  have e1 : ((b.val * 512 + r.val) * 512 + n.val) / 512 % 512 = r.val := by omega
  have e2 : ((b.val * 512 + r.val) * 512 + n.val) / 64 % 8 = n.val / 64 := by omega
  have e3 : ((b.val * 512 + r.val) * 512 + n.val) % 64 = n.val % 64 := by omega
  refine Finset.sum_congr rfl fun k _ => ?_
  refine congrArg₂ (fun u v : EReal => u * v) (congrArg x3 (funext fun a => Fin.ext ?_)) (congrArg _ (funext fun a => Fin.ext ?_))
  · match a with
    | ⟨0, _⟩ => exact e0
    | ⟨1, _⟩ => rfl
    | ⟨2, _⟩ => exact e2
    | ⟨3, _⟩ => exact e3
  · match a with
    | ⟨0, _⟩ => exact e0
    | ⟨1, _⟩ => exact e2
    | ⟨2, _⟩ => exact e1
    | ⟨3, _⟩ => rfl

/-- The result: the context times `Wo`. -/
theorem ref_out (b : Fin 2) (r : Fin 512) (n : Fin 768) :
    val_main_v44 (F := Ideal) x0 x1 x2 x3 x4 (ix3 b r n) = ∑ k : Fin 512, val_main_v43 (F := Ideal) x0 x1 x2 x3 (ix3 b r k) * x4 (ix2 k n) := by
  rw [val_main_v44_apply]
  refine Finset.sum_congr rfl fun k _ => ?_
  refine congrArg₂ (fun u v : EReal => u * v) (congrArg _ (funext fun a => ?_)) (congrArg x4 (funext fun a => ?_))
  · match a with
    | ⟨0, _⟩ => rfl
    | ⟨1, _⟩ => rfl
    | ⟨2, _⟩ => rfl
  · match a with
    | ⟨0, _⟩ => rfl
    | ⟨1, _⟩ => rfl

end

end Cert.Attn

end
-- ==== Proof.Attn.Algebraic.lean ====
/-
# The kernel computes the reference's function

Over the extended reals, with `x`, `Wq` and `K` finite: each device's result is the reference's. The context of a row, head
and lane is on both sides the softmax-weighted sum of the values; the kernel sums it by device and key of the device, the
reference over all keys, and the shift of the exponentials does not matter.
-/
module

public import proofs.«01_k».proof.Proof.Attn.Frames
public import proofs.«01_k».proof.Proof.Attn.KCtx
public import proofs.«01_k».proof.Proof.Attn.RVals
public import proofs.«01_k».proof.Proof.Gen.ReferenceIdeal.Read

@[expose] public section

noncomputable section

set_option maxRecDepth 100000

namespace Cert.Attn

open Idealize Idealize.ShloMosaic Idealize.ShloMosaic.ValueIdx Cert.KernelIdeal
open scoped BigOperators

/-- The place among all keys of device `p`'s key `j`. -/
def gk (p : Dev nD) (j : Fin 512) : Fin 4096 := ⟨512 * p.val + j.val, by have := dev_lt p; omega⟩

/-- Every key is some device's. -/
theorem exists_gk (k : Fin 4096) : ∃ p j, gk p j = k :=
  ⟨⟨k.val / 512, by show _ < 8; omega⟩, ⟨k.val % 512, by omega⟩,
    Fin.ext (by show 512 * (k.val / 512) + k.val % 512 = k.val; omega)⟩

/-- A sum over all keys is the sum over the devices of the sums over their keys. -/
theorem sum_gk {A : Type} [AddCommMonoid A] (f : Fin 4096 → A) :
    ∑ k : Fin 4096, f k = ∑ p : Dev nD, ∑ j : Fin 512, f (gk p j) :=
  ((Equiv.sum_comp (finProdFinEquiv (m := 8) (n := 512)) f).symm.trans (Fintype.sum_prod_type _)).trans
    (Finset.sum_congr rfl fun p _ => Finset.sum_congr rfl fun j _ =>
      congrArg f (Fin.ext (by show j.val + 512 * p.val = 512 * p.val + j.val; omega)))

section Values

variable (I : Dev nD → Ins Ideal)
  (x0 : FVec Ideal Cert.ReferenceIdeal.S2x512x768 .f32) (x1 : FVec Ideal Cert.ReferenceIdeal.S768x512 .f32)
  (x2 x3 : FVec Ideal Cert.ReferenceIdeal.S2x4096x8x64 .f32) (x4 : FVec Ideal Cert.ReferenceIdeal.S512x768 .f32)

/-- The reference's score at device `p`'s key `j` is the kernel's. -/
theorem score_eq (ex : ∀ p, (I p).x = x0) (ew : ∀ p, (I p).wq = x1)
    (ek : ∀ p b j h d, (I p).k (ix4 b j h d) = x2 (ix4 b (gk p j) h d))
    (g b : Fin 2) (p : Dev nD) (i : Fin 4) (r j : Fin 512) :
    Cert.ReferenceIdeal.Read.val_main_v26 (F := Ideal) x0 x1 x2 (ix4 b (hd g i) r (gk p j))
      = scoreOf I g p b i (ix2 r j) := by
  rw [ref_score, scoreOf_at, ex p, ew p]
  simp only [ek]
  rfl

/-- The kernel's normalised context at a row, head and lane is the reference's. -/
theorem ctx_eq (ex : ∀ p, (I p).x = x0) (ew : ∀ p, (I p).wq = x1)
    (ek : ∀ p b j h d, (I p).k (ix4 b j h d) = x2 (ix4 b (gk p j) h d))
    (ev : ∀ p b j h d, (I p).v (ix4 b j h d) = x3 (ix4 b (gk p j) h d))
    (hs : ∀ (g b : Fin 2) (p : Dev nD) (i : Fin 4) (r j : Fin 512), IsReal (scoreOf I g p b i (ix2 r j)))
    (b : Fin 2) (r n : Fin 512) :
    ctxR I (colGrp n) (rowDev r) b (ix2 (rowIn r) (colIn n))
      = Cert.ReferenceIdeal.Read.val_main_v43 (F := Ideal) x0 x1 x2 x3 (ix3 b r n) := by
  obtain ⟨g, hg⟩ : ∃ g, g = colGrp n := ⟨_, rfl⟩
  obtain ⟨i, hi⟩ : ∃ i : Fin 4, i.val = n.val % 256 / 64 := ⟨⟨n.val % 256 / 64, by omega⟩, rfl⟩
  obtain ⟨d, hd'⟩ : ∃ d : Fin 64, d.val = n.val % 64 := ⟨⟨n.val % 64, by omega⟩, rfl⟩
  have hc : colIn n = dIx i d := Fin.ext (by show n.val % 256 = 64 * i.val + d.val; omega)
  have hh : (⟨n.val / 64, by omega⟩ : Fin 8) = hd g i :=
    Fin.ext (by subst hg; show n.val / 64 = 4 * (n.val / 256) + i.val; omega)
  have hl : (⟨n.val % 64, by omega⟩ : Fin 64) = d := Fin.ext hd'.symm
  have hR : ∀ k, ∃ s : ℝ, Cert.ReferenceIdeal.Read.val_main_v26 (F := Ideal) x0 x1 x2 (ix4 b (hd g i) r k) = (s : EReal) := by
    intro k
    obtain ⟨p, j, rfl⟩ := exists_gk k
    exact ⟨sR I g b i r p j, (score_eq I x0 x1 x2 ex ew ek g b p i r j).trans (sR_coe I hs g b i r p j).symm⟩
  choose S hS using hR
  have hSg : ∀ p j, S (gk p j) = sR I g b i r p j := fun p j =>
    EReal.coe_injective ((hS (gk p j)).symm.trans
      ((score_eq I x0 x1 x2 ex ew ek g b p i r j).trans (sR_coe I hs g b i r p j).symm))
  obtain ⟨M, hM⟩ := ref_weight (x0 := x0) (x1 := x1) (x2 := x2) hS
  have hden : (∑ k, Real.exp (S k - M)) = ∑ p : Dev nD, ∑ j : Fin 512, Real.exp (sR I g b i r p j - M) :=
    (sum_gk _).trans (Finset.sum_congr rfl fun p _ => Finset.sum_congr rfl fun j _ => by rw [hSg])
  rw [← hg, hc, ctxR_at I hs g b (rowDev r) (rowIn r) i d M, row_rowDev, ref_ctx, hh, hl]
  refine Eq.symm ((sum_gk _).trans (Finset.sum_congr rfl fun p _ => Finset.sum_congr rfl fun j _ => ?_))
  rw [hM, hden, hSg, mul_comm]
  exact congrArg _ (ev p b j (hd g i) d).symm

/-- Every device's result is the reference's. -/
theorem out_eq (ex : ∀ p, (I p).x = x0) (ew : ∀ p, (I p).wq = x1)
    (ek : ∀ p b j h d, (I p).k (ix4 b j h d) = x2 (ix4 b (gk p j) h d))
    (ev : ∀ p b j h d, (I p).v (ix4 b j h d) = x3 (ix4 b (gk p j) h d))
    (eo : ∀ p, (I p).wo = x4)
    (hs : ∀ (g b : Fin 2) (p : Dev nD) (i : Fin 4) (r j : Fin 512), IsReal (scoreOf I g p b i (ix2 r j)))
    (c : Dev nD) :
    OUT I c = Cert.ReferenceIdeal.Read.val_main_v44 (F := Ideal) x0 x1 x2 x3 x4 := by
  funext y
  rw [eq_ix3 y]
  refine (OUT_at I c (y 0) (y 1) (y 2)).trans (Eq.trans ?_ (ref_out x0 x1 x2 x3 x4 (y 0) (y 1) (y 2)).symm)
  refine Finset.sum_congr rfl fun k _ => ?_
  rw [eo c]
  exact congrArg (· * x4 (ix2 k (y 2))) (ctx_eq I x0 x1 x2 x3 ex ew ek ev hs (y 0) (y 1) k)

end Values

/-- An element whose absolute value compares below the word of infinity is a real number. -/
theorem isReal_of_cmp {x : EReal}
    (h : FloatOps.cmpf (F := Ideal) (φ := .f32) .olt (FloatOps.hostAbsf (F := Ideal) (φ := .f32) x)
      (FloatOps.ofBits (F := Ideal) .f32 0x7F800000#32) = 1#1) : IsReal x := by
  have e : FloatOps.ofBits (F := Ideal) .f32 0x7F800000#32 = (⊤ : EReal) := by
    show Ideal.ofBits _ _ = _
    simp [Ideal.ofBits, Ideal.ieee]
  rw [e] at h
  have h' : BitVec.ofBool (decide (max x (-x) < (⊤ : EReal))) = 1#1 := h
  by_cases hx : max x (-x) < (⊤ : EReal)
  · exact isReal_of_abs_lt hx
  · rw [decide_eq_false hx] at h'
    exact absurd h' (by decide)

/-- The precondition's side conditions, at one device's shapes and at the whole arrays'. -/
theorem pre_kernelIdeal_facts : Cert.Pre_finite_score_inputs_KernelIdeal.Facts :=
  ⟨by decide, by decide, by decide⟩
theorem pre_referenceIdeal_facts : Cert.Pre_finite_score_inputs_ReferenceIdeal.Facts :=
  ⟨by decide, by decide, by decide⟩

/-- The kernel's frame where its inputs are finite. -/
theorem frame_kernelIdeal_pre :
    haveI := pre_kernelIdeal_facts
    Cert.quiescent_KernelIdeal_pre_finite_score_inputs_KernelIdeal :=
  fun m ρ _ => frame_any (F := Ideal) m ρ

/-- The reference's frame where its inputs are finite. -/
theorem frame_referenceIdeal_pre :
    haveI := pre_referenceIdeal_facts
    Cert.quiescent_ReferenceIdeal_pre_finite_score_inputs_ReferenceIdeal :=
  fun m ρ _ => frame_referenceIdeal m ρ trivial

/-- Device `p`'s block of keys or values holds, at its key `j`, the whole array's row `512 p + j`. -/
theorem block_at (a : FVec Ideal Cert.ReferenceIdeal.S2x4096x8x64 .f32) (p : Dev nD) (b : Fin 2) (j : Fin 512) (h : Fin 8)
    (d : Fin 64) :
    (Layout.block ⟨4, ![2, 512, 8, 64]⟩ ⟨4, ![2, 4096, 8, 64]⟩ 1 8 p a) (ix4 b j h d) = a (ix4 b (gk p j) h d) := by
  rw [Layout.block_apply]
  refine congrArg a (funext fun q => Fin.ext ?_)
  rw [Layout.Tiles.idx_val]
  fin_cases q
  · rfl
  · show p.val * 512 + j.val = 512 * p.val + j.val
    omega
  · rfl
  · rfl

/-- THE VALUE CLAIM: where `x`, `Wq` and `K` are finite, each device's result is the reference's. -/
theorem algebraic :
    haveI := pre_kernelIdeal_facts
    Cert.algebraic_KernelIdeal_ReferenceIdeal_pre_finite_score_inputs_KernelIdeal := by
  intro m g m' g' hp hm
  have hs := score_real (insOf m) (fun p y => isReal_of_cmp (congrFun (hp p).1 y))
    (fun p y => isReal_of_cmp (congrFun (hp p).2.1 y)) (fun p y => isReal_of_cmp (congrFun (hp p).2.2 y))
  have hv := out_eq (insOf m) _ _
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    _ (fun p => (hm p).1) (fun p => (hm p).2.1)
    (fun p b j h d => (congrFun (hm p).2.2.1 (ix4 b j h d)).trans (block_at _ p b j h d))
    (fun p b j h d => (congrFun (hm p).2.2.2.1 (ix4 b j h d)).trans (block_at _ p b j h d))
    (fun p => (hm p).2.2.2.2) hs
  refine ⟨_, (θ_run Cert.KernelIdeal.defs _ _).mono
      (fun r h c => ⟨((h.1 c).2.2.2.2.2).trans (hv c), (h.1 c).1, (h.1 c).2.1, (h.1 c).2.2.1, (h.1 c).2.2.2.1,
        (h.1 c).2.2.2.2.1⟩) (run (F := Ideal) m g), ?_⟩
  refine (θ_run Cert.ReferenceIdeal.defs _ _).mono (fun r h => ?_) (Cert.ReferenceIdeal.Value.run (F := Ideal) m' g')
  exact ⟨(h 0).1.trans (Cert.ReferenceIdeal.Read.val_main_v44_eq m' 0), (h 0).2⟩

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Attn.pre_kernelIdeal_facts, Cert.Attn.pre_referenceIdeal_facts,
    Cert.Attn.frame_kernel, Cert.Attn.frame_kernelIdeal, Cert.Attn.frame_kernelIdeal_pre,
    Cert.Attn.frame_referenceIdeal, Cert.Attn.frame_referenceIdeal_pre, trivial, Cert.Attn.algebraic⟩

end Cert.Proof

end
